-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_ids_of_vectors [hKernelIdeal : Cert.KernelIdeal.Facts] [hReferenceIdeal : Cert.ReferenceIdeal.Facts] [hOn_ids_of_vectors : Cert.On_ids_of_vectors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 100000, 128]⟩ : Shape).Idx, (Cert.On_ids_of_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v7_0) i = v0 c i)
          ∧ (∀ i : (⟨3, ![2, 120, 128]⟩ : Shape).Idx, (Cert.On_ids_of_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v7_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 100000, 128]⟩ : Shape).Idx, (Cert.On_ids_of_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v57) i = v0 c i)
          ∧ (∀ i : (⟨3, ![2, 120, 128]⟩ : Shape).Idx, (Cert.On_ids_of_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v58) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_ids_of_vectors : Cert.On_ids_of_vectors.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_ids_of_vectors (hKernelIdeal := hKernelIdeal) (hReferenceIdeal := hReferenceIdeal) (hOn_ids_of_vectors := hOn_ids_of_vectors)
-- ==== On_ids_of_vectors.lean ====
abbrev S2x128x960 : Shape := ⟨3, ![2, 128, 960]⟩
abbrev S960 : Shape := ⟨1, ![960]⟩
abbrev S50000x960 : Shape := ⟨2, ![50000, 960]⟩
abbrev S100000 : Shape := ⟨1, ![100000]⟩
abbrev S100000x960 : Shape := ⟨2, ![100000, 960]⟩
abbrev S2x128x120 : Shape := ⟨3, ![2, 128, 120]⟩
abbrev S_ : Shape := ⟨0, ![]⟩
abbrev S2x100000x128 : Shape := ⟨3, ![2, 100000, 128]⟩
abbrev S2x120x128 : Shape := ⟨3, ![2, 120, 128]⟩

class Facts : Prop where
  bcast_S_S2x128x120 : S_.BroadcastsInDim S2x128x120 (![] : Fin 0 → Fin S2x128x120.rank)
  bcast_S_S2x100000x128 : S_.BroadcastsInDim S2x100000x128 (![] : Fin 0 → Fin S2x100000x128.rank)
  transposes_S2x128x120_S2x120x128_0_2_1 : S2x128x120.Transposes [0, 2, 1] S2x120x128

variable [Facts]

def fn {F : FTy → Type} [FloatOps F] (main_arg0 : FVec F S2x128x960 .bf16) (main_arg1 : FVec F S960 .f32) (main_arg2 : IVec S50000x960 8) (main_arg3 : FVec F S100000 .bf16) (main_arg4 : FVec F S100000 .bf16) (main_arg5 : IVec S100000x960 8) (main_arg6 : IVec S2x128x120 32) : IVec S2x100000x128 1 × IVec S2x120x128 1 :=
  let main_c : IVec S_ 32 := constantI S_ 32 0#32
  let main_v0 : IVec S2x128x120 32 := broadcastInDim S2x128x120 ![] bcast_S_S2x128x120 main_c
  let main_v1 : IVec S2x128x120 1 := cmpi .sge main_arg6 main_v0
  let main_c_0 : IVec S_ 32 := constantI S_ 32 100000#32
  let main_v2 : IVec S2x128x120 32 := broadcastInDim S2x128x120 ![] bcast_S_S2x128x120 main_c_0
  let main_v3 : IVec S2x128x120 1 := cmpi .slt main_arg6 main_v2
  let main_v4 : IVec S2x128x120 1 := andi main_v1 main_v3
  let main_c_1 : IVec S_ 1 := constantI S_ 1 1#1
  let main_v5 : IVec S2x100000x128 1 := broadcastInDim S2x100000x128 ![] bcast_S_S2x100000x128 main_c_1
  let main_v6 : IVec S2x120x128 1 := (transpose S2x120x128 [0, 2, 1] · transposes_S2x128x120_S2x120x128_0_2_1) main_v4
  (main_v5, main_v6)
-- ==== Kernel.lean ====
abbrev S2x128x960 : Shape := ⟨3, ![2, 128, 960]⟩
abbrev S960 : Shape := ⟨1, ![960]⟩
abbrev S50000x960 : Shape := ⟨2, ![50000, 960]⟩
abbrev S100000 : Shape := ⟨1, ![100000]⟩
abbrev S100000x960 : Shape := ⟨2, ![100000, 960]⟩
abbrev S2x128x120 : Shape := ⟨3, ![2, 128, 120]⟩
abbrev S2x960x128 : Shape := ⟨3, ![2, 960, 128]⟩
abbrev S1x960 : Shape := ⟨2, ![1, 960]⟩
abbrev S960x50000 : Shape := ⟨2, ![960, 50000]⟩
abbrev S960x100000 : Shape := ⟨2, ![960, 100000]⟩
abbrev S2x120x128 : Shape := ⟨3, ![2, 120, 128]⟩
abbrev S2x100000x128 : Shape := ⟨3, ![2, 100000, 128]⟩
abbrev S960x1024 : Shape := ⟨2, ![960, 1024]⟩
abbrev S2048 : Shape := ⟨1, ![2048]⟩
abbrev S960x2048 : Shape := ⟨2, ![960, 2048]⟩
abbrev S2x2048x128 : Shape := ⟨3, ![2, 2048, 128]⟩
abbrev S256x960 : Shape := ⟨2, ![256, 960]⟩
abbrev S256x128 : Shape := ⟨2, ![256, 128]⟩
abbrev S5x256x128 : Shape := ⟨3, ![5, 256, 128]⟩
abbrev S8x256x256 : Shape := ⟨3, ![8, 256, 256]⟩
abbrev S5x16x128 : Shape := ⟨3, ![5, 16, 128]⟩
abbrev S4x8x128 : Shape := ⟨3, ![4, 8, 128]⟩
abbrev S1x960x128 : Shape := ⟨3, ![1, 960, 128]⟩
abbrev S960x128 : Shape := ⟨2, ![960, 128]⟩
abbrev S128x960 : Shape := ⟨2, ![128, 960]⟩
abbrev S128 : Shape := ⟨1, ![128]⟩
abbrev S128x1 : Shape := ⟨2, ![128, 1]⟩
abbrev S128x128 : Shape := ⟨2, ![128, 128]⟩
abbrev S1x120x128 : Shape := ⟨3, ![1, 120, 128]⟩
abbrev S120x128 : Shape := ⟨2, ![120, 128]⟩
abbrev S8x128 : Shape := ⟨2, ![8, 128]⟩
abbrev S1x128x128 : Shape := ⟨3, ![1, 128, 128]⟩
abbrev S960x256 : Shape := ⟨2, ![960, 256]⟩
abbrev S256x256 : Shape := ⟨2, ![256, 256]⟩
abbrev S1x256x256 : Shape := ⟨3, ![1, 256, 256]⟩
abbrev S16x128 : Shape := ⟨2, ![16, 128]⟩
abbrev S8x128x1 : Shape := ⟨3, ![8, 128, 1]⟩
abbrev S1x8x128 : Shape := ⟨3, ![1, 8, 128]⟩
abbrev S1x16x128 : Shape := ⟨3, ![1, 16, 128]⟩
abbrev S1x1x128 : Shape := ⟨3, ![1, 1, 128]⟩
abbrev S1x128 : Shape := ⟨2, ![1, 128]⟩

abbrev nBuf : Space → Nat
  | .hbm => 16
  | .vmem => 26
  | .smem => 0
  | _ => 0

abbrev bufTy : (tb : Table) → Fin (tcTables nBuf tb) → BufTy
  | .hbm, ⟨0, _⟩ => ⟨S2x128x960, .bf16⟩
  | .hbm, ⟨1, _⟩ => ⟨S960, .f32⟩
  | .hbm, ⟨2, _⟩ => ⟨S50000x960, .i8⟩
  | .hbm, ⟨3, _⟩ => ⟨S100000, .bf16⟩
  | .hbm, ⟨4, _⟩ => ⟨S100000, .bf16⟩
  | .hbm, ⟨5, _⟩ => ⟨S100000x960, .i8⟩
  | .hbm, ⟨6, _⟩ => ⟨S2x128x120, .i32⟩
  | .hbm, ⟨7, _⟩ => ⟨S2x960x128, .bf16⟩
  | .hbm, ⟨8, _⟩ => ⟨S1x960, .f32⟩
  | .hbm, ⟨9, _⟩ => ⟨S960x50000, .i8⟩
  | .hbm, ⟨10, _⟩ => ⟨S100000, .f32⟩
  | .hbm, ⟨11, _⟩ => ⟨S100000, .f32⟩
  | .hbm, ⟨12, _⟩ => ⟨S960x100000, .i8⟩
  | .hbm, ⟨13, _⟩ => ⟨S2x120x128, .i32⟩
  | .hbm, ⟨14, _⟩ => ⟨S2x100000x128, .f32⟩
  | .hbm, ⟨15, _⟩ => ⟨S2x120x128, .f32⟩
  | .local _ .vmem, ⟨0, _⟩ => ⟨S2x960x128, .bf16⟩
  | .local _ .vmem, ⟨1, _⟩ => ⟨S1x960, .f32⟩
  | .local _ .vmem, ⟨2, _⟩ => ⟨S960x1024, .i8⟩
  | .local _ .vmem, ⟨3, _⟩ => ⟨S960x1024, .i8⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S960x2048, .i8⟩
  | .local _ .vmem, ⟨9, _⟩ => ⟨S960x2048, .i8⟩
  | .local _ .vmem, ⟨10, _⟩ => ⟨S2x120x128, .i32⟩
  | .local _ .vmem, ⟨11, _⟩ => ⟨S2x2048x128, .f32⟩
  | .local _ .vmem, ⟨12, _⟩ => ⟨S2x2048x128, .f32⟩
  | .local _ .vmem, ⟨13, _⟩ => ⟨S2x120x128, .f32⟩
  | .local _ .vmem, ⟨14, _⟩ => ⟨S256x960, .bf16⟩
  | .local _ .vmem, ⟨15, _⟩ => ⟨S256x128, .f32⟩
  | .local _ .vmem, ⟨16, _⟩ => ⟨S256x128, .f32⟩
  | .local _ .vmem, ⟨17, _⟩ => ⟨S5x256x128, .i32⟩
  | .local _ .vmem, ⟨18, _⟩ => ⟨S256x128, .f32⟩
  | .local _ .vmem, ⟨19, _⟩ => ⟨S256x128, .f32⟩
  | .local _ .vmem, ⟨20, _⟩ => ⟨S8x256x256, .f32⟩
  | .local _ .vmem, ⟨21, _⟩ => ⟨S8x256x256, .f32⟩
  | .local _ .vmem, ⟨22, _⟩ => ⟨S8x256x256, .f32⟩
  | .local _ .vmem, ⟨23, _⟩ => ⟨S8x256x256, .f32⟩
  | .local _ .vmem, ⟨24, _⟩ => ⟨S5x16x128, .f32⟩
  | .local _ .vmem, ⟨25, _⟩ => ⟨S4x8x128, .f32⟩
  | _, _ => ⟨S2x128x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c49_i32 : BitVec 32 := 49#32
  let v4 : BitVec 1 := Scalar.cmpi .slt arg0 c49_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

@[reducible] def k0_t1_loop : Scf.Loop 32 :=
  let c0_i32_204 : BitVec 32 := 0#32
  let c32_i32 : BitVec 32 := 32#32
  let v368 : BitVec 32 := Scalar.addi c0_i32_204 c32_i32
  let c1_i32_205 : BitVec 32 := 1#32
  ⟨c0_i32_204, v368, c1_i32_205⟩
def k0_mult1 (k0_t1 : Fin k0_t1_loop.trips) : BitVec 32 :=
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  v561
def k0_off1 (k0_t1 : Fin k0_t1_loop.trips) : Fin 2 → Nat :=
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v563 : Index := Scalar.indexCast v562
  let c0_392 : Index := 0#32
  ![v563.toNat, 0]
def k0_off2 (k0_t1 : Fin k0_t1_loop.trips) : Fin 3 → Nat :=
  let c0_395 : Index := 0#32
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v569 : Index := Scalar.indexCast v562
  let c0_396 : Index := 0#32
  ![0, v569.toNat, 0]
def k0_off3 (k0_t1 : Fin k0_t1_loop.trips) : Fin 3 → Nat :=
  let c1_397 : Index := 1#32
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v572 : Index := Scalar.indexCast v562
  let c0_398 : Index := 0#32
  ![1, v572.toNat, 0]
def k0_off4 (k0_t1 : Fin k0_t1_loop.trips) : Fin 3 → Nat :=
  let c2_399 : Index := 2#32
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v575 : Index := Scalar.indexCast v562
  let c0_400 : Index := 0#32
  ![2, v575.toNat, 0]
def k0_off5 (k0_t1 : Fin k0_t1_loop.trips) : Fin 3 → Nat :=
  let c3_401 : Index := 3#32
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v578 : Index := Scalar.indexCast v562
  let c0_402 : Index := 0#32
  ![3, v578.toNat, 0]
def k0_off6 (k0_t1 : Fin k0_t1_loop.trips) : Fin 3 → Nat :=
  let c4_403 : Index := 4#32
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v581 : Index := Scalar.indexCast v562
  let c0_404 : Index := 0#32
  ![4, v581.toNat, 0]
@[reducible] def k0_t2_loop : Scf.Loop 32 :=
  let c0_i32_406 : BitVec 32 := 0#32
  let c8_i32_407 : BitVec 32 := 8#32
  let v586 : BitVec 32 := Scalar.addi c0_i32_406 c8_i32_407
  let c1_i32_408 : BitVec 32 := 1#32
  ⟨c0_i32_406, v586, c1_i32_408⟩
def k0_off7 (k0_t2 : Fin k0_t2_loop.trips) : Fin 3 → Nat :=
  let c0_418 : Index := 0#32
  let c0_i32_406 : BitVec 32 := 0#32
  let c1_i32_408 : BitVec 32 := 1#32
  let arg23 : BitVec 32 := Scf.iv c0_i32_406 c1_i32_408 k0_t2
  let v602 : Index := Scalar.indexCast arg23
  let c0_419 : Index := 0#32
  ![0, v602.toNat, 0]
def k0_off8 (k0_t2 : Fin k0_t2_loop.trips) : Fin 3 → Nat :=
  let c2_420 : Index := 2#32
  let c0_i32_406 : BitVec 32 := 0#32
  let c1_i32_408 : BitVec 32 := 1#32
  let arg23 : BitVec 32 := Scf.iv c0_i32_406 c1_i32_408 k0_t2
  let v605 : Index := Scalar.indexCast arg23
  let c0_421 : Index := 0#32
  ![2, v605.toNat, 0]
def k0_off9 (k0_t1 : Fin k0_t1_loop.trips) (k0_t2 : Fin k0_t2_loop.trips) : Fin 3 → Nat :=
  let c0_i32_406 : BitVec 32 := 0#32
  let c1_i32_408 : BitVec 32 := 1#32
  let arg23 : BitVec 32 := Scf.iv c0_i32_406 c1_i32_408 k0_t2
  let v611 : Index := Scalar.indexCast arg23
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v612 : Index := Scalar.indexCast v562
  let c0_422 : Index := 0#32
  ![v611.toNat, v612.toNat, 0]
def k0_off10 (k0_t2 : Fin k0_t2_loop.trips) : Fin 3 → Nat :=
  let c1_426 : Index := 1#32
  let c0_i32_406 : BitVec 32 := 0#32
  let c1_i32_408 : BitVec 32 := 1#32
  let arg23 : BitVec 32 := Scf.iv c0_i32_406 c1_i32_408 k0_t2
  let v634 : Index := Scalar.indexCast arg23
  let c0_427 : Index := 0#32
  ![1, v634.toNat, 0]
def k0_off11 (k0_t2 : Fin k0_t2_loop.trips) : Fin 3 → Nat :=
  let c3_428 : Index := 3#32
  let c0_i32_406 : BitVec 32 := 0#32
  let c1_i32_408 : BitVec 32 := 1#32
  let arg23 : BitVec 32 := Scf.iv c0_i32_406 c1_i32_408 k0_t2
  let v637 : Index := Scalar.indexCast arg23
  let c0_429 : Index := 0#32
  ![3, v637.toNat, 0]
def k0_off12 (k0_t1 : Fin k0_t1_loop.trips) (k0_t2 : Fin k0_t2_loop.trips) : Fin 3 → Nat :=
  let c0_i32_406 : BitVec 32 := 0#32
  let c1_i32_408 : BitVec 32 := 1#32
  let arg23 : BitVec 32 := Scf.iv c0_i32_406 c1_i32_408 k0_t2
  let v643 : Index := Scalar.indexCast arg23
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v644 : Index := Scalar.indexCast v562
  let c128_430 : Index := 128#32
  ![v643.toNat, v644.toNat, 128]
@[reducible] def k0_t3_loop : Scf.Loop 32 :=
  let c0_i32_412 : BitVec 32 := 0#32
  let c8_i32_413 : BitVec 32 := 8#32
  let v594 : BitVec 32 := Scalar.addi c0_i32_412 c8_i32_413
  let c1_i32_414 : BitVec 32 := 1#32
  ⟨c0_i32_412, v594, c1_i32_414⟩
def k0_off13 (k0_t3 : Fin k0_t3_loop.trips) (c0_i32_419 : BitVec 32) : Fin 3 → Nat :=
  let c4_420 : Index := 4#32
  let c2_i32_418 : BitVec 32 := 2#32
  let c0_i32_412 : BitVec 32 := 0#32
  let c1_i32_414 : BitVec 32 := 1#32
  let arg23 : BitVec 32 := Scf.iv c0_i32_412 c1_i32_414 k0_t3
  let v602 : BitVec 32 := Scalar.muli c2_i32_418 arg23
  let v603 : BitVec 32 := Scalar.addi v602 c0_i32_419
  let v604 : Index := Scalar.indexCast v603
  let c0_421 : Index := 0#32
  ![4, v604.toNat, 0]
def k0_off14 (k0_t1 : Fin k0_t1_loop.trips) (k0_t3 : Fin k0_t3_loop.trips) : Fin 3 → Nat :=
  let c0_i32_412 : BitVec 32 := 0#32
  let c1_i32_414 : BitVec 32 := 1#32
  let arg23 : BitVec 32 := Scf.iv c0_i32_412 c1_i32_414 k0_t3
  let v607 : Index := Scalar.indexCast arg23
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v608 : Index := Scalar.indexCast v562
  let c0_422 : Index := 0#32
  ![v607.toNat, v608.toNat, 0]
def k0_off15 (k0_t1 : Fin k0_t1_loop.trips) (k0_t3 : Fin k0_t3_loop.trips) : Fin 3 → Nat :=
  let c0_i32_412 : BitVec 32 := 0#32
  let c1_i32_414 : BitVec 32 := 1#32
  let arg23 : BitVec 32 := Scf.iv c0_i32_412 c1_i32_414 k0_t3
  let v632 : Index := Scalar.indexCast arg23
  let c0_i32_204 : BitVec 32 := 0#32
  let c1_i32_205 : BitVec 32 := 1#32
  let arg22 : BitVec 32 := Scf.iv c0_i32_204 c1_i32_205 k0_t1
  let c8_i32 : BitVec 32 := 8#32
  let v561 : BitVec 32 := Scalar.muli arg22 c8_i32
  let v562 : BitVec 32 := v561
  let v633 : Index := Scalar.indexCast v562
  let c128_431 : Index := 128#32
  ![v632.toNat, v633.toNat, 128]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c49_i32_9 : BitVec 32 := 49#32
  let v21 : BitVec 1 := Scalar.cmpi .slt arg0 c49_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

@[reducible] def k0_t4_loop : Scf.Loop 32 :=
  let c0_i32_204 : BitVec 32 := 0#32
  let c32_i32 : BitVec 32 := 32#32
  let v368 : BitVec 32 := Scalar.addi c0_i32_204 c32_i32
  let c1_i32_205 : BitVec 32 := 1#32
  ⟨c0_i32_204, v368, c1_i32_205⟩
def k0_mult2 (k0_t4 : Fin k0_t4_loop.trips) : BitVec 32 :=
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  v561
def k0_off16 (k0_t4 : Fin k0_t4_loop.trips) : Fin 2 → Nat :=
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v563 : Index := Scalar.indexCast v562
  let c0_392 : Index := 0#32
  ![v563.toNat, 0]
def k0_off17 (k0_t4 : Fin k0_t4_loop.trips) : Fin 3 → Nat :=
  let c0_395 : Index := 0#32
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v569 : Index := Scalar.indexCast v562
  let c0_396 : Index := 0#32
  ![0, v569.toNat, 0]
def k0_off18 (k0_t4 : Fin k0_t4_loop.trips) : Fin 3 → Nat :=
  let c1_397 : Index := 1#32
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v572 : Index := Scalar.indexCast v562
  let c0_398 : Index := 0#32
  ![1, v572.toNat, 0]
def k0_off19 (k0_t4 : Fin k0_t4_loop.trips) : Fin 3 → Nat :=
  let c2_399 : Index := 2#32
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v575 : Index := Scalar.indexCast v562
  let c0_400 : Index := 0#32
  ![2, v575.toNat, 0]
def k0_off20 (k0_t4 : Fin k0_t4_loop.trips) : Fin 3 → Nat :=
  let c3_401 : Index := 3#32
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v578 : Index := Scalar.indexCast v562
  let c0_402 : Index := 0#32
  ![3, v578.toNat, 0]
def k0_off21 (k0_t4 : Fin k0_t4_loop.trips) : Fin 3 → Nat :=
  let c4_403 : Index := 4#32
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v581 : Index := Scalar.indexCast v562
  let c0_404 : Index := 0#32
  ![4, v581.toNat, 0]
@[reducible] def k0_t5_loop : Scf.Loop 32 :=
  let c0_i32_406 : BitVec 32 := 0#32
  let c8_i32_407 : BitVec 32 := 8#32
  let v586 : BitVec 32 := Scalar.addi c0_i32_406 c8_i32_407
  let c1_i32_408 : BitVec 32 := 1#32
  ⟨c0_i32_406, v586, c1_i32_408⟩
def k0_off22 (k0_t5 : Fin k0_t5_loop.trips) : Fin 3 → Nat :=
  let c0_418 : Index := 0#32
  let c0_i32_406 : BitVec 32 := 0#32
  let c1_i32_408 : BitVec 32 := 1#32
  let arg23 : BitVec 32 := Scf.iv c0_i32_406 c1_i32_408 k0_t5
  let v602 : Index := Scalar.indexCast arg23
  let c0_419 : Index := 0#32
  ![0, v602.toNat, 0]
def k0_off23 (k0_t5 : Fin k0_t5_loop.trips) : Fin 3 → Nat :=
  let c2_420 : Index := 2#32
  let c0_i32_406 : BitVec 32 := 0#32
  let c1_i32_408 : BitVec 32 := 1#32
  let arg23 : BitVec 32 := Scf.iv c0_i32_406 c1_i32_408 k0_t5
  let v605 : Index := Scalar.indexCast arg23
  let c0_421 : Index := 0#32
  ![2, v605.toNat, 0]
def k0_off24 (k0_t4 : Fin k0_t4_loop.trips) (k0_t5 : Fin k0_t5_loop.trips) : Fin 3 → Nat :=
  let c0_i32_406 : BitVec 32 := 0#32
  let c1_i32_408 : BitVec 32 := 1#32
  let arg23 : BitVec 32 := Scf.iv c0_i32_406 c1_i32_408 k0_t5
  let v611 : Index := Scalar.indexCast arg23
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v612 : Index := Scalar.indexCast v562
  let c0_422 : Index := 0#32
  ![v611.toNat, v612.toNat, 0]
def k0_off25 (k0_t5 : Fin k0_t5_loop.trips) : Fin 3 → Nat :=
  let c1_426 : Index := 1#32
  let c0_i32_406 : BitVec 32 := 0#32
  let c1_i32_408 : BitVec 32 := 1#32
  let arg23 : BitVec 32 := Scf.iv c0_i32_406 c1_i32_408 k0_t5
  let v634 : Index := Scalar.indexCast arg23
  let c0_427 : Index := 0#32
  ![1, v634.toNat, 0]
def k0_off26 (k0_t5 : Fin k0_t5_loop.trips) : Fin 3 → Nat :=
  let c3_428 : Index := 3#32
  let c0_i32_406 : BitVec 32 := 0#32
  let c1_i32_408 : BitVec 32 := 1#32
  let arg23 : BitVec 32 := Scf.iv c0_i32_406 c1_i32_408 k0_t5
  let v637 : Index := Scalar.indexCast arg23
  let c0_429 : Index := 0#32
  ![3, v637.toNat, 0]
def k0_off27 (k0_t4 : Fin k0_t4_loop.trips) (k0_t5 : Fin k0_t5_loop.trips) : Fin 3 → Nat :=
  let c0_i32_406 : BitVec 32 := 0#32
  let c1_i32_408 : BitVec 32 := 1#32
  let arg23 : BitVec 32 := Scf.iv c0_i32_406 c1_i32_408 k0_t5
  let v643 : Index := Scalar.indexCast arg23
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v644 : Index := Scalar.indexCast v562
  let c128_430 : Index := 128#32
  ![v643.toNat, v644.toNat, 128]
@[reducible] def k0_t6_loop : Scf.Loop 32 :=
  let c0_i32_412 : BitVec 32 := 0#32
  let c8_i32_413 : BitVec 32 := 8#32
  let v594 : BitVec 32 := Scalar.addi c0_i32_412 c8_i32_413
  let c1_i32_414 : BitVec 32 := 1#32
  ⟨c0_i32_412, v594, c1_i32_414⟩
def k0_off28 (k0_t6 : Fin k0_t6_loop.trips) (c0_i32_419 : BitVec 32) : Fin 3 → Nat :=
  let c4_420 : Index := 4#32
  let c2_i32_418 : BitVec 32 := 2#32
  let c0_i32_412 : BitVec 32 := 0#32
  let c1_i32_414 : BitVec 32 := 1#32
  let arg23 : BitVec 32 := Scf.iv c0_i32_412 c1_i32_414 k0_t6
  let v602 : BitVec 32 := Scalar.muli c2_i32_418 arg23
  let v603 : BitVec 32 := Scalar.addi v602 c0_i32_419
  let v604 : Index := Scalar.indexCast v603
  let c0_421 : Index := 0#32
  ![4, v604.toNat, 0]
def k0_off29 (k0_t4 : Fin k0_t4_loop.trips) (k0_t6 : Fin k0_t6_loop.trips) : Fin 3 → Nat :=
  let c0_i32_412 : BitVec 32 := 0#32
  let c1_i32_414 : BitVec 32 := 1#32
  let arg23 : BitVec 32 := Scf.iv c0_i32_412 c1_i32_414 k0_t6
  let v607 : Index := Scalar.indexCast arg23
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v608 : Index := Scalar.indexCast v562
  let c0_422 : Index := 0#32
  ![v607.toNat, v608.toNat, 0]
def k0_off30 (k0_t4 : Fin k0_t4_loop.trips) (k0_t6 : Fin k0_t6_loop.trips) : Fin 3 → Nat :=
  let c0_i32_412 : BitVec 32 := 0#32
  let c1_i32_414 : BitVec 32 := 1#32
  let arg23 : BitVec 32 := Scf.iv c0_i32_412 c1_i32_414 k0_t6
  let v632 : Index := Scalar.indexCast arg23
  let c0_i32_204 : BitVec 32 := 0#32
  let c1_i32_205 : BitVec 32 := 1#32
  let arg22 : BitVec 32 := Scf.iv c0_i32_204 c1_i32_205 k0_t4
  let c8_i32 : BitVec 32 := 8#32
  let v561 : BitVec 32 := Scalar.muli arg22 c8_i32
  let v562 : BitVec 32 := v561
  let v633 : Index := Scalar.indexCast v562
  let c128_431 : Index := 128#32
  ![v632.toNat, v633.toNat, 128]
def k0_cond4 (i : grid0.Coords) : BitVec 1 :=
  let arg0 : BitVec 32 := BitVec.ofNat 32 (i 0).val
  let c49_i32_18 : BitVec 32 := 49#32
  let v37 : BitVec 1 := Scalar.cmpi .eq arg0 c49_i32_18
  let v38 : BitVec 32 := Scalar.extui v37
  let c0_i32_19 : BitVec 32 := 0#32
  let v39 : BitVec 1 := Scalar.cmpi .ne v38 c0_i32_19
  v39

@[reducible] def k0_t7_loop : Scf.Loop 32 :=
  let c0_i32_106 : BitVec 32 := 0#32
  let c32_i32 : BitVec 32 := 32#32
  let v207 : BitVec 32 := Scalar.addi c0_i32_106 c32_i32
  let c1_i32_107 : BitVec 32 := 1#32
  ⟨c0_i32_106, v207, c1_i32_107⟩
def k0_mult3 (k0_t7 : Fin k0_t7_loop.trips) : BitVec 32 :=
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  v417
def k0_off31 (k0_t7 : Fin k0_t7_loop.trips) : Fin 2 → Nat :=
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v419 : Index := Scalar.indexCast v418
  let c0_294 : Index := 0#32
  ![v419.toNat, 0]
def k0_off32 (k0_t7 : Fin k0_t7_loop.trips) : Fin 3 → Nat :=
  let c0_297 : Index := 0#32
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v425 : Index := Scalar.indexCast v418
  let c0_298 : Index := 0#32
  ![0, v425.toNat, 0]
def k0_off33 (k0_t7 : Fin k0_t7_loop.trips) : Fin 3 → Nat :=
  let c1_299 : Index := 1#32
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v428 : Index := Scalar.indexCast v418
  let c0_300 : Index := 0#32
  ![1, v428.toNat, 0]
def k0_off34 (k0_t7 : Fin k0_t7_loop.trips) : Fin 3 → Nat :=
  let c2_301 : Index := 2#32
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v431 : Index := Scalar.indexCast v418
  let c0_302 : Index := 0#32
  ![2, v431.toNat, 0]
def k0_off35 (k0_t7 : Fin k0_t7_loop.trips) : Fin 3 → Nat :=
  let c3_303 : Index := 3#32
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v434 : Index := Scalar.indexCast v418
  let c0_304 : Index := 0#32
  ![3, v434.toNat, 0]
def k0_off36 (k0_t7 : Fin k0_t7_loop.trips) : Fin 3 → Nat :=
  let c4_305 : Index := 4#32
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v437 : Index := Scalar.indexCast v418
  let c0_306 : Index := 0#32
  ![4, v437.toNat, 0]
@[reducible] def k0_t8_loop : Scf.Loop 32 :=
  let c0_i32_308 : BitVec 32 := 0#32
  let c8_i32_309 : BitVec 32 := 8#32
  let v442 : BitVec 32 := Scalar.addi c0_i32_308 c8_i32_309
  let c1_i32_310 : BitVec 32 := 1#32
  ⟨c0_i32_308, v442, c1_i32_310⟩
def k0_off37 (k0_t8 : Fin k0_t8_loop.trips) : Fin 3 → Nat :=
  let c0_320 : Index := 0#32
  let c0_i32_308 : BitVec 32 := 0#32
  let c1_i32_310 : BitVec 32 := 1#32
  let arg23 : BitVec 32 := Scf.iv c0_i32_308 c1_i32_310 k0_t8
  let v458 : Index := Scalar.indexCast arg23
  let c0_321 : Index := 0#32
  ![0, v458.toNat, 0]
def k0_off38 (k0_t8 : Fin k0_t8_loop.trips) : Fin 3 → Nat :=
  let c2_322 : Index := 2#32
  let c0_i32_308 : BitVec 32 := 0#32
  let c1_i32_310 : BitVec 32 := 1#32
  let arg23 : BitVec 32 := Scf.iv c0_i32_308 c1_i32_310 k0_t8
  let v461 : Index := Scalar.indexCast arg23
  let c0_323 : Index := 0#32
  ![2, v461.toNat, 0]
def k0_off39 (k0_t7 : Fin k0_t7_loop.trips) (k0_t8 : Fin k0_t8_loop.trips) : Fin 3 → Nat :=
  let c0_i32_308 : BitVec 32 := 0#32
  let c1_i32_310 : BitVec 32 := 1#32
  let arg23 : BitVec 32 := Scf.iv c0_i32_308 c1_i32_310 k0_t8
  let v467 : Index := Scalar.indexCast arg23
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v468 : Index := Scalar.indexCast v418
  let c0_324 : Index := 0#32
  ![v467.toNat, v468.toNat, 0]
def k0_off40 (k0_t8 : Fin k0_t8_loop.trips) : Fin 3 → Nat :=
  let c1_328 : Index := 1#32
  let c0_i32_308 : BitVec 32 := 0#32
  let c1_i32_310 : BitVec 32 := 1#32
  let arg23 : BitVec 32 := Scf.iv c0_i32_308 c1_i32_310 k0_t8
  let v490 : Index := Scalar.indexCast arg23
  let c0_329 : Index := 0#32
  ![1, v490.toNat, 0]
def k0_off41 (k0_t8 : Fin k0_t8_loop.trips) : Fin 3 → Nat :=
  let c3_330 : Index := 3#32
  let c0_i32_308 : BitVec 32 := 0#32
  let c1_i32_310 : BitVec 32 := 1#32
  let arg23 : BitVec 32 := Scf.iv c0_i32_308 c1_i32_310 k0_t8
  let v493 : Index := Scalar.indexCast arg23
  let c0_331 : Index := 0#32
  ![3, v493.toNat, 0]
def k0_off42 (k0_t7 : Fin k0_t7_loop.trips) (k0_t8 : Fin k0_t8_loop.trips) : Fin 3 → Nat :=
  let c0_i32_308 : BitVec 32 := 0#32
  let c1_i32_310 : BitVec 32 := 1#32
  let arg23 : BitVec 32 := Scf.iv c0_i32_308 c1_i32_310 k0_t8
  let v499 : Index := Scalar.indexCast arg23
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v500 : Index := Scalar.indexCast v418
  let c128_332 : Index := 128#32
  ![v499.toNat, v500.toNat, 128]
@[reducible] def k0_t9_loop : Scf.Loop 32 :=
  let c0_i32_314 : BitVec 32 := 0#32
  let c8_i32_315 : BitVec 32 := 8#32
  let v450 : BitVec 32 := Scalar.addi c0_i32_314 c8_i32_315
  let c1_i32_316 : BitVec 32 := 1#32
  ⟨c0_i32_314, v450, c1_i32_316⟩
def k0_off43 (k0_t9 : Fin k0_t9_loop.trips) (c0_i32_321 : BitVec 32) : Fin 3 → Nat :=
  let c4_322 : Index := 4#32
  let c2_i32_320 : BitVec 32 := 2#32
  let c0_i32_314 : BitVec 32 := 0#32
  let c1_i32_316 : BitVec 32 := 1#32
  let arg23 : BitVec 32 := Scf.iv c0_i32_314 c1_i32_316 k0_t9
  let v458 : BitVec 32 := Scalar.muli c2_i32_320 arg23
  let v459 : BitVec 32 := Scalar.addi v458 c0_i32_321
  let v460 : Index := Scalar.indexCast v459
  let c0_323 : Index := 0#32
  ![4, v460.toNat, 0]
def k0_off44 (k0_t7 : Fin k0_t7_loop.trips) (k0_t9 : Fin k0_t9_loop.trips) : Fin 3 → Nat :=
  let c0_i32_314 : BitVec 32 := 0#32
  let c1_i32_316 : BitVec 32 := 1#32
  let arg23 : BitVec 32 := Scf.iv c0_i32_314 c1_i32_316 k0_t9
  let v463 : Index := Scalar.indexCast arg23
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v464 : Index := Scalar.indexCast v418
  let c0_324 : Index := 0#32
  ![v463.toNat, v464.toNat, 0]
def k0_off45 (k0_t7 : Fin k0_t7_loop.trips) (k0_t9 : Fin k0_t9_loop.trips) : Fin 3 → Nat :=
  let c0_i32_314 : BitVec 32 := 0#32
  let c1_i32_316 : BitVec 32 := 1#32
  let arg23 : BitVec 32 := Scf.iv c0_i32_314 c1_i32_316 k0_t9
  let v488 : Index := Scalar.indexCast arg23
  let c0_i32_106 : BitVec 32 := 0#32
  let c1_i32_107 : BitVec 32 := 1#32
  let arg22 : BitVec 32 := Scf.iv c0_i32_106 c1_i32_107 k0_t7
  let c8_i32 : BitVec 32 := 8#32
  let v417 : BitVec 32 := Scalar.muli arg22 c8_i32
  let v418 : BitVec 32 := v417
  let v489 : Index := Scalar.indexCast v418
  let c128_333 : Index := 128#32
  ![v488.toNat, v489.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c48_i32 : BitVec 32 := 48#32
  let v0 : BitVec 32 := Scalar.minsi arg0 c48_i32
  let c0_i32 : BitVec 32 := 0#32
  let c0_i32_0 : BitVec 32 := 0#32
  ![c0_i32.toNat, v0.toNat]

def cc0_transform_3 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc0_transform_4 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc0_transform_5 (i : grid0.Coords) : Fin 2 → Nat :=
  let arg0 : BitVec 32 := BitVec.ofNat 32 (i 0).val
  let c48_i32 : BitVec 32 := 48#32
  let v0 : BitVec 32 := Scalar.minsi arg0 c48_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x960x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S960x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S960x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x120x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x120x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x128x960 : Shape := ⟨3, ![2, 128, 960]⟩
abbrev S960 : Shape := ⟨1, ![960]⟩
abbrev S50000x960 : Shape := ⟨2, ![50000, 960]⟩
abbrev S100000 : Shape := ⟨1, ![100000]⟩
abbrev S100000x960 : Shape := ⟨2, ![100000, 960]⟩
abbrev S2x128x120 : Shape := ⟨3, ![2, 128, 120]⟩
abbrev S_ : Shape := ⟨0, ![]⟩
abbrev S2x128 : Shape := ⟨2, ![2, 128]⟩
abbrev S2x128x50000 : Shape := ⟨3, ![2, 128, 50000]⟩
abbrev S2x128x50000x1 : Shape := ⟨4, ![2, 128, 50000, 1]⟩
abbrev S2x128x50000x2 : Shape := ⟨4, ![2, 128, 50000, 2]⟩
abbrev S2x128x100000 : Shape := ⟨3, ![2, 128, 100000]⟩
abbrev S2x128x1 : Shape := ⟨3, ![2, 128, 1]⟩
abbrev S1x1x100000 : Shape := ⟨3, ![1, 1, 100000]⟩
abbrev S2x128x120x1 : Shape := ⟨4, ![2, 128, 120, 1]⟩
abbrev S1 : Shape := ⟨1, ![1]⟩
abbrev S1x1x1x1 : Shape := ⟨4, ![1, 1, 1, 1]⟩
abbrev S2x128x120x960 : Shape := ⟨4, ![2, 128, 120, 960]⟩
abbrev S2x100000x128 : Shape := ⟨3, ![2, 100000, 128]⟩
abbrev S2x120x128 : Shape := ⟨3, ![2, 120, 128]⟩

abbrev nBuf : Space → Nat
  | .hbm => 96
  | .vmem => 0
  | .smem => 0
  | _ => 0

abbrev bufTy : (tb : Table) → Fin (tcTables nBuf tb) → BufTy
  | .hbm, ⟨0, _⟩ => ⟨S2x128x960, .bf16⟩
  | .hbm, ⟨1, _⟩ => ⟨S960, .f32⟩
  | .hbm, ⟨2, _⟩ => ⟨S50000x960, .i8⟩
  | .hbm, ⟨3, _⟩ => ⟨S100000, .bf16⟩
  | .hbm, ⟨4, _⟩ => ⟨S100000, .bf16⟩
  | .hbm, ⟨5, _⟩ => ⟨S100000x960, .i8⟩
  | .hbm, ⟨6, _⟩ => ⟨S2x128x120, .i32⟩
  | .hbm, ⟨7, _⟩ => ⟨S2x128x960, .f32⟩
  | .hbm, ⟨8, _⟩ => ⟨S_, .f32⟩
  | .hbm, ⟨9, _⟩ => ⟨S2x128, .f32⟩
  | .hbm, ⟨10, _⟩ => ⟨S2x128, .f32⟩
  | .hbm, ⟨11, _⟩ => ⟨S50000x960, .i32⟩
  | .hbm, ⟨12, _⟩ => ⟨S_, .i32⟩
  | .hbm, ⟨13, _⟩ => ⟨S50000x960, .i32⟩
  | .hbm, ⟨14, _⟩ => ⟨S50000x960, .i32⟩
  | .hbm, ⟨15, _⟩ => ⟨S50000x960, .bf16⟩
  | .hbm, ⟨16, _⟩ => ⟨S_, .i32⟩
  | .hbm, ⟨17, _⟩ => ⟨S50000x960, .i32⟩
  | .hbm, ⟨18, _⟩ => ⟨S50000x960, .i32⟩
  | .hbm, ⟨19, _⟩ => ⟨S50000x960, .bf16⟩
  | .hbm, ⟨20, _⟩ => ⟨S2x128x50000, .f32⟩
  | .hbm, ⟨21, _⟩ => ⟨S2x128x50000, .f32⟩
  | .hbm, ⟨22, _⟩ => ⟨S2x128x50000x1, .f32⟩
  | .hbm, ⟨23, _⟩ => ⟨S2x128x50000x1, .f32⟩
  | .hbm, ⟨24, _⟩ => ⟨S2x128x50000x2, .f32⟩
  | .hbm, ⟨25, _⟩ => ⟨S2x128x100000, .f32⟩
  | .hbm, ⟨26, _⟩ => ⟨S100000, .f32⟩
  | .hbm, ⟨27, _⟩ => ⟨S2x128x1, .f32⟩
  | .hbm, ⟨28, _⟩ => ⟨S100000, .f32⟩
  | .hbm, ⟨29, _⟩ => ⟨S2x128x1, .f32⟩
  | .hbm, ⟨30, _⟩ => ⟨S1x1x100000, .f32⟩
  | .hbm, ⟨31, _⟩ => ⟨S2x128x100000, .f32⟩
  | .hbm, ⟨32, _⟩ => ⟨S2x128x100000, .f32⟩
  | .hbm, ⟨33, _⟩ => ⟨S2x128x100000, .f32⟩
  | .hbm, ⟨34, _⟩ => ⟨S2x128x100000, .f32⟩
  | .hbm, ⟨35, _⟩ => ⟨S2x128x100000, .f32⟩
  | .hbm, ⟨36, _⟩ => ⟨S1x1x100000, .f32⟩
  | .hbm, ⟨37, _⟩ => ⟨S2x128x100000, .f32⟩
  | .hbm, ⟨38, _⟩ => ⟨S2x128x100000, .f32⟩
  | .hbm, ⟨39, _⟩ => ⟨S2x128x100000, .f32⟩
  | .hbm, ⟨40, _⟩ => ⟨S_, .i32⟩
  | .hbm, ⟨41, _⟩ => ⟨S2x128x120, .i32⟩
  | .hbm, ⟨42, _⟩ => ⟨S2x128x120, .i1⟩
  | .hbm, ⟨43, _⟩ => ⟨S_, .i32⟩
  | .hbm, ⟨44, _⟩ => ⟨S2x128x120, .i32⟩
  | .hbm, ⟨45, _⟩ => ⟨S2x128x120, .i32⟩
  | .hbm, ⟨46, _⟩ => ⟨S2x128x120, .i32⟩
  | .hbm, ⟨47, _⟩ => ⟨S2x128x120x1, .i32⟩
  | .hbm, ⟨48, _⟩ => ⟨S1, .i32⟩
  | .hbm, ⟨49, _⟩ => ⟨S_, .i32⟩
  | .hbm, ⟨50, _⟩ => ⟨S2x128x120x1, .i32⟩
  | .hbm, ⟨51, _⟩ => ⟨S2x128x120x1, .i1⟩
  | .hbm, ⟨52, _⟩ => ⟨S1x1x1x1, .i32⟩
  | .hbm, ⟨53, _⟩ => ⟨S2x128x120x1, .i32⟩
  | .hbm, ⟨54, _⟩ => ⟨S2x128x120x1, .i1⟩
  | .hbm, ⟨55, _⟩ => ⟨S2x128x120x1, .i1⟩
  | .hbm, ⟨56, _⟩ => ⟨S_, .i1⟩
  | .hbm, ⟨57, _⟩ => ⟨S2x128x120, .i1⟩
  | .hbm, ⟨58, _⟩ => ⟨S2x128x120, .f32⟩
  | .hbm, ⟨59, _⟩ => ⟨S_, .f32⟩
  | .hbm, ⟨60, _⟩ => ⟨S2x128x120, .f32⟩
  | .hbm, ⟨61, _⟩ => ⟨S2x128x120, .f32⟩
  | .hbm, ⟨62, _⟩ => ⟨S_, .i32⟩
  | .hbm, ⟨63, _⟩ => ⟨S2x128x120, .i32⟩
  | .hbm, ⟨64, _⟩ => ⟨S2x128x120, .i1⟩
  | .hbm, ⟨65, _⟩ => ⟨S_, .i32⟩
  | .hbm, ⟨66, _⟩ => ⟨S2x128x120, .i32⟩
  | .hbm, ⟨67, _⟩ => ⟨S2x128x120, .i32⟩
  | .hbm, ⟨68, _⟩ => ⟨S2x128x120, .i32⟩
  | .hbm, ⟨69, _⟩ => ⟨S2x128x120x1, .i32⟩
  | .hbm, ⟨70, _⟩ => ⟨S2x128x120x960, .i8⟩
  | .hbm, ⟨71, _⟩ => ⟨S2x128x120x960, .i32⟩
  | .hbm, ⟨72, _⟩ => ⟨S2x128x120x960, .bf16⟩
  | .hbm, ⟨73, _⟩ => ⟨S2x128x120, .f32⟩
  | .hbm, ⟨74, _⟩ => ⟨S_, .i32⟩
  | .hbm, ⟨75, _⟩ => ⟨S2x128x120, .i32⟩
  | .hbm, ⟨76, _⟩ => ⟨S2x128x120, .i1⟩
  | .hbm, ⟨77, _⟩ => ⟨S_, .i32⟩
  | .hbm, ⟨78, _⟩ => ⟨S2x128x120, .i32⟩
  | .hbm, ⟨79, _⟩ => ⟨S2x128x120, .i32⟩
  | .hbm, ⟨80, _⟩ => ⟨S2x128x120, .i32⟩
  | .hbm, ⟨81, _⟩ => ⟨S2x128x120x1, .i32⟩
  | .hbm, ⟨82, _⟩ => ⟨S2x128x120, .f32⟩
  | .hbm, ⟨83, _⟩ => ⟨S_, .f32⟩
  | .hbm, ⟨84, _⟩ => ⟨S2x128x120, .f32⟩
  | .hbm, ⟨85, _⟩ => ⟨S2x128x120, .f32⟩
  | .hbm, ⟨86, _⟩ => ⟨S2x128x1, .f32⟩
  | .hbm, ⟨87, _⟩ => ⟨S_, .f32⟩
  | .hbm, ⟨88, _⟩ => ⟨S2x128x1, .f32⟩
  | .hbm, ⟨89, _⟩ => ⟨S2x128x1, .f32⟩
  | .hbm, ⟨90, _⟩ => ⟨S2x128x120, .f32⟩
  | .hbm, ⟨91, _⟩ => ⟨S2x128x120, .f32⟩
  | .hbm, ⟨92, _⟩ => ⟨S2x128x120, .f32⟩
  | .hbm, ⟨93, _⟩ => ⟨S2x128x120, .f32⟩
  | .hbm, ⟨94, _⟩ => ⟨S2x100000x128, .f32⟩
  | .hbm, ⟨95, _⟩ => ⟨S2x120x128, .f32⟩
  | _, _ => ⟨S2x128x960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_cst : Ref sig .tc := ⟨.hbm, 59, rfl⟩
abbrev main_call0_v14 : Ref sig .tc := ⟨.hbm, 60, rfl⟩
abbrev main_v30 : Ref sig .tc := ⟨.hbm, 61, rfl⟩
abbrev main_c_1 : Ref sig .tc := ⟨.hbm, 62, rfl⟩
abbrev main_v31 : Ref sig .tc := ⟨.hbm, 63, rfl⟩
abbrev main_v32 : Ref sig .tc := ⟨.hbm, 64, rfl⟩
abbrev main_c_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_3 : Ref sig .tc := ⟨.hbm, 74, rfl⟩
abbrev main_v41 : Ref sig .tc := ⟨.hbm, 75, rfl⟩
abbrev main_v42 : Ref sig .tc := ⟨.hbm, 76, rfl⟩
abbrev main_c_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩

abbrev nD : Nat := 1
abbrev τ : Topo := Topo.v7x

variable {F : FTy → Type} [FloatOps F]
-- ==== Proof.TabK.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One primary score, and the table after some trips -/

/-- One primary score: `(u + b * q) + s * p`. -/
def score (q u b s p : F .f32) : F .f32 := FloatOps.addf (FloatOps.addf u (FloatOps.mulf b q)) (FloatOps.mulf s p)

/-- The row (inside its group of eight) and the lane of a cell of the table. -/
def rl8 (y : S8x256x256.Idx) : S8x128.Idx := ix2 ⟨(y 1).val % 8, Nat.mod_lt _ (by decide)⟩ ⟨(y 2).val % 128, Nat.mod_lt _ (by decide)⟩

/-- The row and the lane of a cell of the table. -/
def rl (y : S8x256x256.Idx) : S256x128.Idx := ix2 ⟨(y 1).val, (y 1).isLt⟩ ⟨(y 2).val % 128, Nat.mod_lt _ (by decide)⟩

/-- Where a cell's bound (`k = 0`) or step (`k = 1`) lies. -/
def aix (k : Fin 2) (y : S8x256x256.Idx) : S4x8x128.Idx :=
  ix3 ⟨2 * k.val + (y 2).val / 128, by have h : (y 2).val < 256 := (y 2).isLt; omega⟩ ⟨(y 0).val, (y 0).isLt⟩ ⟨(y 2).val % 128, Nat.mod_lt _ (by decide)⟩

/-- A cell updated from one group's rows. -/
def upd8 (q u : Vec F S8x128 .f32) (A : Vec F S4x8x128 .f32) (G : Vec F S8x256x256 .f32) (y : S8x256x256.Idx) : F .f32 :=
  score (q (rl8 y)) (u (rl8 y)) (A (aix 0 y)) (A (aix 1 y)) (G y)

/-- A cell updated from the whole row tables. -/
def upd (q u : Vec F S256x128 .f32) (A : Vec F S4x8x128 .f32) (G : Vec F S8x256x256 .f32) (y : S8x256x256.Idx) : F .f32 :=
  score (q (rl y)) (u (rl y)) (A (aix 0 y)) (A (aix 1 y)) (G y)

/-- The table after `k` chunks of group `g` are updated. -/
def tab8 (q u : Vec F S8x128 .f32) (A : Vec F S4x8x128 .f32) (G : Vec F S8x256x256 .f32) (g k : ℕ) : Vec F S8x256x256 .f32 :=
  match k with
  | 0 => G
  | k + 1 => fun y => if (y 1).val / 8 = g ∧ (y 0).val < k + 1 then upd8 q u A G y else G y

theorem tab8_eq (q u : Vec F S8x128 .f32) (A : Vec F S4x8x128 .f32) (G : Vec F S8x256x256 .f32) (g k : ℕ) :
    tab8 q u A G g k = fun y => if (y 1).val / 8 = g ∧ (y 0).val < k then upd8 q u A G y else G y := by
  cases k with
  | zero => exact funext fun y => (if_neg (by omega)).symm
  | succ k => rfl

/-- The table after `k` groups are updated. -/
def tab (q u : Vec F S256x128 .f32) (A : Vec F S4x8x128 .f32) (G : Vec F S8x256x256 .f32) (k : ℕ) : Vec F S8x256x256 .f32 :=
  match k with
  | 0 => G
  | k + 1 => fun y => if (y 1).val / 8 < k + 1 then upd q u A G y else G y

theorem tab_eq (q u : Vec F S256x128 .f32) (A : Vec F S4x8x128 .f32) (G : Vec F S8x256x256 .f32) (k : ℕ) :
    tab q u A G k = fun y => if (y 1).val / 8 < k then upd q u A G y else G y := by
  cases k with
  | zero => exact funext fun y => (if_neg (by omega)).symm
  | succ k => rfl

/-- One inner trip: the two half rows of chunk `k` of group `g` are rewritten, everything else stays. -/
theorem trip_tab {κ : Kind} {sp : Space} (V : View sig κ sp S8x256x256 .f32) (f : V.ty.Contents (Elt F)) (q u : Vec F S8x128 .f32)
    (A : Vec F S4x8x128 .f32) (G : Vec F S8x256x256 .f32) (g k : ℕ) (hg : g < 32) (hk : k < 8)
    {off1 off2 : Fin 3 → ℕ} (inb1 : ∀ a, off1 a + S1x8x128.size a ≤ S8x256x256.size a)
    (inb2 : ∀ a, off2 a + S1x8x128.size a ≤ S8x256x256.size a)
    (w1 w2 : Vec F S1x8x128 .f32) (h1 : off1 = ![k, 8 * g, 128]) (h2 : off2 = ![k, 8 * g, 0])
    (hf : V.read (Elt F) f = tab8 q u A G g k)
    (hw1 : ∀ (r : Fin 8) (l : Fin 128), w1 (ix3 0 r l) = score (q (ix2 r l)) (u (ix2 r l)) (A (ix3 ⟨1, by decide⟩ ⟨k, hk⟩ l)) (A (ix3 ⟨3, by decide⟩ ⟨k, hk⟩ l))
      (V.read (Elt F) f (ix3 ⟨k, hk⟩ ⟨8 * g + r.val, by omega⟩ ⟨128 + l.val, by omega⟩)))
    (hw2 : ∀ (r : Fin 8) (l : Fin 128), w2 (ix3 0 r l) = score (q (ix2 r l)) (u (ix2 r l)) (A (ix3 ⟨0, by decide⟩ ⟨k, hk⟩ l)) (A (ix3 ⟨2, by decide⟩ ⟨k, hk⟩ l))
      (V.read (Elt F) f (ix3 ⟨k, hk⟩ ⟨8 * g + r.val, by omega⟩ ⟨l.val, by omega⟩))) :
    V.read (Elt F) (V.writes (Elt F) f [⟨Rect.unit off1 S1x8x128.size inb1, w1⟩, ⟨Rect.unit off2 S1x8x128.size inb2, w2⟩])
      = tab8 q u A G g (k + 1) := by
  funext y
  have hc : (y 0).val < 8 := (y 0).isLt
  have hr : (y 1).val < 256 := (y 1).isLt
  have hl : (y 2).val < 256 := (y 2).isLt
  by_cases hin : (y 0).val = k ∧ (y 1).val / 8 = g
  · obtain ⟨rfl, rfl⟩ := hin
    by_cases hl2 : 128 ≤ (y 2).val
    · rw [View.read_writes_cons_unit_of_mem V f inb1 w1 _ y (ix3 (0 : Fin 1) ⟨(y 1).val % 8, by omega⟩ ⟨(y 2).val - 128, by omega⟩) h1
        (fun a => by match a with
          | ⟨0, _⟩ => rfl
          | ⟨1, _⟩ => show (y 1).val = 8 * ((y 1).val / 8) + (y 1).val % 8; omega
          | ⟨2, _⟩ => show (y 2).val = 128 + ((y 2).val - 128); omega), hw1, hf]
      have e : (ix3 ⟨(y 0).val, hk⟩ ⟨8 * ((y 1).val / 8) + (y 1).val % 8, by omega⟩ ⟨128 + ((y 2).val - 128), by omega⟩ : S8x256x256.Idx) = y :=
        funext fun a => Fin.ext (by match a with
          | ⟨0, _⟩ => rfl
          | ⟨1, _⟩ => show 8 * ((y 1).val / 8) + (y 1).val % 8 = (y 1).val; omega
          | ⟨2, _⟩ => show 128 + ((y 2).val - 128) = (y 2).val; omega)
      have e8 : (ix2 ⟨(y 1).val % 8, by omega⟩ ⟨(y 2).val - 128, by omega⟩ : S8x128.Idx) = rl8 y :=
        funext fun a => Fin.ext (by match a with
          | ⟨0, _⟩ => rfl
          | ⟨1, _⟩ => show (y 2).val - 128 = (y 2).val % 128; omega)
      have a0 : (ix3 ⟨1, by decide⟩ ⟨(y 0).val, hk⟩ ⟨(y 2).val - 128, by omega⟩ : S4x8x128.Idx) = aix 0 y :=
        funext fun a => Fin.ext (by match a with
          | ⟨0, _⟩ => show 1 = 2 * 0 + (y 2).val / 128; omega
          | ⟨1, _⟩ => rfl
          | ⟨2, _⟩ => show (y 2).val - 128 = (y 2).val % 128; omega)
      have a1 : (ix3 ⟨3, by decide⟩ ⟨(y 0).val, hk⟩ ⟨(y 2).val - 128, by omega⟩ : S4x8x128.Idx) = aix 1 y :=
        funext fun a => Fin.ext (by match a with
          | ⟨0, _⟩ => show 3 = 2 * 1 + (y 2).val / 128; omega
          | ⟨1, _⟩ => rfl
          | ⟨2, _⟩ => show (y 2).val - 128 = (y 2).val % 128; omega)
      rw [e, e8, a0, a1]
      repeat rw [tab8_eq]
      beta_reduce
      rw [if_neg (by omega), if_pos (by omega)]
      rfl
    · rw [View.read_writes_cons_unit_of_not_mem V f inb1 w1 _ y h1 (2 : Fin 3) (Or.inl (show (y 2).val < 128 by omega)),
        View.read_writes_cons_unit_of_mem V f inb2 w2 _ y (ix3 (0 : Fin 1) ⟨(y 1).val % 8, by omega⟩ ⟨(y 2).val, by omega⟩) h2
        (fun a => by match a with
          | ⟨0, _⟩ => rfl
          | ⟨1, _⟩ => show (y 1).val = 8 * ((y 1).val / 8) + (y 1).val % 8; omega
          | ⟨2, _⟩ => show (y 2).val = 0 + (y 2).val; omega), hw2, hf]
      have e : (ix3 ⟨(y 0).val, hk⟩ ⟨8 * ((y 1).val / 8) + (y 1).val % 8, by omega⟩ ⟨(y 2).val, by omega⟩ : S8x256x256.Idx) = y :=
        funext fun a => Fin.ext (by match a with
          | ⟨0, _⟩ => rfl
          | ⟨1, _⟩ => show 8 * ((y 1).val / 8) + (y 1).val % 8 = (y 1).val; omega
          | ⟨2, _⟩ => rfl)
      have e8 : (ix2 ⟨(y 1).val % 8, by omega⟩ ⟨(y 2).val, by omega⟩ : S8x128.Idx) = rl8 y :=
        funext fun a => Fin.ext (by match a with
          | ⟨0, _⟩ => rfl
          | ⟨1, _⟩ => show (y 2).val = (y 2).val % 128; omega)
      have a0 : (ix3 ⟨0, by decide⟩ ⟨(y 0).val, hk⟩ ⟨(y 2).val, by omega⟩ : S4x8x128.Idx) = aix 0 y :=
        funext fun a => Fin.ext (by match a with
          | ⟨0, _⟩ => show 0 = 2 * 0 + (y 2).val / 128; omega
          | ⟨1, _⟩ => rfl
          | ⟨2, _⟩ => show (y 2).val = (y 2).val % 128; omega)
      have a1 : (ix3 ⟨2, by decide⟩ ⟨(y 0).val, hk⟩ ⟨(y 2).val, by omega⟩ : S4x8x128.Idx) = aix 1 y :=
        funext fun a => Fin.ext (by match a with
          | ⟨0, _⟩ => show 2 = 2 * 1 + (y 2).val / 128; omega
          | ⟨1, _⟩ => rfl
          | ⟨2, _⟩ => show (y 2).val = (y 2).val % 128; omega)
      rw [e, e8, a0, a1]
      repeat rw [tab8_eq]
      beta_reduce
      rw [if_neg (by omega), if_pos (by omega)]
      rfl
  · have hmiss : V.read (Elt F) (V.writes (Elt F) f [⟨Rect.unit off1 S1x8x128.size inb1, w1⟩, ⟨Rect.unit off2 S1x8x128.size inb2, w2⟩]) y = V.read (Elt F) f y := by
      by_cases h0 : (y 0).val = k
      · have h8 : (y 1).val < 8 * g ∨ 8 * g + 8 ≤ (y 1).val := by omega
        rw [View.read_writes_cons_unit_of_not_mem V f inb1 w1 _ y h1 (1 : Fin 3) h8,
          View.read_writes_cons_unit_of_not_mem V f inb2 w2 _ y h2 (1 : Fin 3) h8]
        rfl
      · have h8 : (y 0).val < k ∨ k + 1 ≤ (y 0).val := by omega
        rw [View.read_writes_cons_unit_of_not_mem V f inb1 w1 _ y h1 (0 : Fin 3) h8,
          View.read_writes_cons_unit_of_not_mem V f inb2 w2 _ y h2 (0 : Fin 3) h8]
        rfl
    rw [hmiss, hf]
    repeat rw [tab8_eq]
    beta_reduce
    by_cases hy : (y 1).val / 8 = g ∧ (y 0).val < k
    · rw [if_pos hy, if_pos (by omega)]
    · rw [if_neg hy, if_neg (by omega)]

/-- One whole group: after its eight inner trips the table has one more group updated. -/
theorem tab_succ (q u : Vec F S256x128 .f32) (q8 u8 : Vec F S8x128 .f32) (A : Vec F S4x8x128 .f32) (G : Vec F S8x256x256 .f32) (g : ℕ) (hg : g < 32)
    (hq : ∀ (r : Fin 8) (l : Fin 128), q8 (ix2 r l) = q (ix2 ⟨8 * g + r.val, by omega⟩ l))
    (hu : ∀ (r : Fin 8) (l : Fin 128), u8 (ix2 r l) = u (ix2 ⟨8 * g + r.val, by omega⟩ l)) :
    tab8 q8 u8 A (tab q u A G g) g 8 = tab q u A G (g + 1) := by
  funext y
  have hc : (y 0).val < 8 := (y 0).isLt
  have hr : (y 1).val < 256 := (y 1).isLt
  repeat rw [tab8_eq]
  beta_reduce
  by_cases h : (y 1).val / 8 = g
  · rw [if_pos ⟨h, hc⟩]
    have e : (ix2 ⟨8 * g + (y 1).val % 8, by omega⟩ ⟨(y 2).val % 128, Nat.mod_lt _ (by decide)⟩ : S256x128.Idx) = rl y :=
      funext fun a => Fin.ext (by match a with
        | ⟨0, _⟩ => show 8 * g + (y 1).val % 8 = (y 1).val; omega
        | ⟨1, _⟩ => rfl)
    have hq' := hq ⟨(y 1).val % 8, Nat.mod_lt _ (by decide)⟩ ⟨(y 2).val % 128, Nat.mod_lt _ (by decide)⟩
    have hu' := hu ⟨(y 1).val % 8, Nat.mod_lt _ (by decide)⟩ ⟨(y 2).val % 128, Nat.mod_lt _ (by decide)⟩
    have e' := (congrArg q e).symm.trans hq'.symm
    have e'' := (congrArg u e).symm.trans hu'.symm
    repeat rw [tab_eq]
    beta_reduce
    unfold upd8
    beta_reduce
    rw [if_neg (by omega), if_pos (by omega)]
    unfold upd
    rw [e', e'']
    rfl
  · rw [if_neg (by omega)]
    repeat rw [tab_eq]
    beta_reduce
    by_cases h' : (y 1).val / 8 < g
    · rw [if_pos h', if_pos (by omega)]
    · rw [if_neg h', if_neg (by omega)]

theorem tab8_zero (q u : Vec F S8x128 .f32) (A : Vec F S4x8x128 .f32) (G : Vec F S8x256x256 .f32) (g : ℕ) : tab8 q u A G g 0 = G := rfl

theorem tab_zero (q u : Vec F S256x128 .f32) (A : Vec F S4x8x128 .f32) (G : Vec F S8x256x256 .f32) : tab q u A G 0 = G := rfl

theorem tab_all (q u : Vec F S256x128 .f32) (A : Vec F S4x8x128 .f32) (G : Vec F S8x256x256 .f32) : tab q u A G 32 = upd q u A G := by
  rw [tab_eq]
  exact funext fun y => if_pos (by have h : (y 1).val < 256 := (y 1).isLt; omega)

/-- The two half-row payloads at an index. -/
theorem pay_lo (q u : Vec F S8x128 .f32) (b s : Vec F S1x1x128 .f32) (p : Vec F S1x8x128 .f32) (r : Fin 8) (l : Fin 128) :
    k0_pay50 q u b s p (ix3 (0 : Fin 1) r l) = score (q (ix2 r l)) (u (ix2 r l)) (b (ix3 (0 : Fin 1) (0 : Fin 1) l)) (s (ix3 (0 : Fin 1) (0 : Fin 1) l)) (p (ix3 (0 : Fin 1) r l)) := by
  unfold k0_pay50 k0_pay49
  rw [shapeCast_ab_1ab_apply]
  show FloatOps.addf (FloatOps.addf _ (FloatOps.mulf (broadcastTo _ _ _ _) _)) (FloatOps.mulf (broadcastTo _ _ _ _) (shapeCast _ _ _ _)) = _
  rw [broadcastTo_1b_ab_apply, broadcastTo_1b_ab_apply, shapeCast_1ab_ab_apply, shapeCast_1ab_ab_apply, shapeCast_1ab_ab_apply]
  rfl

theorem pay_hi (q u : Vec F S8x128 .f32) (b s : Vec F S1x1x128 .f32) (p : Vec F S1x8x128 .f32) (r : Fin 8) (l : Fin 128) :
    k0_pay63 (k0_pay52 s) (k0_pay53 q u b) p (ix3 (0 : Fin 1) r l) = score (q (ix2 r l)) (u (ix2 r l)) (b (ix3 (0 : Fin 1) (0 : Fin 1) l)) (s (ix3 (0 : Fin 1) (0 : Fin 1) l)) (p (ix3 (0 : Fin 1) r l)) := by
  unfold k0_pay63 k0_pay62 k0_pay52 k0_pay53
  rw [shapeCast_ab_1ab_apply]
  show FloatOps.addf (FloatOps.addf _ (FloatOps.mulf (broadcastTo _ _ _ _) _)) (FloatOps.mulf (broadcastTo _ _ _ _) (shapeCast _ _ _ _)) = _
  rw [broadcastTo_1b_ab_apply, broadcastTo_1b_ab_apply, shapeCast_1ab_ab_apply, shapeCast_1ab_ab_apply, shapeCast_1ab_ab_apply]
  rfl

/-- A load of one row of a rank-three buffer, and of one group of rows, at an index. -/
theorem readAt3 {κ : Kind} {sp : Space} {e : EltTy} {d n : Fin 3 → ℕ} (V : View sig κ sp (⟨3, d⟩ : Shape) e) (f : V.ty.Contents (Elt F))
    {off off' : Fin 3 → ℕ} (inb : ∀ a, off a + n a ≤ d a) (h : off = off') (x : (⟨3, n⟩ : Shape).Idx) (y : (⟨3, d⟩ : Shape).Idx)
    (hx : ∀ a, (y a).val = off' a + (x a).val) :
    V.readAt (Elt F) (Rect.unit (s := ⟨3, d⟩) off n inb).toLoadRect f x = V.read (Elt F) f y := by
  subst h
  refine congrArg (V.read (Elt F) f) (funext fun a => Fin.ext ?_)
  show off a + 1 * (x a).val = (y a).val
  rw [hx a, Nat.one_mul]

theorem readAt2 {κ : Kind} {sp : Space} {e : EltTy} {d n : Fin 2 → ℕ} (V : View sig κ sp (⟨2, d⟩ : Shape) e) (f : V.ty.Contents (Elt F))
    {off off' : Fin 2 → ℕ} (inb : ∀ a, off a + n a ≤ d a) (h : off = off') (x : (⟨2, n⟩ : Shape).Idx) (y : (⟨2, d⟩ : Shape).Idx)
    (hx : ∀ a, (y a).val = off' a + (x a).val) :
    V.readAt (Elt F) (Rect.unit (s := ⟨2, d⟩) off n inb).toLoadRect f x = V.read (Elt F) f y := by
  subst h
  refine congrArg (V.read (Elt F) f) (funext fun a => Fin.ext ?_)
  show off a + 1 * (x a).val = (y a).val
  rw [hx a, Nat.one_mul]

theorem readA {κ : Kind} {sp : Space} (V : View sig κ sp S4x8x128 .f32) (X : V.ty.Contents (Elt F)) {off : Fin 3 → ℕ}
    (inb : ∀ a, off a + S1x1x128.size a ≤ S4x8x128.size a) (j k : ℕ) (hj : j < 4) (hk : k < 8) (h : off = ![j, k, 0]) (l : Fin 128) :
    V.readAt (Elt F) (Rect.unit (s := S4x8x128) off S1x1x128.size inb).toLoadRect X (ix3 (0 : Fin 1) (0 : Fin 1) l) = V.read (Elt F) X (ix3 ⟨j, hj⟩ ⟨k, hk⟩ l) :=
  readAt3 V X inb h _ _ fun a => by match a with
    | ⟨0, _⟩ => rfl
    | ⟨1, _⟩ => rfl
    | ⟨2, _⟩ => show l.val = 0 + l.val; omega

theorem readP {κ : Kind} {sp : Space} (V : View sig κ sp S8x256x256 .f32) (X : V.ty.Contents (Elt F)) {off : Fin 3 → ℕ}
    (inb : ∀ a, off a + S1x8x128.size a ≤ S8x256x256.size a) (k g o : ℕ) (hk : k < 8) (hg : g < 32) (h : off = ![k, 8 * g, o]) (r : Fin 8) (l : Fin 128)
    (c : Fin 256) (hc : c.val = o + l.val) :
    V.readAt (Elt F) (Rect.unit (s := S8x256x256) off S1x8x128.size inb).toLoadRect X (ix3 (0 : Fin 1) r l) = V.read (Elt F) X (ix3 ⟨k, hk⟩ ⟨8 * g + r.val, by omega⟩ c) :=
  readAt3 V X inb h _ _ fun a => by match a with
    | ⟨0, _⟩ => rfl
    | ⟨1, _⟩ => rfl
    | ⟨2, _⟩ => exact hc

/-- A load of one group of rows of the row table, at an index. -/
theorem readQ {κ : Kind} {sp : Space} (V : View sig κ sp S256x128 .f32) (X : V.ty.Contents (Elt F)) {off : Fin 2 → ℕ}
    (inb : ∀ a, off a + S8x128.size a ≤ S256x128.size a) (g : ℕ) (hg : g < 32) (h : off = ![8 * g, 0]) (r : Fin 8) (l : Fin 128) :
    V.readAt (Elt F) (Rect.unit (s := S256x128) off S8x128.size inb).toLoadRect X (ix2 r l) = V.read (Elt F) X (ix2 ⟨8 * g + r.val, by omega⟩ l) :=
  readAt2 V X inb h _ _ fun a => by match a with
    | ⟨0, _⟩ => rfl
    | ⟨1, _⟩ => show l.val = 0 + l.val; omega

end Cert.Kernel.Hand
-- ==== Proof.InnerK.lean ====
module

public import proofs.«01_k».proof.Proof.TabK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
@[sl_loop] def tblInv_k0_t2 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h2 : k0_cond2 i = 1#1) (v201 : BitVec 32) (c0_i32_204 : BitVec 32) (c1_i32_205 : BitVec 32) (k0_t1 : Fin k0_t1_loop.trips) (v562 : BitVec 32) (v564 : Vec F S8x128 .f32) (v566 : Vec F S8x128 .f32) (v570 : Vec F S1x8x128 .i32) (v573 : Vec F S1x8x128 .i32) (v576 : Vec F S1x8x128 .i32) (init : Vec F S8x128 .f32)
    (X21 : BufTy.Contents (Elt F) arg21.view.ty) (G : BufTy.Contents (Elt F) arg17.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 c0_i32_204 c1_i32_205 k0_t1 v562 v564 v566 v570 v573 v576 init where
  inv k acc := iprop((arg21.view.loc (c : Thread nD τ) ↦[arg21.view.set]{fullShare} X21)
    ∗ ∃ f : BufTy.Contents (Elt F) arg17.view.ty, (arg17.view.loc (c : Thread nD τ) ↦[arg17.view.set]{fullShare} f)
      ∗ ⌜arg17.view.read (Elt F) f = tab8 v564 v566 (arg21.view.read (Elt F) X21) (arg17.view.read (Elt F) G) k0_t1.val k⌝)
  step k acc := by
    have hk : k.val < 8 := Nat.lt_of_lt_of_le k.isLt k0_t2_abs.2.1
    have hg : k0_t1.val < 32 := Nat.lt_of_lt_of_le k0_t1.isLt k0_t1_abs.2.1
    unfold k0_t2_body
    iintro ⟨HR, ⟨%f, HW, %hf⟩⟩
    sl_exec
    sl_step
    isplitl [HR]; · iexact HR
    iexists _; isplitl [HW]; · iexact HW
    ipureintro
    refine trip_tab arg17.view f v564 v566 _ _ k0_t1.val k.val hg hk _ _ _ _ (Gen.k0_off12_eq k0_t1 k) (Gen.k0_off9_eq k0_t1 k) hf ?_ ?_
    · intro r l
      refine (pay_hi _ _ _ _ _ r l).trans ?_
      rw [readA arg21.view X21 _ 1 k.val (by decide) hk (Gen.k0_off10_eq k), readA arg21.view X21 _ 3 k.val (by decide) hk (Gen.k0_off11_eq k)]
      exact congrArg _ (readP arg17.view f _ k.val k0_t1.val 128 hk hg (Gen.k0_off12_eq k0_t1 k) r l ⟨128 + l.val, by omega⟩ rfl)
    · intro r l
      refine (pay_lo _ _ _ _ _ r l).trans ?_
      rw [readA arg21.view X21 _ 0 k.val (by decide) hk (Gen.k0_off7_eq k), readA arg21.view X21 _ 2 k.val (by decide) hk (Gen.k0_off8_eq k)]
      exact congrArg _ (readP arg17.view f _ k.val k0_t1.val 0 hk hg (Gen.k0_off9_eq k0_t1 k) r l ⟨l.val, by omega⟩ (by show l.val = 0 + l.val; omega))

set_option warn.classDefReducibility false in
@[sl_loop] def tblInv_k0_t5 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h3 : k0_cond3 i = 1#1) (v201 : BitVec 32) (c0_i32_204 : BitVec 32) (c1_i32_205 : BitVec 32) (k0_t4 : Fin k0_t4_loop.trips) (v562 : BitVec 32) (v564 : Vec F S8x128 .f32) (v566 : Vec F S8x128 .f32) (v570 : Vec F S1x8x128 .i32) (v573 : Vec F S1x8x128 .i32) (v576 : Vec F S1x8x128 .i32) (init : Vec F S8x128 .f32)
    (X21 : BufTy.Contents (Elt F) arg21.view.ty) (G : BufTy.Contents (Elt F) arg16.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 c0_i32_204 c1_i32_205 k0_t4 v562 v564 v566 v570 v573 v576 init where
  inv k acc := iprop((arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab8 v564 v566 (arg21.view.read (Elt F) X21) (arg16.view.read (Elt F) G) k0_t4.val k⌝)
  step k acc := by
    have hk : k.val < 8 := Nat.lt_of_lt_of_le k.isLt k0_t5_abs.2.1
    have hg : k0_t4.val < 32 := Nat.lt_of_lt_of_le k0_t4.isLt k0_t4_abs.2.1
    unfold k0_t5_body
    iintro ⟨HR, ⟨%f, HW, %hf⟩⟩
    sl_exec
    sl_step
    isplitl [HR]; · iexact HR
    iexists _; isplitl [HW]; · iexact HW
    ipureintro
    refine trip_tab arg16.view f v564 v566 _ _ k0_t4.val k.val hg hk _ _ _ _ (Gen.k0_off27_eq k0_t4 k) (Gen.k0_off24_eq k0_t4 k) hf ?_ ?_
    · intro r l
      refine (pay_hi _ _ _ _ _ r l).trans ?_
      rw [readA arg21.view X21 _ 1 k.val (by decide) hk (Gen.k0_off25_eq k), readA arg21.view X21 _ 3 k.val (by decide) hk (Gen.k0_off26_eq k)]
      exact congrArg _ (readP arg16.view f _ k.val k0_t4.val 128 hk hg (Gen.k0_off27_eq k0_t4 k) r l ⟨128 + l.val, by omega⟩ rfl)
    · intro r l
      refine (pay_lo _ _ _ _ _ r l).trans ?_
      rw [readA arg21.view X21 _ 0 k.val (by decide) hk (Gen.k0_off22_eq k), readA arg21.view X21 _ 2 k.val (by decide) hk (Gen.k0_off23_eq k)]
      exact congrArg _ (readP arg16.view f _ k.val k0_t4.val 0 hk hg (Gen.k0_off24_eq k0_t4 k) r l ⟨l.val, by omega⟩ (by show l.val = 0 + l.val; omega))

set_option warn.classDefReducibility false in
@[sl_loop] def tblInv_k0_t8 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h4 : k0_cond4 i = 1#1) (v40 : BitVec 32) (c0_i32_106 : BitVec 32) (c1_i32_107 : BitVec 32) (k0_t7 : Fin k0_t7_loop.trips) (v418 : BitVec 32) (v420 : Vec F S8x128 .f32) (v422 : Vec F S8x128 .f32) (v426 : Vec F S1x8x128 .i32) (v429 : Vec F S1x8x128 .i32) (v432 : Vec F S1x8x128 .i32) (init : Vec F S8x128 .f32)
    (X21 : BufTy.Contents (Elt F) arg21.view.ty) (G : BufTy.Contents (Elt F) arg16.view.ty) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 c0_i32_106 c1_i32_107 k0_t7 v418 v420 v422 v426 v429 v432 init where
  inv k acc := iprop((arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab8 v420 v422 (arg21.view.read (Elt F) X21) (arg16.view.read (Elt F) G) k0_t7.val k⌝)
  step k acc := by
    have hk : k.val < 8 := Nat.lt_of_lt_of_le k.isLt k0_t8_abs.2.1
    have hg : k0_t7.val < 32 := Nat.lt_of_lt_of_le k0_t7.isLt k0_t7_abs.2.1
    unfold k0_t8_body
    iintro ⟨HR, ⟨%f, HW, %hf⟩⟩
    sl_exec
    sl_step
    isplitl [HR]; · iexact HR
    iexists _; isplitl [HW]; · iexact HW
    ipureintro
    refine trip_tab arg16.view f v420 v422 _ _ k0_t7.val k.val hg hk _ _ _ _ (Gen.k0_off42_eq k0_t7 k) (Gen.k0_off39_eq k0_t7 k) hf ?_ ?_
    · intro r l
      refine (pay_hi _ _ _ _ _ r l).trans ?_
      rw [readA arg21.view X21 _ 1 k.val (by decide) hk (Gen.k0_off40_eq k), readA arg21.view X21 _ 3 k.val (by decide) hk (Gen.k0_off41_eq k)]
      exact congrArg _ (readP arg16.view f _ k.val k0_t7.val 128 hk hg (Gen.k0_off42_eq k0_t7 k) r l ⟨128 + l.val, by omega⟩ rfl)
    · intro r l
      refine (pay_lo _ _ _ _ _ r l).trans ?_
      rw [readA arg21.view X21 _ 0 k.val (by decide) hk (Gen.k0_off37_eq k), readA arg21.view X21 _ 2 k.val (by decide) hk (Gen.k0_off38_eq k)]
      exact congrArg _ (readP arg16.view f _ k.val k0_t7.val 0 hk hg (Gen.k0_off39_eq k0_t7 k) r l ⟨l.val, by omega⟩ (by show l.val = 0 + l.val; omega))

end Cert.Kernel.Hand
-- ==== Proof.OuterK.lean ====
module

public import proofs.«01_k».proof.Proof.InnerK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
@[sl_loop] def tblInv_k0_t1 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h2 : k0_cond2 i = 1#1) (v201 : BitVec 32) (v204 : IVec S8x128 1) (v354 : FVec F S8x128 .f32)
    (X11 : BufTy.Contents (Elt F) arg11.view.ty) (X12 : BufTy.Contents (Elt F) arg12.view.ty) (X13 : BufTy.Contents (Elt F) arg13.view.ty)
    (G : BufTy.Contents (Elt F) arg17.view.ty) (X19 : BufTy.Contents (Elt F) arg19.view.ty) (X20 : BufTy.Contents (Elt F) arg20.view.ty) (X21 : BufTy.Contents (Elt F) arg21.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f))
    ∗ (∃ f : BufTy.Contents (Elt F) arg15.view.ty, (arg15.view.loc (c : Thread nD τ) ↦[arg15.view.set]{fullShare} f))
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg17.view.ty, (arg17.view.loc (c : Thread nD τ) ↦[arg17.view.set]{fullShare} f)
      ∗ ⌜arg17.view.read (Elt F) f = tab (arg11.view.read (Elt F) X11) (arg12.view.read (Elt F) X12) (arg21.view.read (Elt F) X21) (arg17.view.read (Elt F) G) k⌝)
  step k acc := by
    have hk : k.val < 32 := Nat.lt_of_lt_of_le k.isLt k0_t1_abs.2.1
    unfold k0_t1_body
    iintro ⟨H11, H12, H13, ⟨%f14, H14⟩, ⟨%f15, H15⟩, H19, H20, H21, ⟨%f, H17, %hf⟩⟩
    sl_exec
    sl_step
    isplitl [H11]; · iexact H11
    isplitl [H12]; · iexact H12
    isplitl [H13]; · iexact H13
    isplitl [H14]; · iexists _; iexact H14
    isplitl [H15]; · iexists _; iexact H15
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off1_eq k) r l)
      (fun r l => readQ arg12.view X12 _ k.val hk (Gen.k0_off1_eq k) r l)

set_option warn.classDefReducibility false in
@[sl_loop] def tblInv_k0_t4 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h3 : k0_cond3 i = 1#1) (v201 : BitVec 32) (v204 : IVec S8x128 1) (v354 : FVec F S8x128 .f32)
    (X11 : BufTy.Contents (Elt F) arg11.view.ty) (X12 : BufTy.Contents (Elt F) arg12.view.ty) (X13 : BufTy.Contents (Elt F) arg13.view.ty)
    (G : BufTy.Contents (Elt F) arg16.view.ty) (X19 : BufTy.Contents (Elt F) arg18.view.ty) (X20 : BufTy.Contents (Elt F) arg20.view.ty) (X21 : BufTy.Contents (Elt F) arg21.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f))
    ∗ (∃ f : BufTy.Contents (Elt F) arg15.view.ty, (arg15.view.loc (c : Thread nD τ) ↦[arg15.view.set]{fullShare} f))
    ∗ (arg18.view.loc (c : Thread nD τ) ↦[arg18.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab (arg11.view.read (Elt F) X11) (arg12.view.read (Elt F) X12) (arg21.view.read (Elt F) X21) (arg16.view.read (Elt F) G) k⌝)
  step k acc := by
    have hk : k.val < 32 := Nat.lt_of_lt_of_le k.isLt k0_t4_abs.2.1
    unfold k0_t4_body
    iintro ⟨H11, H12, H13, ⟨%f14, H14⟩, ⟨%f15, H15⟩, H19, H20, H21, ⟨%f, H17, %hf⟩⟩
    sl_exec
    sl_step
    isplitl [H11]; · iexact H11
    isplitl [H12]; · iexact H12
    isplitl [H13]; · iexact H13
    isplitl [H14]; · iexists _; iexact H14
    isplitl [H15]; · iexists _; iexact H15
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off16_eq k) r l)
      (fun r l => readQ arg12.view X12 _ k.val hk (Gen.k0_off16_eq k) r l)

set_option warn.classDefReducibility false in
@[sl_loop] def tblInv_k0_t7 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h4 : k0_cond4 i = 1#1) (v40 : BitVec 32) (v43 : IVec S8x128 1) (v172 : IVec S8x128 32) (v185 : FVec F S8x128 .f32) (v186 : IVec S8x128 32)
    (X11 : BufTy.Contents (Elt F) arg11.view.ty) (X12 : BufTy.Contents (Elt F) arg12.view.ty) (X13 : BufTy.Contents (Elt F) arg13.view.ty)
    (G : BufTy.Contents (Elt F) arg16.view.ty) (X19 : BufTy.Contents (Elt F) arg18.view.ty) (X20 : BufTy.Contents (Elt F) arg20.view.ty) (X21 : BufTy.Contents (Elt F) arg21.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f))
    ∗ (∃ f : BufTy.Contents (Elt F) arg15.view.ty, (arg15.view.loc (c : Thread nD τ) ↦[arg15.view.set]{fullShare} f))
    ∗ (arg18.view.loc (c : Thread nD τ) ↦[arg18.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab (arg11.view.read (Elt F) X11) (arg12.view.read (Elt F) X12) (arg21.view.read (Elt F) X21) (arg16.view.read (Elt F) G) k⌝)
  step k acc := by
    have hk : k.val < 32 := Nat.lt_of_lt_of_le k.isLt k0_t7_abs.2.1
    unfold k0_t7_body
    iintro ⟨H11, H12, H13, ⟨%f14, H14⟩, ⟨%f15, H15⟩, H19, H20, H21, ⟨%f, H17, %hf⟩⟩
    sl_exec
    sl_step
    isplitl [H11]; · iexact H11
    isplitl [H12]; · iexact H12
    isplitl [H13]; · iexact H13
    isplitl [H14]; · iexists _; iexact H14
    isplitl [H15]; · iexists _; iexact H15
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off31_eq k) r l)
      (fun r l => readQ arg12.view X12 _ k.val hk (Gen.k0_off31_eq k) r l)

end Cert.Kernel.Hand
-- ==== Proof.FactAK.lean ====
module

public import proofs.«01_k».proof.Proof.TabK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two products of a block: eight chunks of 256 columns -/

/-- The 128 packed columns of chunk `k`. -/
def wcol (cp : Vec F S960x1024 .i8) (k : ℕ) (hk : k < 8) : Vec F S960x128 .i8 := fun y =>
  cp (ix2 ⟨(y 0).val, (y 0).isLt⟩ ⟨128 * k + (y 1).val, by have h : (y 1).val < 128 := (y 1).isLt; omega⟩)

/-- The table of products of the query rows with a block of packed codes, one chunk per leading index. -/
def PF (xq : Vec F S256x960 .bf16) (cp : Vec F S960x1024 .i8) : Vec F S8x256x256 .f32 := fun y =>
  k0_pay31 xq (wcol cp (y 0).val (y 0).isLt) (ix3 (0 : Fin 1) ⟨(y 1).val, (y 1).isLt⟩ ⟨(y 2).val, (y 2).isLt⟩)

theorem PF_at (xq : Vec F S256x960 .bf16) (cp : Vec F S960x1024 .i8) (k : ℕ) (hk : k < 8) (y : S8x256x256.Idx) (x : S1x256x256.Idx)
    (h0 : (y 0).val = k) (h1 : (y 1).val = (x 1).val) (h2 : (y 2).val = (x 2).val) : PF xq cp y = k0_pay31 xq (wcol cp k hk) x := by
  subst h0
  refine congrArg (k0_pay31 xq (wcol cp (y 0).val hk)) (funext fun a => Fin.ext ?_)
  match a with
  | ⟨0, _⟩ => show 0 = (x 0).val; have h : (x 0).val < 1 := (x 0).isLt; omega
  | ⟨1, _⟩ => exact h1
  | ⟨2, _⟩ => exact h2

/-- Eight chunk stores leave the table of products. -/
theorem read_P {κ : Kind} {sp : Space} (V : View sig κ sp S8x256x256 .f32) (f : V.ty.Contents (Elt F)) (xq : Vec F S256x960 .bf16)
    (cp : Vec F S960x1024 .i8) (w0 w1 w2 w3 w4 w5 w6 w7 : Vec F S1x256x256 .f32)
    (e0 : w0 = k0_pay31 xq (wcol cp 0 (by decide)))
    (e1 : w1 = k0_pay31 xq (wcol cp 1 (by decide)))
    (e2 : w2 = k0_pay31 xq (wcol cp 2 (by decide)))
    (e3 : w3 = k0_pay31 xq (wcol cp 3 (by decide)))
    (e4 : w4 = k0_pay31 xq (wcol cp 4 (by decide)))
    (e5 : w5 = k0_pay31 xq (wcol cp 5 (by decide)))
    (e6 : w6 = k0_pay31 xq (wcol cp 6 (by decide)))
    (e7 : w7 = k0_pay31 xq (wcol cp 7 (by decide))) :
    V.read (Elt F) (V.writes (Elt F) f [⟨Rect.unit ![7, 0, 0] S1x256x256.size inb_S8x256x256_S1x256x256_7_0_0, w7⟩,
      ⟨Rect.unit ![6, 0, 0] S1x256x256.size inb_S8x256x256_S1x256x256_6_0_0, w6⟩,
      ⟨Rect.unit ![5, 0, 0] S1x256x256.size inb_S8x256x256_S1x256x256_5_0_0, w5⟩,
      ⟨Rect.unit ![4, 0, 0] S1x256x256.size inb_S8x256x256_S1x256x256_4_0_0, w4⟩,
      ⟨Rect.unit ![3, 0, 0] S1x256x256.size inb_S8x256x256_S1x256x256_3_0_0, w3⟩,
      ⟨Rect.unit ![2, 0, 0] S1x256x256.size inb_S8x256x256_S1x256x256_2_0_0, w2⟩,
      ⟨Rect.unit ![1, 0, 0] S1x256x256.size inb_S8x256x256_S1x256x256_1_0_0, w1⟩,
      ⟨Rect.unit ![0, 0, 0] S1x256x256.size inb_S8x256x256_S1x256x256_0_0_0, w0⟩]) = PF xq cp := by
  subst e0 e1 e2 e3 e4 e5 e6 e7
  funext y
  refine View.read_writes_apply_of_pieces V f (PF xq cp) _ ?_ y ?_
  · simp only [List.forall_mem_cons]
    refine ⟨fun x => ?_, fun x => ?_, fun x => ?_, fun x => ?_, fun x => ?_, fun x => ?_, fun x => ?_, fun x => ?_, fun p hp => absurd hp List.not_mem_nil⟩
    · exact (PF_at xq cp 7 (by decide) _ x (by show 7 + 1 * (x 0).val = 7; have h : (x 0).val < 1 := (x 0).isLt; omega) (by show 0 + 1 * (x 1).val = _; omega) (by show 0 + 1 * (x 2).val = _; omega)).symm
    · exact (PF_at xq cp 6 (by decide) _ x (by show 6 + 1 * (x 0).val = 6; have h : (x 0).val < 1 := (x 0).isLt; omega) (by show 0 + 1 * (x 1).val = _; omega) (by show 0 + 1 * (x 2).val = _; omega)).symm
    · exact (PF_at xq cp 5 (by decide) _ x (by show 5 + 1 * (x 0).val = 5; have h : (x 0).val < 1 := (x 0).isLt; omega) (by show 0 + 1 * (x 1).val = _; omega) (by show 0 + 1 * (x 2).val = _; omega)).symm
    · exact (PF_at xq cp 4 (by decide) _ x (by show 4 + 1 * (x 0).val = 4; have h : (x 0).val < 1 := (x 0).isLt; omega) (by show 0 + 1 * (x 1).val = _; omega) (by show 0 + 1 * (x 2).val = _; omega)).symm
    · exact (PF_at xq cp 3 (by decide) _ x (by show 3 + 1 * (x 0).val = 3; have h : (x 0).val < 1 := (x 0).isLt; omega) (by show 0 + 1 * (x 1).val = _; omega) (by show 0 + 1 * (x 2).val = _; omega)).symm
    · exact (PF_at xq cp 2 (by decide) _ x (by show 2 + 1 * (x 0).val = 2; have h : (x 0).val < 1 := (x 0).isLt; omega) (by show 0 + 1 * (x 1).val = _; omega) (by show 0 + 1 * (x 2).val = _; omega)).symm
    · exact (PF_at xq cp 1 (by decide) _ x (by show 1 + 1 * (x 0).val = 1; have h : (x 0).val < 1 := (x 0).isLt; omega) (by show 0 + 1 * (x 1).val = _; omega) (by show 0 + 1 * (x 2).val = _; omega)).symm
    · exact (PF_at xq cp 0 (by decide) _ x (by show 0 + 1 * (x 0).val = 0; have h : (x 0).val < 1 := (x 0).isLt; omega) (by show 0 + 1 * (x 1).val = _; omega) (by show 0 + 1 * (x 2).val = _; omega)).symm
  · exact View.cover_of_tiled _ ![1, 256, 256] (by rfl) y

/-- A load of chunk `k`'s packed columns. -/
theorem readAt_wcol {κ : Kind} {sp : Space} (V : View sig κ sp S960x1024 .i8) (X : V.ty.Contents (Elt F)) (k : ℕ) (hk : k < 8)
    (inb : ∀ a, (![0, 128 * k] : Fin 2 → ℕ) a + S960x128.size a ≤ S960x1024.size a) :
    V.readAt (Elt F) (Rect.unit (s := S960x1024) ![0, 128 * k] S960x128.size inb).toLoadRect X = wcol (V.read (Elt F) X) k hk :=
  funext fun x => readAt2 V X inb rfl x _ fun a => by match a with
    | ⟨0, _⟩ => show (x 0).val = 0 + (x 0).val; omega
    | ⟨1, _⟩ => rfl

/-- A load of a whole rank-two buffer. -/
theorem readAt_all {κ : Kind} {sp : Space} {e : EltTy} {d : Fin 2 → ℕ} (V : View sig κ sp (⟨2, d⟩ : Shape) e) (X : V.ty.Contents (Elt F))
    (inb : ∀ a, (![0, 0] : Fin 2 → ℕ) a + d a ≤ d a) :
    V.readAt (Elt F) (Rect.unit (s := ⟨2, d⟩) ![0, 0] d inb).toLoadRect X = V.read (Elt F) X :=
  funext fun x => readAt2 V X inb rfl x _ fun a => by match a with
    | ⟨0, _⟩ => show (x 0).val = 0 + (x 0).val; omega
    | ⟨1, _⟩ => show (x 1).val = 0 + (x 1).val; omega

/-- The product of chunk `k` as the body computes it from its loads. -/
theorem payP {κ κ' : Kind} {sp sp' : Space} (V : View sig κ sp S256x960 .bf16) (X : V.ty.Contents (Elt F)) (V' : View sig κ' sp' S960x1024 .i8)
    (X' : V'.ty.Contents (Elt F)) (k : ℕ) (hk : k < 8) (inb : ∀ a, (![0, 0] : Fin 2 → ℕ) a + S256x960.size a ≤ S256x960.size a)
    (inb' : ∀ a, (![0, 128 * k] : Fin 2 → ℕ) a + S960x128.size a ≤ S960x1024.size a) :
    k0_pay31 (V.readAt (Elt F) (Rect.unit (s := S256x960) ![0, 0] S256x960.size inb).toLoadRect X)
      (V'.readAt (Elt F) (Rect.unit (s := S960x1024) ![0, 128 * k] S960x128.size inb').toLoadRect X')
      = k0_pay31 (V.read (Elt F) X) (wcol (V'.read (Elt F) X') k hk) := by
  rw [readAt_wcol V' X' k hk inb', readAt_all V X inb]

/-! ## What the first step leaves: the query rows, their sums and their products with the mean -/

/-- One batch of the queries. -/
def xb (x : Vec F S2x960x128 .bf16) (b : Fin 2) : Vec F S1x960x128 .bf16 := fun y => x (ix3 b ⟨(y 1).val, (y 1).isLt⟩ ⟨(y 2).val, (y 2).isLt⟩)

/-- The batch a row belongs to. -/
def rb (r : Fin 256) : Fin 2 := ⟨r.val / 128, by omega⟩

/-- The query rows. -/
def XQf (x : Vec F S2x960x128 .bf16) : Vec F S256x960 .bf16 := fun y =>
  k0_pay6 (xb x (rb (y 0))) (ix2 ⟨(y 0).val % 128, Nat.mod_lt _ (by decide)⟩ ⟨(y 1).val, (y 1).isLt⟩)

/-- The sums of the query rows, on every lane. -/
def SQf (x : Vec F S2x960x128 .bf16) : Vec F S256x128 .f32 := fun y =>
  k0_pay7 (xb x (rb (y 0))) (ix2 ⟨(y 0).val % 128, Nat.mod_lt _ (by decide)⟩ ⟨(y 1).val, (y 1).isLt⟩)

/-- The products of the query rows with the mean, on every lane. -/
def QMf (x : Vec F S2x960x128 .bf16) (mu : Vec F S1x960 .f32) : Vec F S256x128 .f32 := fun y =>
  k0_pay8 (xb x (rb (y 0))) mu (ix2 ⟨(y 0).val % 128, Nat.mod_lt _ (by decide)⟩ ⟨(y 1).val, (y 1).isLt⟩)

/-- Two stores of 128 rows each leave the rows of the two payloads. -/
theorem read_two {κ : Kind} {sp : Space} {e : EltTy} {n : ℕ} (V : View sig κ sp (⟨2, ![256, n]⟩ : Shape) e) (f : V.ty.Contents (Elt F))
    (w : Fin 2 → Vec F (⟨2, ![128, n]⟩ : Shape) e) (w0 w1 : Vec F (⟨2, ![128, n]⟩ : Shape) e) (e0 : w0 = w 0) (e1 : w1 = w 1)
    (inb0 : ∀ a, (![0, 0] : Fin 2 → ℕ) a + (![128, n] : Fin 2 → ℕ) a ≤ (![256, n] : Fin 2 → ℕ) a)
    (inb1 : ∀ a, (![128, 0] : Fin 2 → ℕ) a + (![128, n] : Fin 2 → ℕ) a ≤ (![256, n] : Fin 2 → ℕ) a)
    (y : (⟨2, ![256, n]⟩ : Shape).Idx) :
    V.read (Elt F) (V.writes (Elt F) f [⟨Rect.unit (s := ⟨2, ![256, n]⟩) ![128, 0] ![128, n] inb1, w1⟩, ⟨Rect.unit (s := ⟨2, ![256, n]⟩) ![0, 0] ![128, n] inb0, w0⟩]) y
      = w (rb (y 0)) (ix2 ⟨(y 0).val % 128, Nat.mod_lt _ (by decide)⟩ ⟨(y 1).val, (y 1).isLt⟩) := by
  subst e0 e1
  have hr : (y 0).val < 256 := (y 0).isLt
  by_cases h : 128 ≤ (y 0).val
  · rw [View.read_writes_cons_unit_of_mem V f inb1 (w 1) _ y (ix2 ⟨(y 0).val % 128, Nat.mod_lt _ (by decide)⟩ ⟨(y 1).val, (y 1).isLt⟩) rfl
      (fun a => by match a with
        | ⟨0, _⟩ => show (y 0).val = 128 + (y 0).val % 128; omega
        | ⟨1, _⟩ => show (y 1).val = 0 + (y 1).val; omega)]
    exact congrFun (congrArg w (Fin.ext (show 1 = (y 0).val / 128 by omega))) _
  · rw [View.read_writes_cons_unit_of_not_mem V f inb1 (w 1) _ y rfl (0 : Fin 2) (Or.inl (show (y 0).val < 128 by omega)),
      View.read_writes_cons_unit_of_mem V f inb0 (w 0) _ y (ix2 ⟨(y 0).val % 128, Nat.mod_lt _ (by decide)⟩ ⟨(y 1).val, (y 1).isLt⟩) rfl
      (fun a => by match a with
        | ⟨0, _⟩ => show (y 0).val = 0 + (y 0).val % 128; omega
        | ⟨1, _⟩ => show (y 1).val = 0 + (y 1).val; omega)]
    exact congrFun (congrArg w (Fin.ext (show 0 = (y 0).val / 128 by omega))) _

/-- A load of one batch of the queries. -/
theorem readAt_xb {κ : Kind} {sp : Space} (V : View sig κ sp S2x960x128 .bf16) (X : V.ty.Contents (Elt F)) (b : Fin 2)
    (inb : ∀ a, (![b.val, 0, 0] : Fin 3 → ℕ) a + S1x960x128.size a ≤ S2x960x128.size a) :
    V.readAt (Elt F) (Rect.unit (s := S2x960x128) ![b.val, 0, 0] S1x960x128.size inb).toLoadRect X = xb (V.read (Elt F) X) b :=
  funext fun x => readAt3 V X inb rfl x _ fun a => by match a with
    | ⟨0, _⟩ => show b.val = b.val + (x 0).val; have h : (x 0).val < 1 := (x 0).isLt; omega
    | ⟨1, _⟩ => show (x 1).val = 0 + (x 1).val; omega
    | ⟨2, _⟩ => show (x 2).val = 0 + (x 2).val; omega

end Cert.Kernel.Hand
-- ==== Proof.FactBK.lean ====
module

public import proofs.«01_k».proof.Proof.TabK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pointwise.ElementwiseCore

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A row of bounds or steps, spread to the lanes of a chunk -/

/-- The lane index the body builds: twice the lane plus the parity, wrapped at 128. -/
def laneIx (p : BitVec 32) : IVec S8x128 32 :=
  andi (addi (muli (broadcast S8x128 2#32) (iota .tc S8x128 32 [1] iota_S8x128_d1_w32)) (broadcast S8x128 p)) (broadcast S8x128 127#32)

/-- The lanes of a block of eight rows gathered at `laneIx`. -/
def laneG (p : BitVec 32) (x : FVec F S8x128 .f32) : FVec F S8x128 .f32 :=
  dynamicGather 1 x (shapeCast S8x128 (shapeCast S8x128x1 (select (cmpi .slt (laneIx p) (broadcast S8x128 0#32))
    (addi (laneIx p) (broadcast S8x128 128#32)) (laneIx p)) shapeCasts_S8x128_S8x128x1) shapeCasts_S8x128x1_S8x128)

/-- The gathered lane as one word, for lane `v`. -/
def laneW (v p : BitVec 32) : BitVec 32 :=
  Scalar.select (IntOp.cmpi .slt (IntOp.andi (IntOp.addi (IntOp.muli 2#32 v) p) 127#32) 0#32)
    (IntOp.addi (IntOp.andi (IntOp.addi (IntOp.muli 2#32 v) p) 127#32) 128#32) (IntOp.andi (IntOp.addi (IntOp.muli 2#32 v) p) 127#32)

theorem laneW_eq : ∀ (p : Fin 2) (l : Fin 128), (laneW (BitVec.ofNat 32 l.val) (BitVec.ofNat 32 p.val)).toNat % 128 = (2 * l.val + p.val) % 128 := by
  decide +kernel

theorem laneG_apply (p : Fin 2) (x : FVec F S8x128 .f32) (r : Fin 8) (l : Fin 128) :
    laneG (BitVec.ofNat 32 p.val) x (ix2 r l) = x (ix2 r ⟨(2 * l.val + p.val) % 128, Nat.mod_lt _ (by decide)⟩) := by
  unfold laneG
  rw [shapeCast_shapeCast, dynamicGather_apply]
  refine congrArg x (funext fun a => Fin.ext ?_)
  match a with
  | ⟨0, _⟩ => rfl
  | ⟨1, _⟩ =>
    refine Eq.trans ?_ (laneW_eq p l)
    have hi : iota .tc S8x128 32 [1] iota_S8x128_d1_w32 (ix2 r l) = BitVec.ofNat 32 l.val := iota_single_apply _ _ _ _ _ _
    rw [← hi]
    rfl

/-- Where a cell's bound and step lie in their block. -/
def jx (q : Fin 2) (k : Fin 8) (l : Fin 128) : S2048.Idx := ix1 ⟨256 * k.val + 2 * l.val + q.val, by omega⟩

/-- The first and the last eight rows of a vector of 2048, lanes gathered. -/
def loP (p : BitVec 32) (v : Vec F S2048 .f32) : FVec F S1x8x128 .f32 :=
  shapeCast S1x8x128 (laneG p (extractStridedSlice S8x128 ![0, 0] (shapeCast S16x128 (shapeCast S2048 v shapeCasts_S2048_S2048) shapeCasts_S2048_S16x128)
    slices_S16x128_o0_0_S8x128)) shapeCasts_S8x128_S1x8x128
def hiP (p : BitVec 32) (v : Vec F S2048 .f32) : FVec F S1x8x128 .f32 :=
  shapeCast S1x8x128 (laneG p (extractStridedSlice S8x128 ![8, 0] (shapeCast S16x128 (shapeCast S2048 v shapeCasts_S2048_S2048) shapeCasts_S2048_S16x128)
    slices_S16x128_o8_0_S8x128)) shapeCasts_S8x128_S1x8x128

theorem rows_apply (v : Vec F S2048 .f32) (r : Fin 16) (l : Fin 128) :
    shapeCast S16x128 (shapeCast S2048 v shapeCasts_S2048_S2048) shapeCasts_S2048_S16x128 (ix2 r l) = v (ix1 ⟨128 * r.val + l.val, by omega⟩) := by
  rw [shapeCast_self]
  refine shapeCast_apply v shapeCasts_S2048_S16x128 (ix2 r l) (ix1 ⟨128 * r.val + l.val, by omega⟩) ?_
  rw [Shape.rowMajor_val_one, Shape.rowMajor_val_two]
  show 128 * r.val + l.val = r.val * 128 + l.val
  omega

theorem loP_apply (p : Fin 2) (v : Vec F S2048 .f32) (r : Fin 8) (l : Fin 128) :
    loP (BitVec.ofNat 32 p.val) v (ix3 (0 : Fin 1) r l) = v (ix1 ⟨128 * r.val + (2 * l.val + p.val) % 128, by omega⟩) := by
  unfold loP
  rw [shapeCast_ab_1ab_apply, laneG_apply]
  rw [extractStridedSlice_apply ![0, 0] _ slices_S16x128_o0_0_S8x128 _ (ix2 (⟨r.val, by omega⟩ : Fin 16) (⟨(2 * l.val + p.val) % 128, Nat.mod_lt _ (by decide)⟩ : Fin 128))
    (fun a => by match a with
      | ⟨0, _⟩ => show r.val = 0 + r.val; omega
      | ⟨1, _⟩ => show (2 * l.val + p.val) % 128 = 0 + (2 * l.val + p.val) % 128; omega), rows_apply]

theorem hiP_apply (p : Fin 2) (v : Vec F S2048 .f32) (r : Fin 8) (l : Fin 128) :
    hiP (BitVec.ofNat 32 p.val) v (ix3 (0 : Fin 1) r l) = v (ix1 ⟨128 * (8 + r.val) + (2 * l.val + p.val) % 128, by omega⟩) := by
  unfold hiP
  rw [shapeCast_ab_1ab_apply, laneG_apply]
  rw [extractStridedSlice_apply ![8, 0] _ slices_S16x128_o8_0_S8x128 _ (ix2 (⟨8 + r.val, by omega⟩ : Fin 16) (⟨(2 * l.val + p.val) % 128, Nat.mod_lt _ (by decide)⟩ : Fin 128))
    (fun a => by match a with
      | ⟨0, _⟩ => show 8 + r.val = 8 + r.val; omega
      | ⟨1, _⟩ => show (2 * l.val + p.val) % 128 = 0 + (2 * l.val + p.val) % 128; omega), rows_apply]

/-- The sixteen gathered rows as they lie in the buffer. -/
theorem read_rows {κ : Kind} {sp : Space} (V : View sig κ sp S5x16x128 .f32) (f : V.ty.Contents (Elt F)) (p : Fin 2) (v : Vec F S2048 .f32)
    (L : List (View.Piece (Elt F) S5x16x128 .f32)) (s : Fin 5)
    (inb8 : ∀ a, (![s.val, 8, 0] : Fin 3 → ℕ) a + S1x8x128.size a ≤ S5x16x128.size a)
    (inb0 : ∀ a, (![s.val, 0, 0] : Fin 3 → ℕ) a + S1x8x128.size a ≤ S5x16x128.size a) (r : Fin 16) (l : Fin 128) :
    V.read (Elt F) (V.writes (Elt F) f (⟨Rect.unit ![s.val, 8, 0] S1x8x128.size inb8, hiP (BitVec.ofNat 32 p.val) v⟩
      :: ⟨Rect.unit ![s.val, 0, 0] S1x8x128.size inb0, loP (BitVec.ofNat 32 p.val) v⟩ :: L)) (ix3 s r l)
      = v (ix1 ⟨128 * r.val + (2 * l.val + p.val) % 128, by omega⟩) := by
  by_cases h : 8 ≤ r.val
  · rw [View.read_writes_cons_unit_of_mem V f inb8 (hiP _ v) _ _ (ix3 (0 : Fin 1) (⟨r.val - 8, by omega⟩ : Fin 8) l) rfl
      (fun a => by match a with
        | ⟨0, _⟩ => rfl
        | ⟨1, _⟩ => show r.val = 8 + (r.val - 8); omega
        | ⟨2, _⟩ => show l.val = 0 + l.val; omega), hiP_apply]
    refine congrArg (fun z => v (ix1 z)) (Fin.ext ?_)
    show 128 * (8 + (r.val - 8)) + (2 * l.val + p.val) % 128 = 128 * r.val + (2 * l.val + p.val) % 128
    omega
  · rw [View.read_writes_cons_unit_of_not_mem V f inb8 (hiP _ v) _ _ rfl (1 : Fin 3) (Or.inl (show r.val < 8 by omega)),
      View.read_writes_cons_unit_of_mem V f inb0 (loP _ v) _ _ (ix3 (0 : Fin 1) (⟨r.val, by omega⟩ : Fin 8) l) rfl
      (fun a => by match a with
        | ⟨0, _⟩ => rfl
        | ⟨1, _⟩ => show r.val = 0 + r.val; omega
        | ⟨2, _⟩ => show l.val = 0 + l.val; omega), loP_apply]

/-- Low lanes from the one row, high lanes from the other. -/
def selRow (a b : Vec F S1x8x128 .f32) : FVec F S8x128 .f32 :=
  select k0_pay85 (shapeCast S8x128 a shapeCasts_S1x8x128_S8x128) (shapeCast S8x128 b shapeCasts_S1x8x128_S8x128)

theorem low_lane : ∀ l : Fin 128, IntOp.cmpi .slt (BitVec.ofNat 32 l.val) 64#32 = if l.val < 64 then 1#1 else 0#1 := by decide +kernel

theorem selRow_apply (a b : Vec F S1x8x128 .f32) (k : Fin 8) (l : Fin 128) :
    selRow a b (ix2 k l) = if l.val < 64 then a (ix3 (0 : Fin 1) k l) else b (ix3 (0 : Fin 1) k l) := by
  have hi : iota .tc S8x128 32 [1] iota_S8x128_d1_w32 (ix2 k l) = BitVec.ofNat 32 l.val := iota_single_apply _ _ _ _ _ _
  have hc : k0_pay85 (ix2 k l) = if l.val < 64 then 1#1 else 0#1 := by
    refine Eq.trans ?_ (low_lane l)
    rw [← hi]
    rfl
  show (if k0_pay85 (ix2 k l) = 1#1 then shapeCast S8x128 a shapeCasts_S1x8x128_S8x128 (ix2 k l) else shapeCast S8x128 b shapeCasts_S1x8x128_S8x128 (ix2 k l)) = _
  rw [hc, shapeCast_1ab_ab_apply, shapeCast_1ab_ab_apply]
  by_cases h : l.val < 64
  · rw [if_pos h, if_pos h, if_pos rfl]
  · rw [if_neg h, if_neg h, if_neg (by decide)]

/-- Every other row of the sixteen, even ones on the low lanes and odd ones on the high lanes: cell `(k, l)` is element `256 k + 2 l + p`. -/
theorem row_q {κ : Kind} {sp : Space} (V : View sig κ sp S5x16x128 .f32) (f : V.ty.Contents (Elt F)) (p : Fin 2) (v : Vec F S2048 .f32)
    (L : List (View.Piece (Elt F) S5x16x128 .f32)) (s : Fin 5)
    (inb8 : ∀ a, (![s.val, 8, 0] : Fin 3 → ℕ) a + S1x8x128.size a ≤ S5x16x128.size a)
    (inb0 : ∀ a, (![s.val, 0, 0] : Fin 3 → ℕ) a + S1x8x128.size a ≤ S5x16x128.size a) (inbA inbB) :
    selRow (V.readAt (Elt F) (⟨![s.val, 0, 0], S1x8x128.size, ![1, 2, 1], inbA⟩ : LoadRect S5x16x128)
        (V.writes (Elt F) f (⟨Rect.unit ![s.val, 8, 0] S1x8x128.size inb8, hiP (BitVec.ofNat 32 p.val) v⟩
          :: ⟨Rect.unit ![s.val, 0, 0] S1x8x128.size inb0, loP (BitVec.ofNat 32 p.val) v⟩ :: L)))
      (V.readAt (Elt F) (⟨![s.val, 1, 0], S1x8x128.size, ![1, 2, 1], inbB⟩ : LoadRect S5x16x128)
        (V.writes (Elt F) f (⟨Rect.unit ![s.val, 8, 0] S1x8x128.size inb8, hiP (BitVec.ofNat 32 p.val) v⟩
          :: ⟨Rect.unit ![s.val, 0, 0] S1x8x128.size inb0, loP (BitVec.ofNat 32 p.val) v⟩ :: L)))
      = fun y => v (jx p (y 0) (y 1)) := by
  funext y
  obtain ⟨k, l, rfl⟩ : ∃ (k : Fin 8) (l : Fin 128), y = ix2 k l := ⟨y 0, y 1, eq_ix2 y⟩
  rw [selRow_apply]
  by_cases h : l.val < 64
  · rw [if_pos h]
    refine Eq.trans ?_ ((read_rows V f p v L s inb8 inb0 ⟨2 * k.val, by omega⟩ l).trans ?_)
    · refine congrArg (V.read (Elt F) _) (funext fun a => Fin.ext ?_)
      match a with
      | ⟨0, _⟩ => rfl
      | ⟨1, _⟩ => show 0 + 2 * k.val = 2 * k.val; omega
      | ⟨2, _⟩ => show 0 + 1 * l.val = l.val; omega
    · refine congrArg (fun z => v (ix1 z)) (Fin.ext ?_)
      show 128 * (2 * k.val) + (2 * l.val + p.val) % 128 = 256 * k.val + 2 * l.val + p.val
      omega
  · rw [if_neg h]
    refine Eq.trans ?_ ((read_rows V f p v L s inb8 inb0 ⟨2 * k.val + 1, by omega⟩ l).trans ?_)
    · refine congrArg (V.read (Elt F) _) (funext fun a => Fin.ext ?_)
      match a with
      | ⟨0, _⟩ => rfl
      | ⟨1, _⟩ => show 1 + 2 * k.val = 2 * k.val + 1; omega
      | ⟨2, _⟩ => show 0 + 1 * l.val = l.val; omega
    · refine congrArg (fun z => v (ix1 z)) (Fin.ext ?_)
      show 128 * (2 * k.val + 1) + (2 * l.val + p.val) % 128 = 256 * k.val + 2 * l.val + p.val
      omega

/-- The step as it scales the products: the one sixteenth on the odd columns, whose codes are read sixteen times too large. -/
def stepq (st : Vec F S2048 .f32) (q : Fin 2) (k : Fin 8) (l : Fin 128) : F .f32 :=
  if q.val = 0 then st (jx q k l) else FloatOps.mulf (st (jx q k l)) (Scalar.ofBits .f32 0x3D800000#32)

/-- The four rows of bounds and steps of a block. -/
def AFFf (bd st : Vec F S2048 .f32) : Vec F S4x8x128 .f32 := fun y =>
  if (y 0).val < 2 then bd (jx ⟨(y 0).val % 2, Nat.mod_lt _ (by decide)⟩ (y 1) (y 2))
  else stepq st ⟨(y 0).val % 2, Nat.mod_lt _ (by decide)⟩ (y 1) (y 2)

theorem AFFf_bd (bd st : Vec F S2048 .f32) (q : Fin 2) (k : Fin 8) (l : Fin 128) :
    AFFf bd st (ix3 (⟨q.val, by omega⟩ : Fin 4) k l) = bd (jx q k l) := by
  refine (if_pos (show q.val < 2 from q.isLt)).trans ?_
  exact congrArg (fun z => bd (jx z k l)) (Fin.ext (show q.val % 2 = q.val by omega))

theorem AFFf_st (bd st : Vec F S2048 .f32) (q : Fin 2) (k : Fin 8) (l : Fin 128) :
    AFFf bd st (ix3 (⟨2 + q.val, by omega⟩ : Fin 4) k l) = stepq st q k l := by
  refine (if_neg (show ¬ 2 + q.val < 2 by omega)).trans ?_
  exact congrArg (fun z => stepq st z k l) (Fin.ext (show (2 + q.val) % 2 = q.val by omega))

theorem aff_piece (bd st : Vec F S2048 .f32) (g : FVec F S8x128 .f32) (s : Fin 4)
    (inb : ∀ a, (![s.val, 0, 0] : Fin 3 → ℕ) a + S1x8x128.size a ≤ S4x8x128.size a)
    (h : ∀ (k : Fin 8) (l : Fin 128), g (ix2 k l) = AFFf bd st (ix3 s k l)) (x : S1x8x128.Idx) :
    shapeCast S1x8x128 g shapeCasts_S8x128_S1x8x128 x = AFFf bd st ((Rect.unit (s := S4x8x128) ![s.val, 0, 0] S1x8x128.size inb).emb x) := by
  obtain ⟨u, k, l, rfl⟩ : ∃ (u : Fin 1) (k : Fin 8) (l : Fin 128), x = ix3 u k l := ⟨x 0, x 1, x 2, eq_ix3 x⟩
  rw [shapeCast_ab_1ab_apply, h]
  refine congrArg (AFFf bd st) (funext fun a => Fin.ext ?_)
  match a with
  | ⟨0, _⟩ => show s.val = s.val + 1 * u.val; omega
  | ⟨1, _⟩ => show k.val = 0 + 1 * k.val; omega
  | ⟨2, _⟩ => show l.val = 0 + 1 * l.val; omega

/-- Four row stores leave the table of bounds and steps. -/
theorem read_AFF {κ : Kind} {sp : Space} (V : View sig κ sp S4x8x128 .f32) (f : V.ty.Contents (Elt F)) (bd st : Vec F S2048 .f32)
    (g0 g1 g2 g3 : FVec F S8x128 .f32) (w0 w1 w2 w3 : FVec F S1x8x128 .f32)
    (e0 : g0 = fun y => bd (jx 0 (y 0) (y 1))) (e1 : g1 = fun y => bd (jx 1 (y 0) (y 1)))
    (e2 : g2 = fun y => st (jx 0 (y 0) (y 1))) (e3 : g3 = fun y => st (jx 1 (y 0) (y 1)))
    (d0 : w0 = shapeCast S1x8x128 g0 shapeCasts_S8x128_S1x8x128) (d1 : w1 = shapeCast S1x8x128 g1 shapeCasts_S8x128_S1x8x128)
    (d2 : w2 = shapeCast S1x8x128 g2 shapeCasts_S8x128_S1x8x128)
    (d3 : w3 = shapeCast S1x8x128 (mulf g3 (broadcast S8x128 (Scalar.ofBits .f32 0x3D800000#32))) shapeCasts_S8x128_S1x8x128) :
    V.read (Elt F) (V.writes (Elt F) f [⟨Rect.unit ![3, 0, 0] S1x8x128.size inb_S4x8x128_S1x8x128_3_0_0, w3⟩,
      ⟨Rect.unit ![2, 0, 0] S1x8x128.size inb_S4x8x128_S1x8x128_2_0_0, w2⟩, ⟨Rect.unit ![1, 0, 0] S1x8x128.size inb_S4x8x128_S1x8x128_1_0_0, w1⟩,
      ⟨Rect.unit ![0, 0, 0] S1x8x128.size inb_S4x8x128_S1x8x128_0_0_0, w0⟩]) = AFFf bd st := by
  subst d0 d1 d2 d3 e0 e1 e2 e3
  funext y
  refine View.read_writes_apply_of_pieces V f (AFFf bd st) _ ?_ y ?_
  · simp only [List.forall_mem_cons]
    refine ⟨?_, ?_, ?_, ?_, fun p hp => absurd hp List.not_mem_nil⟩
    · exact aff_piece bd st _ 3 _ fun k l => ((AFFf_st bd st 1 k l).trans (if_neg (show ¬ (1 : Fin 2).val = 0 by decide))).symm
    · exact aff_piece bd st _ 2 _ fun k l => ((AFFf_st bd st 0 k l).trans (if_pos rfl)).symm
    · exact aff_piece bd st _ 1 _ fun k l => (AFFf_bd bd st 1 k l).symm
    · exact aff_piece bd st _ 0 _ fun k l => (AFFf_bd bd st 0 k l).symm
  · exact View.cover_of_tiled _ ![1, 8, 128] (by rfl) y

/-- A load of a whole rank-one buffer. -/
theorem readAt_all1 {κ : Kind} {sp : Space} (V : View sig κ sp S2048 .f32) (X : V.ty.Contents (Elt F))
    (inb : ∀ a, (![0] : Fin 1 → ℕ) a + S2048.size a ≤ S2048.size a) :
    V.readAt (Elt F) (Rect.unit (s := S2048) ![0] S2048.size inb).toLoadRect X = V.read (Elt F) X :=
  funext fun x => congrArg (V.read (Elt F) X) (funext fun a => Fin.ext (by match a with
    | ⟨0, _⟩ => show 0 + 1 * (x 0).val = (x 0).val; omega))

end Cert.Kernel.Hand
-- ==== Proof.FactCK.lean ====
module

public import proofs.«01_k».proof.Proof.TabK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The result block: every half chunk transposed into every other row -/

/-- Where in the table the entry `(b, j, s)` of the result block comes from. -/
def pix (y : S2x2048x128.Idx) : S8x256x256.Idx :=
  ix3 ⟨(y 1).val / 256, by have h : (y 1).val < 2048 := (y 1).isLt; omega⟩
    ⟨128 * (y 0).val + (y 2).val, by have h : (y 0).val < 2 := (y 0).isLt; have h' : (y 2).val < 128 := (y 2).isLt; omega⟩
    ⟨128 * ((y 1).val % 2) + (y 1).val % 256 / 2, by omega⟩

/-- The `n`th of the 32 store rectangles: batch `n / 16`, chunk `n / 2 % 8`, column parity `n % 2`. -/
def stR (n : ℕ) : Rect S2x2048x128 :=
  ⟨(⟨![n / 16 % 2, 256 * (n / 2 % 8) + n % 2, 0], S1x128x128.size, ![1, 2, 1], fun a => by
    match a with
    | ⟨0, _⟩ => exact Or.inr (show n / 16 % 2 + 1 * 0 < 2 by omega)
    | ⟨1, _⟩ => exact Or.inr (show 256 * (n / 2 % 8) + n % 2 + 2 * 127 < 2048 by omega)
    | ⟨2, _⟩ => exact Or.inr (show 0 + 1 * 127 < 128 by omega)⟩ : LoadRect S2x2048x128), spos_1_2_1⟩

theorem ldR_inb (n : ℕ) : ∀ a, (![n / 2 % 8, 128 * (n / 16 % 2), 128 * (n % 2)] : Fin 3 → ℕ) a + S1x128x128.size a ≤ S8x256x256.size a := fun a => by
  match a with
  | ⟨0, _⟩ => show n / 2 % 8 + 1 ≤ 8; omega
  | ⟨1, _⟩ => show 128 * (n / 16 % 2) + 128 ≤ 256; omega
  | ⟨2, _⟩ => show 128 * (n % 2) + 128 ≤ 256; omega

/-- What the `n`th store writes: the transposed half chunk. -/
def stW {κ : Kind} {sp : Space} (V : View sig κ sp S8x256x256 .f32) (f : V.ty.Contents (Elt F)) (n : ℕ) : FVec F S1x128x128 .f32 :=
  k0_pay112 (V.readAt (Elt F) (Rect.unit (s := S8x256x256) ![n / 2 % 8, 128 * (n / 16 % 2), 128 * (n % 2)] S1x128x128.size (ldR_inb n)).toLoadRect f)

/-- The first `n` stores, the newest first. -/
def stL {κ : Kind} {sp : Space} (V : View sig κ sp S8x256x256 .f32) (f : V.ty.Contents (Elt F)) : ℕ → List (View.Piece (Elt F) S2x2048x128 .f32)
  | 0 => []
  | n + 1 => ⟨stR n, stW V f n⟩ :: stL V f n

theorem stW_apply {κ : Kind} {sp : Space} (V : View sig κ sp S8x256x256 .f32) (f : V.ty.Contents (Elt F)) (n : ℕ) (x : (stR n).shape.Idx) :
    stW V f n x = V.read (Elt F) f (pix ((stR n).emb x)) := by
  obtain ⟨u, j, s, rfl⟩ : ∃ (u : Fin 1) (j : Fin 128) (s : Fin 128), x = ix3 u j s := ⟨x 0, x 1, x 2, eq_ix3 x⟩
  show k0_pay112 _ (ix3 u j s) = _
  unfold k0_pay112
  dsimp only
  rw [shapeCast_ab_1ab_apply, transpose_ix2_apply, shapeCast_1ab_ab_apply]
  refine readAt3 V f (ldR_inb n) rfl _ _ fun a => ?_
  match a with
  | ⟨0, _⟩ => show (256 * (n / 2 % 8) + n % 2 + 2 * j.val) / 256 = n / 2 % 8 + 0; omega
  | ⟨1, _⟩ => show 128 * (n / 16 % 2 + 1 * u.val) + (0 + 1 * s.val) = 128 * (n / 16 % 2) + s.val; omega
  | ⟨2, _⟩ => show 128 * ((256 * (n / 2 % 8) + n % 2 + 2 * j.val) % 2) + (256 * (n / 2 % 8) + n % 2 + 2 * j.val) % 256 / 2 = 128 * (n % 2) + j.val; omega

theorem stL_forall {κ : Kind} {sp : Space} (V : View sig κ sp S8x256x256 .f32) (f : V.ty.Contents (Elt F)) (n : ℕ) :
    ∀ p ∈ stL V f n, ∀ x : p.1.shape.Idx, p.2 x = V.read (Elt F) f (pix (p.1.emb x)) := by
  induction n with
  | zero => exact fun p hp => absurd hp List.not_mem_nil
  | succ n ih => exact List.forall_mem_cons.2 ⟨stW_apply V f n, ih⟩

theorem stL_mem {κ : Kind} {sp : Space} (V : View sig κ sp S8x256x256 .f32) (f : V.ty.Contents (Elt F)) (n k : ℕ) (h : k < n) :
    (⟨stR k, stW V f k⟩ : View.Piece (Elt F) S2x2048x128 .f32) ∈ stL V f n := by
  induction n with
  | zero => omega
  | succ n ih =>
    by_cases hk : k = n
    · subst hk; exact List.mem_cons_self
    · exact List.mem_cons_of_mem _ (ih (by omega))

theorem piece_no (b m q : ℕ) (hb : b < 2) (hm : m < 8) (hq : q < 2) :
    16 * b + 2 * m + q < 32 ∧ (16 * b + 2 * m + q) / 16 % 2 = b ∧ (16 * b + 2 * m + q) / 2 % 8 = m ∧ (16 * b + 2 * m + q) % 2 = q := by omega

/-- The 32 stores leave the whole result block. -/
theorem read_prim {κ κ' : Kind} {sp sp' : Space} (V : View sig κ sp S2x2048x128 .f32) (g : V.ty.Contents (Elt F)) (V' : View sig κ' sp' S8x256x256 .f32)
    (f : V'.ty.Contents (Elt F)) : V.read (Elt F) (V.writes (Elt F) g (stL V' f 32)) = fun y => V'.read (Elt F) f (pix y) := by
  funext y
  refine View.read_writes_apply_of_pieces V g (fun y => V'.read (Elt F) f (pix y)) _ (stL_forall V' f 32) y ?_
  have h0 : (y 0).val < 2 := (y 0).isLt
  have h1 : (y 1).val < 2048 := (y 1).isLt
  have h2 : (y 2).val < 128 := (y 2).isLt
  obtain ⟨hn, hb, hm, hq⟩ := piece_no (y 0).val ((y 1).val / 256) ((y 1).val % 2) h0 (by omega) (by omega)
  refine ⟨_, stL_mem V' f 32 (16 * (y 0).val + 2 * ((y 1).val / 256) + (y 1).val % 2) hn, ?_⟩
  refine ((stR _).mem_set).2 fun a => ?_
  match a with
  | ⟨0, _⟩ => exact ⟨0, Nat.one_pos, by show (y 0).val = (16 * (y 0).val + 2 * ((y 1).val / 256) + (y 1).val % 2) / 16 % 2 + 1 * 0; rw [hb]; rfl⟩
  | ⟨1, _⟩ => exact ⟨(y 1).val % 256 / 2, by show (y 1).val % 256 / 2 < 128; omega, by
      show (y 1).val = 256 * ((16 * (y 0).val + 2 * ((y 1).val / 256) + (y 1).val % 2) / 2 % 8) + (16 * (y 0).val + 2 * ((y 1).val / 256) + (y 1).val % 2) % 2 + 2 * ((y 1).val % 256 / 2)
      rw [hm, hq]
      omega⟩
  | ⟨2, _⟩ => exact ⟨(y 2).val, h2, by show (y 2).val = 0 + 1 * (y 2).val; omega⟩

end Cert.Kernel.Hand
-- ==== Proof.Run1K.lean ====
module

public import proofs.«01_k».proof.Proof.OuterK
public import proofs.«01_k».proof.Proof.FactAK
public import proofs.«01_k».proof.Proof.FactBK
public import proofs.«01_k».proof.Proof.FactCK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step: the query rows are set up and the first block multiplied. -/
theorem run_h1 (c : Dev nD) (i : grid0.Coords) (h1 : Scalar.cmpi .ne (Scalar.extui (Scalar.cmpi .eq (BitVec.ofNat 32 (i 0).val) 0#32)) 0#32 = 1#1) (h2 : ¬ (k0_cond2 i = 1#1)) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} X9)
      ∗ (∃ f : BufTy.Contents (Elt F) arg10.view.ty, (arg10.view.loc (c : Thread nD τ) ↦[arg10.view.set]{fullShare} f) ∗ ⌜arg10.view.read (Elt F) f = XQf (arg1.view.read (Elt F) X1)⌝)
      ∗ (∃ f : BufTy.Contents (Elt F) arg11.view.ty, (arg11.view.loc (c : Thread nD τ) ↦[arg11.view.set]{fullShare} f) ∗ ⌜arg11.view.read (Elt F) f = SQf (arg1.view.read (Elt F) X1)⌝)
      ∗ (∃ f : BufTy.Contents (Elt F) arg12.view.ty, (arg12.view.loc (c : Thread nD τ) ↦[arg12.view.set]{fullShare} f) ∗ ⌜arg12.view.read (Elt F) f = QMf (arg1.view.read (Elt F) X1) (arg2.view.read (Elt F) X2)⌝)
      ∗ (∃ f : BufTy.Contents (Elt F) arg13.view.ty, (arg13.view.loc (c : Thread nD τ) ↦[arg13.view.set]{fullShare} f))
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f) ∗ ⌜arg16.view.read (Elt F) f = PF (XQf (arg1.view.read (Elt F) X1)) (arg3.view.read (Elt F) X3)⌝)
      ∗ (arg17.view.loc (c : Thread nD τ) ↦[arg17.view.set]{fullShare} X17)
      ∗ (∃ f : BufTy.Contents (Elt F) arg18.view.ty, (arg18.view.loc (c : Thread nD τ) ↦[arg18.view.set]{fullShare} f))
      ∗ (arg19.view.loc (c : Thread nD τ) ↦[arg19.view.set]{fullShare} X19)
      ∗ (arg20.view.loc (c : Thread nD τ) ↦[arg20.view.set]{fullShare} X20)
      ∗ (arg21.view.loc (c : Thread nD τ) ↦[arg21.view.set]{fullShare} X21)) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; isplitl [H10]; · iexact H10
    ipureintro
    refine funext fun y => ?_
    exact read_two arg10.view X10 (fun b => k0_pay6 (xb (arg1.view.read (Elt F) X1) b)) _ _
      (congrArg k0_pay6 (readAt_xb arg1.view X1 0 inb_S2x960x128_S1x960x128_0_0_0)) (congrArg k0_pay6 (readAt_xb arg1.view X1 1 inb_S2x960x128_S1x960x128_1_0_0))
      inb_S256x960_S128x960_0_0 inb_S256x960_S128x960_128_0 y
  isplitl [H11]
  · iexists _; isplitl [H11]; · iexact H11
    ipureintro
    refine funext fun y => ?_
    exact read_two arg11.view X11 (fun b => k0_pay7 (xb (arg1.view.read (Elt F) X1) b)) _ _
      (congrArg k0_pay7 (readAt_xb arg1.view X1 0 inb_S2x960x128_S1x960x128_0_0_0)) (congrArg k0_pay7 (readAt_xb arg1.view X1 1 inb_S2x960x128_S1x960x128_1_0_0))
      inb_S256x128_S128x128_0_0 inb_S256x128_S128x128_128_0 y
  isplitl [H12]
  · iexists _; isplitl [H12]; · iexact H12
    ipureintro
    refine funext fun y => ?_
    exact read_two arg12.view X12 (fun b => k0_pay8 (xb (arg1.view.read (Elt F) X1) b) (arg2.view.read (Elt F) X2)) _ _
      (congrArg₂ k0_pay8 (readAt_xb arg1.view X1 0 inb_S2x960x128_S1x960x128_0_0_0) (readAt_all arg2.view X2 inb_S1x960_S1x960_0_0))
      (congrArg₂ k0_pay8 (readAt_xb arg1.view X1 1 inb_S2x960x128_S1x960x128_1_0_0) (readAt_all arg2.view X2 inb_S1x960_S1x960_0_0))
      inb_S256x128_S128x128_0_0 inb_S256x128_S128x128_128_0 y
  isplitl [H13]
  · iexists _; iexact H13
  isplitl [H14]
  · iexists _; iexact H14
  isplitl [H15]
  · iexists _; iexact H15
  isplitl [H16]
  · iexists _; isplitl [H16]; · iexact H16
    ipureintro
    have hxq : run_h1.sl.v180 arg1 arg10 X1 = XQf (arg1.view.read (Elt F) X1) :=
      (readAt_all arg10.view _ inb_S256x960_S256x960_0_0).trans (funext fun y => read_two arg10.view _ (fun b => k0_pay6 (xb (arg1.view.read (Elt F) X1) b)) _ _
        (congrArg k0_pay6 (readAt_xb arg1.view X1 0 inb_S2x960x128_S1x960x128_0_0_0)) (congrArg k0_pay6 (readAt_xb arg1.view X1 1 inb_S2x960x128_S1x960x128_1_0_0))
        inb_S256x960_S128x960_0_0 inb_S256x960_S128x960_128_0 y)
    refine read_P arg16.view _ _ _ _ _ _ _ _ _ _ _ ?_ ?_ ?_ ?_ ?_ ?_ ?_ ?_
    · exact congrArg₂ k0_pay31 hxq (readAt_wcol arg3.view X3 0 (by decide) inb_S960x1024_S960x128_0_0)
    · exact congrArg₂ k0_pay31 hxq (readAt_wcol arg3.view X3 1 (by decide) inb_S960x1024_S960x128_0_128)
    · exact congrArg₂ k0_pay31 hxq (readAt_wcol arg3.view X3 2 (by decide) inb_S960x1024_S960x128_0_256)
    · exact congrArg₂ k0_pay31 hxq (readAt_wcol arg3.view X3 3 (by decide) inb_S960x1024_S960x128_0_384)
    · exact congrArg₂ k0_pay31 hxq (readAt_wcol arg3.view X3 4 (by decide) inb_S960x1024_S960x128_0_512)
    · exact congrArg₂ k0_pay31 hxq (readAt_wcol arg3.view X3 5 (by decide) inb_S960x1024_S960x128_0_640)
    · exact congrArg₂ k0_pay31 hxq (readAt_wcol arg3.view X3 6 (by decide) inb_S960x1024_S960x128_0_768)
    · exact congrArg₂ k0_pay31 hxq (readAt_wcol arg3.view X3 7 (by decide) inb_S960x1024_S960x128_0_896)
  isplitl [H17]
  · iexact H17
  isplitl [H18]
  · iexists _; iexact H18
  isplitl [H19]
  · iexact H19
  isplitl [H20]
  · iexact H20
  iexact H21

end Cert.Kernel.Hand
-- ==== Proof.Run2K.lean ====
module

public import proofs.«01_k».proof.Proof.OuterK
public import proofs.«01_k».proof.Proof.FactAK
public import proofs.«01_k».proof.Proof.FactBK
public import proofs.«01_k».proof.Proof.FactCK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An even step between: this block is multiplied into the first table, the second table gives the result. -/
theorem run_h2 (c : Dev nD) (i : grid0.Coords) (h1 : ¬ (Scalar.cmpi .ne (Scalar.extui (Scalar.cmpi .eq (BitVec.ofNat 32 (i 0).val) 0#32)) 0#32 = 1#1)) (h2 : k0_cond2 i = 1#1) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg17.view.read (Elt F) X17) (pix y)⌝)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f) ∗ ⌜arg16.view.read (Elt F) f = PF (arg10.view.read (Elt F) X10) (arg3.view.read (Elt F) X3)⌝)
      ∗ (∃ f : BufTy.Contents (Elt F) arg17.view.ty, (arg17.view.loc (c : Thread nD τ) ↦[arg17.view.set]{fullShare} f))
      ∗ (∃ f : BufTy.Contents (Elt F) arg18.view.ty, (arg18.view.loc (c : Thread nD τ) ↦[arg18.view.set]{fullShare} f))
      ∗ (arg19.view.loc (c : Thread nD τ) ↦[arg19.view.set]{fullShare} X19)
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg17.view fL2).trans ?_
    refine funext fun y => ?_
    have ht := hL9
    have hA : arg21.view.read (Elt F) (arg21.view.writes (Elt F) arg21.view.junk (run_h2.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexact H9
  isplitl [H10]
  · iexact H10
  isplitl [H11]
  · iexact H11
  isplitl [H12]
  · iexact H12
  isplitl [H13]
  · iexact H13
  isplitl [H14]
  · iexists _; iexact H14
  isplitl [H15]
  · iexists _; iexact H15
  isplitl [H16]
  · iexists _; isplitl [H16]; · iexact H16
    ipureintro
    refine read_P arg16.view _ _ _ _ _ _ _ _ _ _ _ ?_ ?_ ?_ ?_ ?_ ?_ ?_ ?_
    · exact (payP arg10.view X10 arg3.view X3 0 (by decide) inb_S256x960_S256x960_0_0 inb_S960x1024_S960x128_0_0)
    · exact (payP arg10.view X10 arg3.view X3 1 (by decide) inb_S256x960_S256x960_0_0 inb_S960x1024_S960x128_0_128)
    · exact (payP arg10.view X10 arg3.view X3 2 (by decide) inb_S256x960_S256x960_0_0 inb_S960x1024_S960x128_0_256)
    · exact (payP arg10.view X10 arg3.view X3 3 (by decide) inb_S256x960_S256x960_0_0 inb_S960x1024_S960x128_0_384)
    · exact (payP arg10.view X10 arg3.view X3 4 (by decide) inb_S256x960_S256x960_0_0 inb_S960x1024_S960x128_0_512)
    · exact (payP arg10.view X10 arg3.view X3 5 (by decide) inb_S256x960_S256x960_0_0 inb_S960x1024_S960x128_0_640)
    · exact (payP arg10.view X10 arg3.view X3 6 (by decide) inb_S256x960_S256x960_0_0 inb_S960x1024_S960x128_0_768)
    · exact (payP arg10.view X10 arg3.view X3 7 (by decide) inb_S256x960_S256x960_0_0 inb_S960x1024_S960x128_0_896)
  isplitl [H17]
  · iexists _; iexact H17
  isplitl [H18]
  · iexists _; iexact H18
  isplitl [H19]
  · iexact H19
  isplitl [H20]
  · iexists _; iexact H20
  iexists _; iexact H21

end Cert.Kernel.Hand
-- ==== Proof.Run3K.lean ====
module

public import proofs.«01_k».proof.Proof.OuterK
public import proofs.«01_k».proof.Proof.FactAK
public import proofs.«01_k».proof.Proof.FactBK
public import proofs.«01_k».proof.Proof.FactCK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An odd step between: this block is multiplied into the second table, the first table gives the result. -/
theorem run_h3 (c : Dev nD) (i : grid0.Coords) (h1 : ¬ (Scalar.cmpi .ne (Scalar.extui (Scalar.cmpi .eq (BitVec.ofNat 32 (i 0).val) 0#32)) 0#32 = 1#1)) (h2 : ¬ (k0_cond2 i = 1#1)) (h3 : k0_cond3 i = 1#1) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg16.view.read (Elt F) X16) (pix y)⌝)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f))
      ∗ (∃ f : BufTy.Contents (Elt F) arg17.view.ty, (arg17.view.loc (c : Thread nD τ) ↦[arg17.view.set]{fullShare} f) ∗ ⌜arg17.view.read (Elt F) f = PF (arg10.view.read (Elt F) X10) (arg3.view.read (Elt F) X3)⌝)
      ∗ (arg18.view.loc (c : Thread nD τ) ↦[arg18.view.set]{fullShare} X18)
      ∗ (∃ f : BufTy.Contents (Elt F) arg19.view.ty, (arg19.view.loc (c : Thread nD τ) ↦[arg19.view.set]{fullShare} f))
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg16.view fL2).trans ?_
    refine funext fun y => ?_
    have ht := hL9
    have hA : arg21.view.read (Elt F) (arg21.view.writes (Elt F) arg21.view.junk (run_h3.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexact H9
  isplitl [H10]
  · iexact H10
  isplitl [H11]
  · iexact H11
  isplitl [H12]
  · iexact H12
  isplitl [H13]
  · iexact H13
  isplitl [H14]
  · iexists _; iexact H14
  isplitl [H15]
  · iexists _; iexact H15
  isplitl [H16]
  · iexists _; iexact H16
  isplitl [H17]
  · iexists _; isplitl [H17]; · iexact H17
    ipureintro
    refine read_P arg17.view _ _ _ _ _ _ _ _ _ _ _ ?_ ?_ ?_ ?_ ?_ ?_ ?_ ?_
    · exact (payP arg10.view X10 arg3.view X3 0 (by decide) inb_S256x960_S256x960_0_0 inb_S960x1024_S960x128_0_0)
    · exact (payP arg10.view X10 arg3.view X3 1 (by decide) inb_S256x960_S256x960_0_0 inb_S960x1024_S960x128_0_128)
    · exact (payP arg10.view X10 arg3.view X3 2 (by decide) inb_S256x960_S256x960_0_0 inb_S960x1024_S960x128_0_256)
    · exact (payP arg10.view X10 arg3.view X3 3 (by decide) inb_S256x960_S256x960_0_0 inb_S960x1024_S960x128_0_384)
    · exact (payP arg10.view X10 arg3.view X3 4 (by decide) inb_S256x960_S256x960_0_0 inb_S960x1024_S960x128_0_512)
    · exact (payP arg10.view X10 arg3.view X3 5 (by decide) inb_S256x960_S256x960_0_0 inb_S960x1024_S960x128_0_640)
    · exact (payP arg10.view X10 arg3.view X3 6 (by decide) inb_S256x960_S256x960_0_0 inb_S960x1024_S960x128_0_768)
    · exact (payP arg10.view X10 arg3.view X3 7 (by decide) inb_S256x960_S256x960_0_0 inb_S960x1024_S960x128_0_896)
  isplitl [H18]
  · iexact H18
  isplitl [H19]
  · iexists _; iexact H19
  isplitl [H20]
  · iexists _; iexact H20
  iexists _; iexact H21

end Cert.Kernel.Hand
-- ==== Proof.Run4K.lean ====
module

public import proofs.«01_k».proof.Proof.OuterK
public import proofs.«01_k».proof.Proof.FactAK
public import proofs.«01_k».proof.Proof.FactBK
public import proofs.«01_k».proof.Proof.FactCK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last step: the first table gives the result. -/
theorem run_h4 (c : Dev nD) (i : grid0.Coords) (h1 : ¬ (Scalar.cmpi .ne (Scalar.extui (Scalar.cmpi .eq (BitVec.ofNat 32 (i 0).val) 0#32)) 0#32 = 1#1)) (h2 : ¬ (k0_cond2 i = 1#1)) (h3 : ¬ (k0_cond3 i = 1#1)) (h4 : k0_cond4 i = 1#1) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg16.view.read (Elt F) X16) (pix y)⌝)
      ∗ (∃ f : BufTy.Contents (Elt F) arg9.view.ty, (arg9.view.loc (c : Thread nD τ) ↦[arg9.view.set]{fullShare} f))
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f))
      ∗ (arg17.view.loc (c : Thread nD τ) ↦[arg17.view.set]{fullShare} X17)
      ∗ (arg18.view.loc (c : Thread nD τ) ↦[arg18.view.set]{fullShare} X18)
      ∗ (arg19.view.loc (c : Thread nD τ) ↦[arg19.view.set]{fullShare} X19)
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg16.view fL2).trans ?_
    refine funext fun y => ?_
    have ht := hL9
    have hA : arg21.view.read (Elt F) (arg21.view.writes (Elt F) arg21.view.junk (run_h4.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexists _; iexact H9
  isplitl [H10]
  · iexact H10
  isplitl [H11]
  · iexact H11
  isplitl [H12]
  · iexact H12
  isplitl [H13]
  · iexact H13
  isplitl [H14]
  · iexists _; iexact H14
  isplitl [H15]
  · iexists _; iexact H15
  isplitl [H16]
  · iexists _; iexact H16
  isplitl [H17]
  · iexact H17
  isplitl [H18]
  · iexact H18
  isplitl [H19]
  · iexact H19
  isplitl [H20]
  · iexists _; iexact H20
  iexists _; iexact H21

end Cert.Kernel.Hand
-- ==== Proof.StepK.lean ====
module

public import proofs.«01_k».proof.Proof.Run1K
public import proofs.«01_k».proof.Proof.Run2K
public import proofs.«01_k».proof.Proof.Run3K
public import proofs.«01_k».proof.Proof.Run4K
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one step of the grid leaves, told of what it found: the first step sets up the query rows, their sums and their
products with the mean, and multiplies its block; every later step keeps those, gives the result of the block before its
own out of the table that holds it, and (but for the last step) multiplies its own block into the other table. -/
def Step (n : ℕ) (X1 : Vec F S2x960x128 .bf16) (X2 : Vec F S1x960 .f32) (X3 : Vec F S960x1024 .i8) (X4 : Vec F S2048 .f32) (X5 : Vec F S2048 .f32) (X10 : Vec F S256x960 .bf16) (X11 : Vec F S256x128 .f32) (X12 : Vec F S256x128 .f32) (X16 : Vec F S8x256x256 .f32) (X17 : Vec F S8x256x256 .f32) (Z8 : Vec F S2x2048x128 .f32) (Z10 : Vec F S256x960 .bf16) (Z11 : Vec F S256x128 .f32) (Z12 : Vec F S256x128 .f32) (Z16 : Vec F S8x256x256 .f32) (Z17 : Vec F S8x256x256 .f32) : Prop :=
  (n = 0 → Z10 = XQf X1 ∧ Z11 = SQf X1 ∧ Z12 = QMf X1 X2 ∧ Z16 = PF (XQf X1) X3)
  ∧ (0 < n → Z10 = X10 ∧ Z11 = X11 ∧ Z12 = X12)
  ∧ (0 < n → n % 2 = 1 → Z8 = fun y => upd X11 X12 (AFFf X4 X5) X16 (pix y))
  ∧ (0 < n → n % 2 = 0 → Z8 = fun y => upd X11 X12 (AFFf X4 X5) X17 (pix y))
  ∧ (0 < n → n < 49 → n % 2 = 0 → Z16 = PF X10 X3)
  ∧ (0 < n → n < 49 → n % 2 = 1 → Z17 = PF X10 X3)

/-- The coordinates of step `n`. -/
def gpt (n : Fin 50) : grid0.Coords := fun a => ⟨n.val, by rw [Fin.eq_zero a]; exact n.isLt⟩

/-- Which branches a step takes, by its number. -/
theorem branches (n : Fin 50) :
    (n.val = 0 ∧ (Scalar.cmpi .ne (Scalar.extui (Scalar.cmpi .eq (BitVec.ofNat 32 n.val) 0#32)) 0#32 = 1#1) ∧ ¬ (k0_cond2 (gpt n) = 1#1) ∧ ¬ (k0_cond3 (gpt n) = 1#1) ∧ ¬ (k0_cond4 (gpt n) = 1#1))
    ∨ ((0 < n.val ∧ n.val < 49 ∧ n.val % 2 = 0) ∧ ¬ (Scalar.cmpi .ne (Scalar.extui (Scalar.cmpi .eq (BitVec.ofNat 32 n.val) 0#32)) 0#32 = 1#1) ∧ (k0_cond2 (gpt n) = 1#1) ∧ ¬ (k0_cond3 (gpt n) = 1#1) ∧ ¬ (k0_cond4 (gpt n) = 1#1))
    ∨ ((0 < n.val ∧ n.val < 49 ∧ n.val % 2 = 1) ∧ ¬ (Scalar.cmpi .ne (Scalar.extui (Scalar.cmpi .eq (BitVec.ofNat 32 n.val) 0#32)) 0#32 = 1#1) ∧ ¬ (k0_cond2 (gpt n) = 1#1) ∧ (k0_cond3 (gpt n) = 1#1) ∧ ¬ (k0_cond4 (gpt n) = 1#1))
    ∨ (n.val = 49 ∧ ¬ (Scalar.cmpi .ne (Scalar.extui (Scalar.cmpi .eq (BitVec.ofNat 32 n.val) 0#32)) 0#32 = 1#1) ∧ ¬ (k0_cond2 (gpt n) = 1#1) ∧ ¬ (k0_cond3 (gpt n) = 1#1) ∧ (k0_cond4 (gpt n) = 1#1)) := by
  revert n; decide +kernel

/-- The first step. -/
theorem step_h1 (c : Dev nD) (i : grid0.Coords) (hn : (i 0).val = 0) (h1 : Scalar.cmpi .ne (Scalar.extui (Scalar.cmpi .eq (BitVec.ofNat 32 (i 0).val) 0#32)) 0#32 = 1#1) (h2 : ¬ (k0_cond2 i = 1#1)) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X10 X11 X12 X16 X17 Z8 Z10 Z11 Z12 Z16 Z17⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h1 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, H8, H9, ⟨%g10, H10, %e10⟩, ⟨%g11, H11, %e11⟩, ⟨%g12, H12, %e12⟩, ⟨%g13, H13⟩, ⟨%g14, H14⟩, ⟨%g15, H15⟩, ⟨%g16, H16, %e16⟩, H17, ⟨%g18, H18⟩, H19, H20, H21⟩
  iapply Hk
  iexists arg8.view.read (Elt F) f8, arg9.view.read (Elt F) f9, arg10.view.read (Elt F) g10, arg11.view.read (Elt F) g11, arg12.view.read (Elt F) g12, arg13.view.read (Elt F) g13, arg14.view.read (Elt F) g14, arg15.view.read (Elt F) g15, arg16.view.read (Elt F) g16, arg17.view.read (Elt F) f17, arg18.view.read (Elt F) g18, arg19.view.read (Elt F) f19, arg20.view.read (Elt F) f20, arg21.view.read (Elt F) f21
  isplitr
  · ipureintro; exact ⟨fun _ => ⟨e10, e11, e12, e16⟩, fun h => by omega, fun h => by omega, fun h => by omega, fun h => by omega, fun h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists g10; isplitr; · ipureintro; rfl
    iexact H10
  isplitl [H11]
  · iexists g11; isplitr; · ipureintro; rfl
    iexact H11
  isplitl [H12]
  · iexists g12; isplitr; · ipureintro; rfl
    iexact H12
  isplitl [H13]
  · iexists g13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists f17; isplitr; · ipureintro; rfl
    iexact H17
  isplitl [H18]
  · iexists g18; isplitr; · ipureintro; rfl
    iexact H18
  isplitl [H19]
  · iexists f19; isplitr; · ipureintro; rfl
    iexact H19
  isplitl [H20]
  · iexists f20; isplitr; · ipureintro; rfl
    iexact H20
  iexists f21; isplitr; · ipureintro; rfl
  iexact H21

/-- The even step. -/
theorem step_h2 (c : Dev nD) (i : grid0.Coords) (hn : 0 < (i 0).val ∧ (i 0).val < 49 ∧ (i 0).val % 2 = 0) (h1 : ¬ (Scalar.cmpi .ne (Scalar.extui (Scalar.cmpi .eq (BitVec.ofNat 32 (i 0).val) 0#32)) 0#32 = 1#1)) (h2 : k0_cond2 i = 1#1) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X10 X11 X12 X16 X17 Z8 Z10 Z11 Z12 Z16 Z17⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h2 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, H9, H10, H11, H12, H13, ⟨%g14, H14⟩, ⟨%g15, H15⟩, ⟨%g16, H16, %e16⟩, ⟨%g17, H17⟩, ⟨%g18, H18⟩, H19, ⟨%g20, H20⟩, ⟨%g21, H21⟩⟩
  iapply Hk
  iexists arg8.view.read (Elt F) g8, arg9.view.read (Elt F) f9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) g17, arg18.view.read (Elt F) g18, arg19.view.read (Elt F) f19, arg20.view.read (Elt F) g20, arg21.view.read (Elt F) g21
  isplitr
  · ipureintro; exact ⟨fun h => by omega, fun _ => ⟨rfl, rfl, rfl⟩, fun _ h => by omega, fun _ _ => e8, fun _ _ _ => e16, fun _ _ h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists g17; isplitr; · ipureintro; rfl
    iexact H17
  isplitl [H18]
  · iexists g18; isplitr; · ipureintro; rfl
    iexact H18
  isplitl [H19]
  · iexists f19; isplitr; · ipureintro; rfl
    iexact H19
  isplitl [H20]
  · iexists g20; isplitr; · ipureintro; rfl
    iexact H20
  iexists g21; isplitr; · ipureintro; rfl
  iexact H21

/-- The odd step. -/
theorem step_h3 (c : Dev nD) (i : grid0.Coords) (hn : 0 < (i 0).val ∧ (i 0).val < 49 ∧ (i 0).val % 2 = 1) (h1 : ¬ (Scalar.cmpi .ne (Scalar.extui (Scalar.cmpi .eq (BitVec.ofNat 32 (i 0).val) 0#32)) 0#32 = 1#1)) (h2 : ¬ (k0_cond2 i = 1#1)) (h3 : k0_cond3 i = 1#1) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X10 X11 X12 X16 X17 Z8 Z10 Z11 Z12 Z16 Z17⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h3 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, H9, H10, H11, H12, H13, ⟨%g14, H14⟩, ⟨%g15, H15⟩, ⟨%g16, H16⟩, ⟨%g17, H17, %e17⟩, H18, ⟨%g19, H19⟩, ⟨%g20, H20⟩, ⟨%g21, H21⟩⟩
  iapply Hk
  iexists arg8.view.read (Elt F) g8, arg9.view.read (Elt F) f9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) g17, arg18.view.read (Elt F) f18, arg19.view.read (Elt F) g19, arg20.view.read (Elt F) g20, arg21.view.read (Elt F) g21
  isplitr
  · ipureintro; exact ⟨fun h => by omega, fun _ => ⟨rfl, rfl, rfl⟩, fun _ _ => e8, fun _ h => by omega, fun _ _ h => by omega, fun _ _ _ => e17⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists g17; isplitr; · ipureintro; rfl
    iexact H17
  isplitl [H18]
  · iexists f18; isplitr; · ipureintro; rfl
    iexact H18
  isplitl [H19]
  · iexists g19; isplitr; · ipureintro; rfl
    iexact H19
  isplitl [H20]
  · iexists g20; isplitr; · ipureintro; rfl
    iexact H20
  iexists g21; isplitr; · ipureintro; rfl
  iexact H21

/-- The last step. -/
theorem step_h4 (c : Dev nD) (i : grid0.Coords) (hn : (i 0).val = 49) (h1 : ¬ (Scalar.cmpi .ne (Scalar.extui (Scalar.cmpi .eq (BitVec.ofNat 32 (i 0).val) 0#32)) 0#32 = 1#1)) (h2 : ¬ (k0_cond2 i = 1#1)) (h3 : ¬ (k0_cond3 i = 1#1)) (h4 : k0_cond4 i = 1#1) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X10 X11 X12 X16 X17 Z8 Z10 Z11 Z12 Z16 Z17⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h4 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, ⟨%g9, H9⟩, H10, H11, H12, H13, ⟨%g14, H14⟩, ⟨%g15, H15⟩, ⟨%g16, H16⟩, H17, H18, H19, ⟨%g20, H20⟩, ⟨%g21, H21⟩⟩
  iapply Hk
  iexists arg8.view.read (Elt F) g8, arg9.view.read (Elt F) g9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) f17, arg18.view.read (Elt F) f18, arg19.view.read (Elt F) f19, arg20.view.read (Elt F) g20, arg21.view.read (Elt F) g21
  isplitr
  · ipureintro; exact ⟨fun h => by omega, fun _ => ⟨rfl, rfl, rfl⟩, fun _ _ => e8, fun _ h => by omega, fun _ h => by omega, fun _ h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists g9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists g20; isplitr; · ipureintro; rfl
    iexact H20
  iexists g21; isplitr; · ipureintro; rfl
  iexact H21

/-- Any step of the grid. -/
theorem step_all (c : Dev nD) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X10 X11 X12 X16 X17 Z8 Z10 Z11 Z12 Z16 Z17⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have hi : i = gpt (i 0) := funext fun a => by rw [Fin.eq_zero a]; rfl
  rcases branches (i 0) with ⟨hn, h1, h2, h3, h4⟩ | ⟨hn, h1, h2, h3, h4⟩ | ⟨hn, h1, h2, h3, h4⟩ | ⟨hn, h1, h2, h3, h4⟩ <;> rw [← hi] at h2 h3 h4
  · exact step_h1 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h2 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h3 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h4 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K

end Cert.Kernel.Hand
-- ==== Proof.DatK.lean ====
module

public import proofs.«01_k».proof.Proof.StepK
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pipeline.Frame
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them -/

/-- The query rows, transposed. -/
def xA (c : Dev nD) : Vec F S2x960x128 .bf16 := V m c main_v0
/-- The mean, as a row. -/
def muA (c : Dev nD) : Vec F S1x960 .f32 := V m c main_v1
/-- The primary codes, transposed. -/
def cpA (c : Dev nD) : Vec F S960x50000 .i8 := V m c main_v2
/-- The bounds. -/
def bdA (c : Dev nD) : Vec F S100000 .f32 := V m c main_v3
/-- The steps. -/
def stA (c : Dev nD) : Vec F S100000 .f32 := V m c main_v4

/-- A block of codes agrees with block `n` of the array wherever that lies inside the array. -/
def CpOK (c : Dev nD) (n : ℕ) (Cp : Vec F S960x1024 .i8) : Prop :=
  ∀ (k : Fin 960) (j : Fin 1024) (h : 1024 * n + j.val < 50000), Cp (ix2 k j) = cpA m c (ix2 k ⟨1024 * n + j.val, h⟩)
/-- A block of a vector agrees with block `n` of the array wherever that lies inside the array. -/
def RowOK (A : Vec F S100000 .f32) (n : ℕ) (v : Vec F S2048 .f32) : Prop :=
  ∀ (j : Fin 2048) (h : 2048 * n + j.val < 100000), v (ix1 j) = A (ix1 ⟨2048 * n + j.val, h⟩)

/-- What the scratch buffers hold before step `n`, past the first: the query rows, their sums, their products with the
mean, and the products of block `n - 1` in the table of its parity. -/
def Inv (c : Dev nD) (n : ℕ) (Z10 : Vec F S256x960 .bf16) (Z11 : Vec F S256x128 .f32) (Z12 : Vec F S256x128 .f32) (Z16 : Vec F S8x256x256 .f32) (Z17 : Vec F S8x256x256 .f32) : Prop :=
  Z10 = XQf (xA m c) ∧ Z11 = SQf (xA m c) ∧ Z12 = QMf (xA m c) (muA m c)
  ∧ (n ≤ 49 → ∃ Cp, CpOK m c (n - 1) Cp ∧ (n % 2 = 1 → Z16 = PF (XQf (xA m c)) Cp) ∧ (n % 2 = 0 → Z17 = PF (XQf (xA m c)) Cp))

/-- What the result's block of block `n` holds. -/
def Res (c : Dev nD) (n : ℕ) (X : Vec F S2x2048x128 .f32) : Prop :=
  ∃ Cp bd st, CpOK m c n Cp ∧ RowOK (bdA m c) n bd ∧ RowOK (stA m c) n st
    ∧ X = fun y => upd (SQf (xA m c)) (QMf (xA m c) (muA m c)) (AFFf bd st) (PF (XQf (xA m c)) Cp) (pix y)

theorem inv_next (c : Dev nD) (n : ℕ) (hn : n < 50) (X1 : Vec F S2x960x128 .bf16) (X2 : Vec F S1x960 .f32) (X3 : Vec F S960x1024 .i8) (X4 : Vec F S2048 .f32) (X5 : Vec F S2048 .f32) (X10 : Vec F S256x960 .bf16) (X11 : Vec F S256x128 .f32) (X12 : Vec F S256x128 .f32) (X16 : Vec F S8x256x256 .f32) (X17 : Vec F S8x256x256 .f32)
    (Z8 : Vec F S2x2048x128 .f32) (Z10 : Vec F S256x960 .bf16) (Z11 : Vec F S256x128 .f32) (Z12 : Vec F S256x128 .f32) (Z16 : Vec F S8x256x256 .f32) (Z17 : Vec F S8x256x256 .f32)
    (hI : 0 < n → Inv m c n X10 X11 X12 X16 X17) (h1 : X1 = xA m c) (h2 : X2 = muA m c) (h3 : CpOK m c (min n 48) X3)
    (h4 : RowOK (bdA m c) (n - 1) X4) (h5 : RowOK (stA m c) (n - 1) X5) (hS : Step n X1 X2 X3 X4 X5 X10 X11 X12 X16 X17 Z8 Z10 Z11 Z12 Z16 Z17) :
    Inv m c (n + 1) Z10 Z11 Z12 Z16 Z17 ∧ (0 < n → Res m c (n - 1) Z8) := by
  subst h1 h2
  obtain ⟨s0, s1, s2, s3, s4, s5⟩ := hS
  rcases Nat.eq_zero_or_pos n with rfl | hp
  · obtain ⟨e10, e11, e12, e16⟩ := s0 rfl
    exact ⟨⟨e10, e11, e12, fun _ => ⟨X3, h3, fun _ => e16, fun h => absurd h (by decide)⟩⟩, fun h => absurd h (Nat.lt_irrefl 0)⟩
  · obtain ⟨i10, i11, i12, ip⟩ := hI hp
    obtain ⟨e10, e11, e12⟩ := s1 hp
    obtain ⟨Cp, hC, ho, he⟩ := ip (by omega)
    subst i10 i11 i12
    refine ⟨⟨e10, e11, e12, fun h49 => ⟨X3, ?_, fun h => s4 hp (by omega) (by omega), fun h => s5 hp (by omega) (by omega)⟩⟩, fun _ => ⟨Cp, X4, X5, hC, h4, h5, ?_⟩⟩
    · have e : min n 48 = n + 1 - 1 := by omega
      rw [← e]; exact h3
    · rcases Nat.mod_two_eq_zero_or_one n with h | h
      · rw [s3 hp h, he h]
      · rw [s2 hp h, ho h]

/-! ## The proof data -/

/-- A scratch buffer at given contents. -/
abbrev scr (c : Dev nD) (b : Ref sig .tc) (X : b.ty.Contents (Elt F)) : sProp 𝕄 := owns (c : Thread nD τ) (Memref.whole b) fullShare X

/-- What holds before step `n`. -/
def PhiT (c : Dev nD) (n : ℕ) : sProp 𝕄 :=
  iprop(∃ Z10 : Vec F S256x960 .bf16, ∃ Z11 : Vec F S256x128 .f32, ∃ Z12 : Vec F S256x128 .f32, ∃ Z13 : Vec F S5x256x128 .i32, ∃ Z14 : Vec F S256x128 .f32, ∃ Z15 : Vec F S256x128 .f32, ∃ Z16 : Vec F S8x256x256 .f32, ∃ Z17 : Vec F S8x256x256 .f32, ∃ Z18 : Vec F S8x256x256 .f32, ∃ Z19 : Vec F S8x256x256 .f32, ∃ Z20 : Vec F S5x16x128 .f32, ∃ Z21 : Vec F S4x8x128 .f32,
    ⌜0 < n → Inv m c n Z10 Z11 Z12 Z16 Z17⌝
    ∗ scr c cc0_scratch0 Z10 ∗ scr c cc0_scratch1 Z11 ∗ scr c cc0_scratch2 Z12 ∗ scr c cc0_scratch3 Z13 ∗ scr c cc0_scratch4 Z14 ∗ scr c cc0_scratch5 Z15 ∗ scr c cc0_scratch6 Z16 ∗ scr c cc0_scratch7 Z17 ∗ scr c cc0_scratch8 Z18 ∗ scr c cc0_scratch9 Z19 ∗ scr c cc0_scratch10 Z20 ∗ scr c cc0_scratch11 Z21 ∗ ∃ r, prngReg c r)

/-- The proof data: inputs are left as found, the result's block of every step past the first holds that of the block
before, and nothing is said of the other result. -/
def rdat (c : Dev nD) : Pipeline.RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun t _ X => 0 < t.val → Res m c (t.val - 1) X
    | ⟨8, _⟩ => fun _ _ _ => True
  Φ t := PhiT m c t.val
  q _ := fullShare
  owed _ := 0

/-! ## What the inputs' blocks hold -/

theorem coords_val (t : Fin cfg0.N) : (grid0.coords t 0).val = t.val := by revert t; decide +kernel

theorem geo2 (t : Fin cfg0.N) : win0_2.index t = ![0, min t.val 48] ∧ win0_2.xsize (grid0.coords t) = ![960, if t.val < 48 then 1024 else 848] := by
  revert t; decide +kernel
theorem geo3 (t : Fin cfg0.N) : win0_3.index t = ![t.val - 1] ∧ win0_3.xsize (grid0.coords t) = ![if t.val < 49 then 2048 else 1696] := by
  revert t; decide +kernel
theorem geo4 (t : Fin cfg0.N) : win0_4.index t = ![t.val - 1] ∧ win0_4.xsize (grid0.coords t) = ![if t.val < 49 then 2048 else 1696] := by
  revert t; decide +kernel

theorem fetched_at {c : Dev nD} (w : Fin cfg0.W) (t : Fin cfg0.N) (d) (y : (cfg0.win w).block.Idx) (h : ∀ a, (y a).val < (cfg0.win w).xsize (grid0.coords t) a) :
    (rdat m c).fetched w t d y = (rdat m c).blockOf w t (fun a => ⟨(y a).val, h a⟩) := by
  unfold Pipeline.RDat.fetched Pipeline.Window.fill
  rw [dif_pos (((cfg0.win w).moved_iff _ _).mpr h)]

theorem finds0 (c : Dev nD) (t : Fin cfg0.N) (Y) (h : (rdat m c).Finds 0 t Y) : Y = xA m c := by
  obtain ⟨d, rfl⟩ := (rdat m c).finds_in_eq_fetched 0 rfl (fun _ _ _ => rfl) (fun _ _ _ h => h) t Y h
  funext y
  refine (fetched_at m 0 t d y fun a => (y a).isLt).trans ?_
  refine congrArg (V m c main_v0) (funext fun a => Fin.ext ?_)
  match a with
  | ⟨0, _⟩ => show 0 * 2 + 1 * (y 0).val = (y 0).val; omega
  | ⟨1, _⟩ => show 0 * 960 + 1 * (y 1).val = (y 1).val; omega
  | ⟨2, _⟩ => show 0 * 128 + 1 * (y 2).val = (y 2).val; omega

theorem finds1 (c : Dev nD) (t : Fin cfg0.N) (Y) (h : (rdat m c).Finds 1 t Y) : Y = muA m c := by
  obtain ⟨d, rfl⟩ := (rdat m c).finds_in_eq_fetched 1 rfl (fun _ _ _ => rfl) (fun _ _ _ h => h) t Y h
  funext y
  refine (fetched_at m 1 t d y fun a => (y a).isLt).trans ?_
  refine congrArg (V m c main_v1) (funext fun a => Fin.ext ?_)
  match a with
  | ⟨0, _⟩ => show 0 * 1 + 1 * (y 0).val = (y 0).val; omega
  | ⟨1, _⟩ => show 0 * 960 + 1 * (y 1).val = (y 1).val; omega

theorem finds2 (c : Dev nD) (t : Fin cfg0.N) (Y) (h : (rdat m c).Finds 2 t Y) : CpOK m c (min t.val 48) Y := by
  obtain ⟨d, rfl⟩ := (rdat m c).finds_in_eq_fetched 2 rfl (fun t t' e => funext fun a => congrArg (fun i => Pipeline.Clip.of (i a) _ _) e) (fun _ _ _ h => h) t Y h
  intro k j hj
  obtain ⟨gi, gx⟩ := geo2 t
  refine (fetched_at m 2 t d (ix2 k j) fun a => ?_).trans ?_
  · show _ < win0_2.xsize (grid0.coords t) a
    rw [gx]
    match a with
    | ⟨0, _⟩ => exact k.isLt
    | ⟨1, _⟩ =>
      show j.val < if t.val < 48 then 1024 else 848
      have := j.isLt
      split <;> omega
  · refine congrArg (V m c main_v2) (funext fun a => Fin.ext ?_)
    match a with
    | ⟨0, _⟩ => show win0_2.index t 0 * 960 + 1 * k.val = k.val; rw [gi]; show 0 * 960 + 1 * k.val = k.val; omega
    | ⟨1, _⟩ => show win0_2.index t 1 * 1024 + 1 * j.val = 1024 * min t.val 48 + j.val; rw [gi]; show min t.val 48 * 1024 + 1 * j.val = _; omega

theorem finds3 (c : Dev nD) (t : Fin cfg0.N) (Y) (h : (rdat m c).Finds 3 t Y) : RowOK (bdA m c) (t.val - 1) Y := by
  obtain ⟨d, rfl⟩ := (rdat m c).finds_in_eq_fetched 3 rfl (fun t t' e => funext fun a => congrArg (fun i => Pipeline.Clip.of (i a) _ _) e) (fun _ _ _ h => h) t Y h
  intro j hj
  obtain ⟨gi, gx⟩ := geo3 t
  refine (fetched_at m 3 t d (ix1 j) fun a => ?_).trans ?_
  · show _ < win0_3.xsize (grid0.coords t) a
    rw [gx]
    match a with
    | ⟨0, _⟩ =>
      show j.val < if t.val < 49 then 2048 else 1696
      have := j.isLt
      split <;> omega
  · refine congrArg (V m c main_v3) (funext fun a => Fin.ext ?_)
    match a with
    | ⟨0, _⟩ => show win0_3.index t 0 * 2048 + 1 * j.val = 2048 * (t.val - 1) + j.val; rw [gi]; show (t.val - 1) * 2048 + 1 * j.val = _; omega

theorem finds4 (c : Dev nD) (t : Fin cfg0.N) (Y) (h : (rdat m c).Finds 4 t Y) : RowOK (stA m c) (t.val - 1) Y := by
  obtain ⟨d, rfl⟩ := (rdat m c).finds_in_eq_fetched 4 rfl (fun t t' e => funext fun a => congrArg (fun i => Pipeline.Clip.of (i a) _ _) e) (fun _ _ _ h => h) t Y h
  intro j hj
  obtain ⟨gi, gx⟩ := geo4 t
  refine (fetched_at m 4 t d (ix1 j) fun a => ?_).trans ?_
  · show _ < win0_4.xsize (grid0.coords t) a
    rw [gx]
    match a with
    | ⟨0, _⟩ =>
      show j.val < if t.val < 49 then 2048 else 1696
      have := j.isLt
      split <;> omega
  · refine congrArg (V m c main_v4) (funext fun a => Fin.ext ?_)
    match a with
    | ⟨0, _⟩ => show win0_4.index t 0 * 2048 + 1 * j.val = 2048 * (t.val - 1) + j.val; rw [gi]; show (t.val - 1) * 2048 + 1 * j.val = _; omega

/-! ## The body's obligation -/

theorem sound_body (c : Dev nD) (t : Fin cfg0.N) (Y : (w : Fin cfg0.W) → (cfg0.win w).block.Idx → Elt F (cfg0.win w).elt) (hY : ∀ w, (rdat m c).Finds w t (Y w)) :
    iprop(PhiT m c t.val ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
    ⊢ wp frame (wpE (defs₀ (F := F)) Variants.none c none) Set.univ (bodyAt0 t) fun _ =>
      iprop(PhiT m c (t.val + 1) ∗ (rdat m c).owesAt () t.castSucc ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X)) := by
  unfold PhiT
  iintro ⟨⟨%Z10, %Z11, %Z12, %Z13, %Z14, %Z15, %Z16, %Z17, %Z18, %Z19, %Z20, %Z21, %hinv, S0, S1, S2, S3, S4, S5, S6, S7, S8, S9, S10, S11, ⟨%r, Hr⟩⟩, Ho, H0, H1, H2, H3, H4, H5, H6, H7, H8⟩
  iapply (step_all c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Y 0) (Y 1) (Y 2) (Y 3) (Y 4) (Y 5) (Y 6) (Y 7) (Y 8) Z10 Z11 Z12 Z13 Z14 Z15 Z16 Z17 Z18 Z19 Z20 Z21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨%W8, %W9, %W10, %W11, %W12, %W13, %W14, %W15, %W16, %W17, %W18, %W19, %W20, %W21, %hs, H0, H1, H2, H3, H4, H5, H6, H7, H8, S0, S1, S2, S3, S4, S5, S6, S7, S8, S9, S10, S11⟩
  rw [coords_val t] at hs
  obtain ⟨hI, hR⟩ := inv_next m c t.val t.isLt (Y 0) (Y 1) (Y 2) (Y 3) (Y 4) Z10 Z11 Z12 Z16 Z17 W8 W10 W11 W12 W16 W17 hinv
    (finds0 m c t _ (hY 0)) (finds1 m c t _ (hY 1)) (finds2 m c t _ (hY 2)) (finds3 m c t _ (hY 3)) (finds4 m c t _ (hY 4)) hs
  isplitl [S0 S1 S2 S3 S4 S5 S6 S7 S8 S9 S10 S11 Hr]
  · iexists W10, W11, W12, W13, W14, W15, W16, W17, W18, W19, W20, W21
    isplitr; · ipureintro; exact fun _ => hI
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexists r; iexact Hr
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists W8; isplitr; · ipureintro; exact hR
    iexact H7
  iexists W9; isplitr; · ipureintro; exact trivial
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  exact triple_restated (sound_body m c t Y hY) rfl .rfl fun _ => .rfl

/-! ## The launch -/

theorem phi_in (c : Dev nD) : Pipeline.ΦA (U := UR sig nD τ) (Val := Elt F) spec0 c ⊢ PhiT m c 0 := by
  unfold Pipeline.ΦA PhiT
  rw [scopedRest0_eq]
  iintro ⟨⟨⟨%Z10, S0⟩, ⟨%Z11, S1⟩, ⟨%Z12, S2⟩, ⟨%Z13, S3⟩, ⟨%Z14, S4⟩, ⟨%Z15, S5⟩, ⟨%Z16, S6⟩, ⟨%Z17, S7⟩, ⟨%Z18, S8⟩, ⟨%Z19, S9⟩, ⟨%Z20, S10⟩, ⟨%Z21, S11⟩⟩, Hr⟩
  iexists Z10, Z11, Z12, Z13, Z14, Z15, Z16, Z17, Z18, Z19, Z20, Z21
  isplitr; · ipureintro; exact fun h => absurd h (Nat.lt_irrefl 0)
  simp only [scr, owns_whole]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact Hr

theorem phi_out (c : Dev nD) (n : ℕ) : PhiT m c n ⊢ Pipeline.ΦA (U := UR sig nD τ) (Val := Elt F) spec0 c := by
  unfold Pipeline.ΦA PhiT
  rw [scopedRest0_eq]
  simp only [scr, owns_whole]
  iintro ⟨%Z10, %Z11, %Z12, %Z13, %Z14, %Z15, %Z16, %Z17, %Z18, %Z19, %Z20, %Z21, -, S0, S1, S2, S3, S4, S5, S6, S7, S8, S9, S10, S11, Hr⟩
  isplitr [Hr]
  · isplitl [S0]; · iexists Z10; iexact S0
    isplitl [S1]; · iexists Z11; iexact S1
    isplitl [S2]; · iexists Z12; iexact S2
    isplitl [S3]; · iexists Z13; iexact S3
    isplitl [S4]; · iexists Z14; iexact S4
    isplitl [S5]; · iexists Z15; iexact S5
    isplitl [S6]; · iexists Z16; iexact S6
    isplitl [S7]; · iexists Z17; iexact S7
    isplitl [S8]; · iexists Z18; iexact S8
    isplitl [S9]; · iexists Z19; iexact S9
    isplitl [S10]; · iexists Z20; iexact S10
    iexists Z21; iexact S11
  iexact Hr

set_option backward.isDefEq.respectTransparency.types false in
/-- The run: every execution ends, the arrays hold what the proof data say, every counter is back at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold Pipeline.RDat.share; split <;> rfl)
    (howed := fun _ _ => rfl) (V := V m) (hmain := hmain m Variants.none) (hA := fun _ _ => rfl)
    (hin := fun c => phi_in m c) (hout := fun c => phi_out m c _)

end Cert.Kernel.Hand
-- ==== Proof.FrmK.lean ====
module

public import proofs.«01_k».proof.Proof.DatK

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs, its arguments end unchanged and every counter is back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (fun h => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩ :
      Pipeline.RDat.FramePost (cfgs 0) (fun c => rdat m c) (V m) _ → _) h.1, h.2⟩) (run_main m ρ)

/-- What the first result's array holds: every element lies in some block, which holds what its step leaves there. -/
def PV (c : Dev nD) (G : Vec F S2x100000x128 .f32) : Prop :=
  ∀ i : S2x100000x128.Idx, ∃ n : ℕ, n < 49 ∧ ∃ X : Vec F S2x2048x128 .f32, ∃ y : S2x2048x128.Idx, Res m c n X
    ∧ (i 0).val = (y 0).val ∧ (i 1).val = 2048 * n + (y 1).val ∧ (i 2).val = (y 2).val ∧ G i = X y

theorem geo7 (t : Fin cfg0.N) : win0_7.index t = ![0, t.val - 1, 0] := by
  revert t; decide +kernel
theorem flush7 (t : Fin cfg0.N) : (cfg0.win 7).flush t = true → 0 < t.val := by
  revert t; decide +kernel

theorem value_of (r : PUnit × MemSt nD τ sig (Elt F)) (h : Pipeline.RDat.FramePost (cfgs 0) (fun c => rdat m c) (V m) r) (c : Dev nD) :
    PV m c (r.2.mem ((c.tc : Thread nD τ).loc main_v7_0)) := by
  obtain ⟨after, hL, hA⟩ := Pipeline.RDat.FramePost.exists_exact h c
  intro i
  have e : r.2.mem ((c.tc : Thread nD τ).loc main_v7_0) = ((rdat m c).withAfter after).arrAt 7 cfg0.N := hA 7
  rw [e]
  refine Pipeline.Dat.arrAt_forall_of_covers ((rdat m c).withAfter after) 7 (fun i v => ∃ n : ℕ, n < 49 ∧ ∃ X : Vec F S2x2048x128 .f32, ∃ y : S2x2048x128.Idx, Res m c n X
    ∧ (i 0).val = (y 0).val ∧ (i 1).val = 2048 * n + (y 1).val ∧ (i 2).val = (y 2).val ∧ v = X y) (by decide +kernel) (fun t hf y => ?_) i
  obtain ⟨Y, -, hR⟩ := hL 7 t hf
  have ht := flush7 t hf
  have hlt : t.val < 50 := t.isLt
  refine ⟨t.val - 1, by omega, after 7 t, (cfg0.win 7).xinj (grid0.coords t) y, hR ht, ?_, ?_, ?_, rfl⟩
  · show win0_7.index t 0 * 2 + 1 * (y 0).val = (y 0).val; rw [geo7]; show 0 * 2 + 1 * (y 0).val = _; omega
  · show win0_7.index t 1 * 2048 + 1 * (y 1).val = 2048 * (t.val - 1) + (y 1).val; rw [geo7]; show (t.val - 1) * 2048 + 1 * (y 1).val = _; omega
  · show win0_7.index t 2 * 128 + 1 * (y 2).val = (y 2).val; rw [geo7]; show 0 * 128 + 1 * (y 2).val = _; omega

/-- The run, with what the first result's array holds. -/
theorem run_val : θ_run defs (onTc (τ := τ) (main (F := F))) ⟨m, fun _ => 0, ρ⟩ (fun r => ∀ c : Dev nD,
      PV m c (r.2.mem ((c.tc : Thread nD τ).loc main_v7_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨value_of m _ h.1 c, (fun h => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩ :
      Pipeline.RDat.FramePost (cfgs 0) (fun c => rdat m c) (V m) _ → _) h.1⟩) (run_main m ρ)

end Cert.Kernel.Hand
-- ==== Proof.TabI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One primary score, and the table after some trips -/

/-- One primary score: `(u + b * q) + s * p`. -/
def score (q u b s p : F .f32) : F .f32 := FloatOps.addf (FloatOps.addf u (FloatOps.mulf b q)) (FloatOps.mulf s p)

/-- The row (inside its group of eight) and the lane of a cell of the table. -/
def rl8 (y : S8x256x256.Idx) : S8x128.Idx := ix2 ⟨(y 1).val % 8, Nat.mod_lt _ (by decide)⟩ ⟨(y 2).val % 128, Nat.mod_lt _ (by decide)⟩

/-- The row and the lane of a cell of the table. -/
def rl (y : S8x256x256.Idx) : S256x128.Idx := ix2 ⟨(y 1).val, (y 1).isLt⟩ ⟨(y 2).val % 128, Nat.mod_lt _ (by decide)⟩

/-- Where a cell's bound (`k = 0`) or step (`k = 1`) lies. -/
def aix (k : Fin 2) (y : S8x256x256.Idx) : S4x8x128.Idx :=
  ix3 ⟨2 * k.val + (y 2).val / 128, by have h : (y 2).val < 256 := (y 2).isLt; omega⟩ ⟨(y 0).val, (y 0).isLt⟩ ⟨(y 2).val % 128, Nat.mod_lt _ (by decide)⟩

/-- A cell updated from one group's rows. -/
def upd8 (q u : Vec F S8x128 .f32) (A : Vec F S4x8x128 .f32) (G : Vec F S8x256x256 .f32) (y : S8x256x256.Idx) : F .f32 :=
  score (q (rl8 y)) (u (rl8 y)) (A (aix 0 y)) (A (aix 1 y)) (G y)

/-- A cell updated from the whole row tables. -/
def upd (q u : Vec F S256x128 .f32) (A : Vec F S4x8x128 .f32) (G : Vec F S8x256x256 .f32) (y : S8x256x256.Idx) : F .f32 :=
  score (q (rl y)) (u (rl y)) (A (aix 0 y)) (A (aix 1 y)) (G y)

/-- The table after `k` chunks of group `g` are updated. -/
def tab8 (q u : Vec F S8x128 .f32) (A : Vec F S4x8x128 .f32) (G : Vec F S8x256x256 .f32) (g k : ℕ) : Vec F S8x256x256 .f32 :=
  match k with
  | 0 => G
  | k + 1 => fun y => if (y 1).val / 8 = g ∧ (y 0).val < k + 1 then upd8 q u A G y else G y

theorem tab8_eq (q u : Vec F S8x128 .f32) (A : Vec F S4x8x128 .f32) (G : Vec F S8x256x256 .f32) (g k : ℕ) :
    tab8 q u A G g k = fun y => if (y 1).val / 8 = g ∧ (y 0).val < k then upd8 q u A G y else G y := by
  cases k with
  | zero => exact funext fun y => (if_neg (by omega)).symm
  | succ k => rfl

/-- The table after `k` groups are updated. -/
def tab (q u : Vec F S256x128 .f32) (A : Vec F S4x8x128 .f32) (G : Vec F S8x256x256 .f32) (k : ℕ) : Vec F S8x256x256 .f32 :=
  match k with
  | 0 => G
  | k + 1 => fun y => if (y 1).val / 8 < k + 1 then upd q u A G y else G y

theorem tab_eq (q u : Vec F S256x128 .f32) (A : Vec F S4x8x128 .f32) (G : Vec F S8x256x256 .f32) (k : ℕ) :
    tab q u A G k = fun y => if (y 1).val / 8 < k then upd q u A G y else G y := by
  cases k with
  | zero => exact funext fun y => (if_neg (by omega)).symm
  | succ k => rfl

/-- One inner trip: the two half rows of chunk `k` of group `g` are rewritten, everything else stays. -/
theorem trip_tab {κ : Kind} {sp : Space} (V : View sig κ sp S8x256x256 .f32) (f : V.ty.Contents (Elt F)) (q u : Vec F S8x128 .f32)
    (A : Vec F S4x8x128 .f32) (G : Vec F S8x256x256 .f32) (g k : ℕ) (hg : g < 32) (hk : k < 8)
    {off1 off2 : Fin 3 → ℕ} (inb1 : ∀ a, off1 a + S1x8x128.size a ≤ S8x256x256.size a)
    (inb2 : ∀ a, off2 a + S1x8x128.size a ≤ S8x256x256.size a)
    (w1 w2 : Vec F S1x8x128 .f32) (h1 : off1 = ![k, 8 * g, 128]) (h2 : off2 = ![k, 8 * g, 0])
    (hf : V.read (Elt F) f = tab8 q u A G g k)
    (hw1 : ∀ (r : Fin 8) (l : Fin 128), w1 (ix3 0 r l) = score (q (ix2 r l)) (u (ix2 r l)) (A (ix3 ⟨1, by decide⟩ ⟨k, hk⟩ l)) (A (ix3 ⟨3, by decide⟩ ⟨k, hk⟩ l))
      (V.read (Elt F) f (ix3 ⟨k, hk⟩ ⟨8 * g + r.val, by omega⟩ ⟨128 + l.val, by omega⟩)))
    (hw2 : ∀ (r : Fin 8) (l : Fin 128), w2 (ix3 0 r l) = score (q (ix2 r l)) (u (ix2 r l)) (A (ix3 ⟨0, by decide⟩ ⟨k, hk⟩ l)) (A (ix3 ⟨2, by decide⟩ ⟨k, hk⟩ l))
      (V.read (Elt F) f (ix3 ⟨k, hk⟩ ⟨8 * g + r.val, by omega⟩ ⟨l.val, by omega⟩))) :
    V.read (Elt F) (V.writes (Elt F) f [⟨Rect.unit off1 S1x8x128.size inb1, w1⟩, ⟨Rect.unit off2 S1x8x128.size inb2, w2⟩])
      = tab8 q u A G g (k + 1) := by
  funext y
  have hc : (y 0).val < 8 := (y 0).isLt
  have hr : (y 1).val < 256 := (y 1).isLt
  have hl : (y 2).val < 256 := (y 2).isLt
  by_cases hin : (y 0).val = k ∧ (y 1).val / 8 = g
  · obtain ⟨rfl, rfl⟩ := hin
    by_cases hl2 : 128 ≤ (y 2).val
    · rw [View.read_writes_cons_unit_of_mem V f inb1 w1 _ y (ix3 (0 : Fin 1) ⟨(y 1).val % 8, by omega⟩ ⟨(y 2).val - 128, by omega⟩) h1
        (fun a => by match a with
          | ⟨0, _⟩ => rfl
          | ⟨1, _⟩ => show (y 1).val = 8 * ((y 1).val / 8) + (y 1).val % 8; omega
          | ⟨2, _⟩ => show (y 2).val = 128 + ((y 2).val - 128); omega), hw1, hf]
      have e : (ix3 ⟨(y 0).val, hk⟩ ⟨8 * ((y 1).val / 8) + (y 1).val % 8, by omega⟩ ⟨128 + ((y 2).val - 128), by omega⟩ : S8x256x256.Idx) = y :=
        funext fun a => Fin.ext (by match a with
          | ⟨0, _⟩ => rfl
          | ⟨1, _⟩ => show 8 * ((y 1).val / 8) + (y 1).val % 8 = (y 1).val; omega
          | ⟨2, _⟩ => show 128 + ((y 2).val - 128) = (y 2).val; omega)
      have e8 : (ix2 ⟨(y 1).val % 8, by omega⟩ ⟨(y 2).val - 128, by omega⟩ : S8x128.Idx) = rl8 y :=
        funext fun a => Fin.ext (by match a with
          | ⟨0, _⟩ => rfl
          | ⟨1, _⟩ => show (y 2).val - 128 = (y 2).val % 128; omega)
      have a0 : (ix3 ⟨1, by decide⟩ ⟨(y 0).val, hk⟩ ⟨(y 2).val - 128, by omega⟩ : S4x8x128.Idx) = aix 0 y :=
        funext fun a => Fin.ext (by match a with
          | ⟨0, _⟩ => show 1 = 2 * 0 + (y 2).val / 128; omega
          | ⟨1, _⟩ => rfl
          | ⟨2, _⟩ => show (y 2).val - 128 = (y 2).val % 128; omega)
      have a1 : (ix3 ⟨3, by decide⟩ ⟨(y 0).val, hk⟩ ⟨(y 2).val - 128, by omega⟩ : S4x8x128.Idx) = aix 1 y :=
        funext fun a => Fin.ext (by match a with
          | ⟨0, _⟩ => show 3 = 2 * 1 + (y 2).val / 128; omega
          | ⟨1, _⟩ => rfl
          | ⟨2, _⟩ => show (y 2).val - 128 = (y 2).val % 128; omega)
      rw [e, e8, a0, a1]
      repeat rw [tab8_eq]
      beta_reduce
      rw [if_neg (by omega), if_pos (by omega)]
      rfl
    · rw [View.read_writes_cons_unit_of_not_mem V f inb1 w1 _ y h1 (2 : Fin 3) (Or.inl (show (y 2).val < 128 by omega)),
        View.read_writes_cons_unit_of_mem V f inb2 w2 _ y (ix3 (0 : Fin 1) ⟨(y 1).val % 8, by omega⟩ ⟨(y 2).val, by omega⟩) h2
        (fun a => by match a with
          | ⟨0, _⟩ => rfl
          | ⟨1, _⟩ => show (y 1).val = 8 * ((y 1).val / 8) + (y 1).val % 8; omega
          | ⟨2, _⟩ => show (y 2).val = 0 + (y 2).val; omega), hw2, hf]
      have e : (ix3 ⟨(y 0).val, hk⟩ ⟨8 * ((y 1).val / 8) + (y 1).val % 8, by omega⟩ ⟨(y 2).val, by omega⟩ : S8x256x256.Idx) = y :=
        funext fun a => Fin.ext (by match a with
          | ⟨0, _⟩ => rfl
          | ⟨1, _⟩ => show 8 * ((y 1).val / 8) + (y 1).val % 8 = (y 1).val; omega
          | ⟨2, _⟩ => rfl)
      have e8 : (ix2 ⟨(y 1).val % 8, by omega⟩ ⟨(y 2).val, by omega⟩ : S8x128.Idx) = rl8 y :=
        funext fun a => Fin.ext (by match a with
          | ⟨0, _⟩ => rfl
          | ⟨1, _⟩ => show (y 2).val = (y 2).val % 128; omega)
      have a0 : (ix3 ⟨0, by decide⟩ ⟨(y 0).val, hk⟩ ⟨(y 2).val, by omega⟩ : S4x8x128.Idx) = aix 0 y :=
        funext fun a => Fin.ext (by match a with
          | ⟨0, _⟩ => show 0 = 2 * 0 + (y 2).val / 128; omega
          | ⟨1, _⟩ => rfl
          | ⟨2, _⟩ => show (y 2).val = (y 2).val % 128; omega)
      have a1 : (ix3 ⟨2, by decide⟩ ⟨(y 0).val, hk⟩ ⟨(y 2).val, by omega⟩ : S4x8x128.Idx) = aix 1 y :=
        funext fun a => Fin.ext (by match a with
          | ⟨0, _⟩ => show 2 = 2 * 1 + (y 2).val / 128; omega
          | ⟨1, _⟩ => rfl
          | ⟨2, _⟩ => show (y 2).val = (y 2).val % 128; omega)
      rw [e, e8, a0, a1]
      repeat rw [tab8_eq]
      beta_reduce
      rw [if_neg (by omega), if_pos (by omega)]
      rfl
  · have hmiss : V.read (Elt F) (V.writes (Elt F) f [⟨Rect.unit off1 S1x8x128.size inb1, w1⟩, ⟨Rect.unit off2 S1x8x128.size inb2, w2⟩]) y = V.read (Elt F) f y := by
      by_cases h0 : (y 0).val = k
      · have h8 : (y 1).val < 8 * g ∨ 8 * g + 8 ≤ (y 1).val := by omega
        rw [View.read_writes_cons_unit_of_not_mem V f inb1 w1 _ y h1 (1 : Fin 3) h8,
          View.read_writes_cons_unit_of_not_mem V f inb2 w2 _ y h2 (1 : Fin 3) h8]
        rfl
      · have h8 : (y 0).val < k ∨ k + 1 ≤ (y 0).val := by omega
        rw [View.read_writes_cons_unit_of_not_mem V f inb1 w1 _ y h1 (0 : Fin 3) h8,
          View.read_writes_cons_unit_of_not_mem V f inb2 w2 _ y h2 (0 : Fin 3) h8]
        rfl
    rw [hmiss, hf]
    repeat rw [tab8_eq]
    beta_reduce
    by_cases hy : (y 1).val / 8 = g ∧ (y 0).val < k
    · rw [if_pos hy, if_pos (by omega)]
    · rw [if_neg hy, if_neg (by omega)]

/-- One whole group: after its eight inner trips the table has one more group updated. -/
theorem tab_succ (q u : Vec F S256x128 .f32) (q8 u8 : Vec F S8x128 .f32) (A : Vec F S4x8x128 .f32) (G : Vec F S8x256x256 .f32) (g : ℕ) (hg : g < 32)
    (hq : ∀ (r : Fin 8) (l : Fin 128), q8 (ix2 r l) = q (ix2 ⟨8 * g + r.val, by omega⟩ l))
    (hu : ∀ (r : Fin 8) (l : Fin 128), u8 (ix2 r l) = u (ix2 ⟨8 * g + r.val, by omega⟩ l)) :
    tab8 q8 u8 A (tab q u A G g) g 8 = tab q u A G (g + 1) := by
  funext y
  have hc : (y 0).val < 8 := (y 0).isLt
  have hr : (y 1).val < 256 := (y 1).isLt
  repeat rw [tab8_eq]
  beta_reduce
  by_cases h : (y 1).val / 8 = g
  · rw [if_pos ⟨h, hc⟩]
    have e : (ix2 ⟨8 * g + (y 1).val % 8, by omega⟩ ⟨(y 2).val % 128, Nat.mod_lt _ (by decide)⟩ : S256x128.Idx) = rl y :=
      funext fun a => Fin.ext (by match a with
        | ⟨0, _⟩ => show 8 * g + (y 1).val % 8 = (y 1).val; omega
        | ⟨1, _⟩ => rfl)
    have hq' := hq ⟨(y 1).val % 8, Nat.mod_lt _ (by decide)⟩ ⟨(y 2).val % 128, Nat.mod_lt _ (by decide)⟩
    have hu' := hu ⟨(y 1).val % 8, Nat.mod_lt _ (by decide)⟩ ⟨(y 2).val % 128, Nat.mod_lt _ (by decide)⟩
    have e' := (congrArg q e).symm.trans hq'.symm
    have e'' := (congrArg u e).symm.trans hu'.symm
    repeat rw [tab_eq]
    beta_reduce
    unfold upd8
    beta_reduce
    rw [if_neg (by omega), if_pos (by omega)]
    unfold upd
    rw [e', e'']
    rfl
  · rw [if_neg (by omega)]
    repeat rw [tab_eq]
    beta_reduce
    by_cases h' : (y 1).val / 8 < g
    · rw [if_pos h', if_pos (by omega)]
    · rw [if_neg h', if_neg (by omega)]

theorem tab8_zero (q u : Vec F S8x128 .f32) (A : Vec F S4x8x128 .f32) (G : Vec F S8x256x256 .f32) (g : ℕ) : tab8 q u A G g 0 = G := rfl

theorem tab_zero (q u : Vec F S256x128 .f32) (A : Vec F S4x8x128 .f32) (G : Vec F S8x256x256 .f32) : tab q u A G 0 = G := rfl

theorem tab_all (q u : Vec F S256x128 .f32) (A : Vec F S4x8x128 .f32) (G : Vec F S8x256x256 .f32) : tab q u A G 32 = upd q u A G := by
  rw [tab_eq]
  exact funext fun y => if_pos (by have h : (y 1).val < 256 := (y 1).isLt; omega)

/-- The two half-row payloads at an index. -/
theorem pay_lo (q u : Vec F S8x128 .f32) (b s : Vec F S1x1x128 .f32) (p : Vec F S1x8x128 .f32) (r : Fin 8) (l : Fin 128) :
    k0_pay50 q u b s p (ix3 (0 : Fin 1) r l) = score (q (ix2 r l)) (u (ix2 r l)) (b (ix3 (0 : Fin 1) (0 : Fin 1) l)) (s (ix3 (0 : Fin 1) (0 : Fin 1) l)) (p (ix3 (0 : Fin 1) r l)) := by
  unfold k0_pay50 k0_pay49
  rw [shapeCast_ab_1ab_apply]
  show FloatOps.addf (FloatOps.addf _ (FloatOps.mulf (broadcastTo _ _ _ _) _)) (FloatOps.mulf (broadcastTo _ _ _ _) (shapeCast _ _ _ _)) = _
  rw [broadcastTo_1b_ab_apply, broadcastTo_1b_ab_apply, shapeCast_1ab_ab_apply, shapeCast_1ab_ab_apply, shapeCast_1ab_ab_apply]
  rfl

theorem pay_hi (q u : Vec F S8x128 .f32) (b s : Vec F S1x1x128 .f32) (p : Vec F S1x8x128 .f32) (r : Fin 8) (l : Fin 128) :
    k0_pay63 (k0_pay52 s) (k0_pay53 q u b) p (ix3 (0 : Fin 1) r l) = score (q (ix2 r l)) (u (ix2 r l)) (b (ix3 (0 : Fin 1) (0 : Fin 1) l)) (s (ix3 (0 : Fin 1) (0 : Fin 1) l)) (p (ix3 (0 : Fin 1) r l)) := by
  unfold k0_pay63 k0_pay62 k0_pay52 k0_pay53
  rw [shapeCast_ab_1ab_apply]
  show FloatOps.addf (FloatOps.addf _ (FloatOps.mulf (broadcastTo _ _ _ _) _)) (FloatOps.mulf (broadcastTo _ _ _ _) (shapeCast _ _ _ _)) = _
  rw [broadcastTo_1b_ab_apply, broadcastTo_1b_ab_apply, shapeCast_1ab_ab_apply, shapeCast_1ab_ab_apply, shapeCast_1ab_ab_apply]
  rfl

/-- A load of one row of a rank-three buffer, and of one group of rows, at an index. -/
theorem readAt3 {κ : Kind} {sp : Space} {e : EltTy} {d n : Fin 3 → ℕ} (V : View sig κ sp (⟨3, d⟩ : Shape) e) (f : V.ty.Contents (Elt F))
    {off off' : Fin 3 → ℕ} (inb : ∀ a, off a + n a ≤ d a) (h : off = off') (x : (⟨3, n⟩ : Shape).Idx) (y : (⟨3, d⟩ : Shape).Idx)
    (hx : ∀ a, (y a).val = off' a + (x a).val) :
    V.readAt (Elt F) (Rect.unit (s := ⟨3, d⟩) off n inb).toLoadRect f x = V.read (Elt F) f y := by
  subst h
  refine congrArg (V.read (Elt F) f) (funext fun a => Fin.ext ?_)
  show off a + 1 * (x a).val = (y a).val
  rw [hx a, Nat.one_mul]

theorem readAt2 {κ : Kind} {sp : Space} {e : EltTy} {d n : Fin 2 → ℕ} (V : View sig κ sp (⟨2, d⟩ : Shape) e) (f : V.ty.Contents (Elt F))
    {off off' : Fin 2 → ℕ} (inb : ∀ a, off a + n a ≤ d a) (h : off = off') (x : (⟨2, n⟩ : Shape).Idx) (y : (⟨2, d⟩ : Shape).Idx)
    (hx : ∀ a, (y a).val = off' a + (x a).val) :
    V.readAt (Elt F) (Rect.unit (s := ⟨2, d⟩) off n inb).toLoadRect f x = V.read (Elt F) f y := by
  subst h
  refine congrArg (V.read (Elt F) f) (funext fun a => Fin.ext ?_)
  show off a + 1 * (x a).val = (y a).val
  rw [hx a, Nat.one_mul]

theorem readA {κ : Kind} {sp : Space} (V : View sig κ sp S4x8x128 .f32) (X : V.ty.Contents (Elt F)) {off : Fin 3 → ℕ}
    (inb : ∀ a, off a + S1x1x128.size a ≤ S4x8x128.size a) (j k : ℕ) (hj : j < 4) (hk : k < 8) (h : off = ![j, k, 0]) (l : Fin 128) :
    V.readAt (Elt F) (Rect.unit (s := S4x8x128) off S1x1x128.size inb).toLoadRect X (ix3 (0 : Fin 1) (0 : Fin 1) l) = V.read (Elt F) X (ix3 ⟨j, hj⟩ ⟨k, hk⟩ l) :=
  readAt3 V X inb h _ _ fun a => by match a with
    | ⟨0, _⟩ => rfl
    | ⟨1, _⟩ => rfl
    | ⟨2, _⟩ => show l.val = 0 + l.val; omega

theorem readP {κ : Kind} {sp : Space} (V : View sig κ sp S8x256x256 .f32) (X : V.ty.Contents (Elt F)) {off : Fin 3 → ℕ}
    (inb : ∀ a, off a + S1x8x128.size a ≤ S8x256x256.size a) (k g o : ℕ) (hk : k < 8) (hg : g < 32) (h : off = ![k, 8 * g, o]) (r : Fin 8) (l : Fin 128)
    (c : Fin 256) (hc : c.val = o + l.val) :
    V.readAt (Elt F) (Rect.unit (s := S8x256x256) off S1x8x128.size inb).toLoadRect X (ix3 (0 : Fin 1) r l) = V.read (Elt F) X (ix3 ⟨k, hk⟩ ⟨8 * g + r.val, by omega⟩ c) :=
  readAt3 V X inb h _ _ fun a => by match a with
    | ⟨0, _⟩ => rfl
    | ⟨1, _⟩ => rfl
    | ⟨2, _⟩ => exact hc

/-- A load of one group of rows of the row table, at an index. -/
theorem readQ {κ : Kind} {sp : Space} (V : View sig κ sp S256x128 .f32) (X : V.ty.Contents (Elt F)) {off : Fin 2 → ℕ}
    (inb : ∀ a, off a + S8x128.size a ≤ S256x128.size a) (g : ℕ) (hg : g < 32) (h : off = ![8 * g, 0]) (r : Fin 8) (l : Fin 128) :
    V.readAt (Elt F) (Rect.unit (s := S256x128) off S8x128.size inb).toLoadRect X (ix2 r l) = V.read (Elt F) X (ix2 ⟨8 * g + r.val, by omega⟩ l) :=
  readAt2 V X inb h _ _ fun a => by match a with
    | ⟨0, _⟩ => rfl
    | ⟨1, _⟩ => show l.val = 0 + l.val; omega

end Cert.KernelIdeal.Hand
-- ==== Proof.FactCI.lean ====
module

public import proofs.«01_k».proof.Proof.TabI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The result block: every half chunk transposed into every other row -/

/-- Where in the table the entry `(b, j, s)` of the result block comes from. -/
def pix (y : S2x2048x128.Idx) : S8x256x256.Idx :=
  ix3 ⟨(y 1).val / 256, by have h : (y 1).val < 2048 := (y 1).isLt; omega⟩
    ⟨128 * (y 0).val + (y 2).val, by have h : (y 0).val < 2 := (y 0).isLt; have h' : (y 2).val < 128 := (y 2).isLt; omega⟩
    ⟨128 * ((y 1).val % 2) + (y 1).val % 256 / 2, by omega⟩

/-- The `n`th of the 32 store rectangles: batch `n / 16`, chunk `n / 2 % 8`, column parity `n % 2`. -/
def stR (n : ℕ) : Rect S2x2048x128 :=
  ⟨(⟨![n / 16 % 2, 256 * (n / 2 % 8) + n % 2, 0], S1x128x128.size, ![1, 2, 1], fun a => by
    match a with
    | ⟨0, _⟩ => exact Or.inr (show n / 16 % 2 + 1 * 0 < 2 by omega)
    | ⟨1, _⟩ => exact Or.inr (show 256 * (n / 2 % 8) + n % 2 + 2 * 127 < 2048 by omega)
    | ⟨2, _⟩ => exact Or.inr (show 0 + 1 * 127 < 128 by omega)⟩ : LoadRect S2x2048x128), spos_1_2_1⟩

theorem ldR_inb (n : ℕ) : ∀ a, (![n / 2 % 8, 128 * (n / 16 % 2), 128 * (n % 2)] : Fin 3 → ℕ) a + S1x128x128.size a ≤ S8x256x256.size a := fun a => by
  match a with
  | ⟨0, _⟩ => show n / 2 % 8 + 1 ≤ 8; omega
  | ⟨1, _⟩ => show 128 * (n / 16 % 2) + 128 ≤ 256; omega
  | ⟨2, _⟩ => show 128 * (n % 2) + 128 ≤ 256; omega

/-- What the `n`th store writes: the transposed half chunk. -/
def stW {κ : Kind} {sp : Space} (V : View sig κ sp S8x256x256 .f32) (f : V.ty.Contents (Elt F)) (n : ℕ) : FVec F S1x128x128 .f32 :=
  k0_pay112 (V.readAt (Elt F) (Rect.unit (s := S8x256x256) ![n / 2 % 8, 128 * (n / 16 % 2), 128 * (n % 2)] S1x128x128.size (ldR_inb n)).toLoadRect f)

/-- The first `n` stores, the newest first. -/
def stL {κ : Kind} {sp : Space} (V : View sig κ sp S8x256x256 .f32) (f : V.ty.Contents (Elt F)) : ℕ → List (View.Piece (Elt F) S2x2048x128 .f32)
  | 0 => []
  | n + 1 => ⟨stR n, stW V f n⟩ :: stL V f n

theorem stW_apply {κ : Kind} {sp : Space} (V : View sig κ sp S8x256x256 .f32) (f : V.ty.Contents (Elt F)) (n : ℕ) (x : (stR n).shape.Idx) :
    stW V f n x = V.read (Elt F) f (pix ((stR n).emb x)) := by
  obtain ⟨u, j, s, rfl⟩ : ∃ (u : Fin 1) (j : Fin 128) (s : Fin 128), x = ix3 u j s := ⟨x 0, x 1, x 2, eq_ix3 x⟩
  show k0_pay112 _ (ix3 u j s) = _
  unfold k0_pay112
  dsimp only
  rw [shapeCast_ab_1ab_apply, transpose_ix2_apply, shapeCast_1ab_ab_apply]
  refine readAt3 V f (ldR_inb n) rfl _ _ fun a => ?_
  match a with
  | ⟨0, _⟩ => show (256 * (n / 2 % 8) + n % 2 + 2 * j.val) / 256 = n / 2 % 8 + 0; omega
  | ⟨1, _⟩ => show 128 * (n / 16 % 2 + 1 * u.val) + (0 + 1 * s.val) = 128 * (n / 16 % 2) + s.val; omega
  | ⟨2, _⟩ => show 128 * ((256 * (n / 2 % 8) + n % 2 + 2 * j.val) % 2) + (256 * (n / 2 % 8) + n % 2 + 2 * j.val) % 256 / 2 = 128 * (n % 2) + j.val; omega

theorem stL_forall {κ : Kind} {sp : Space} (V : View sig κ sp S8x256x256 .f32) (f : V.ty.Contents (Elt F)) (n : ℕ) :
    ∀ p ∈ stL V f n, ∀ x : p.1.shape.Idx, p.2 x = V.read (Elt F) f (pix (p.1.emb x)) := by
  induction n with
  | zero => exact fun p hp => absurd hp List.not_mem_nil
  | succ n ih => exact List.forall_mem_cons.2 ⟨stW_apply V f n, ih⟩

theorem stL_mem {κ : Kind} {sp : Space} (V : View sig κ sp S8x256x256 .f32) (f : V.ty.Contents (Elt F)) (n k : ℕ) (h : k < n) :
    (⟨stR k, stW V f k⟩ : View.Piece (Elt F) S2x2048x128 .f32) ∈ stL V f n := by
  induction n with
  | zero => omega
  | succ n ih =>
    by_cases hk : k = n
    · subst hk; exact List.mem_cons_self
    · exact List.mem_cons_of_mem _ (ih (by omega))

theorem piece_no (b m q : ℕ) (hb : b < 2) (hm : m < 8) (hq : q < 2) :
    16 * b + 2 * m + q < 32 ∧ (16 * b + 2 * m + q) / 16 % 2 = b ∧ (16 * b + 2 * m + q) / 2 % 8 = m ∧ (16 * b + 2 * m + q) % 2 = q := by omega

/-- The 32 stores leave the whole result block. -/
theorem read_prim {κ κ' : Kind} {sp sp' : Space} (V : View sig κ sp S2x2048x128 .f32) (g : V.ty.Contents (Elt F)) (V' : View sig κ' sp' S8x256x256 .f32)
    (f : V'.ty.Contents (Elt F)) : V.read (Elt F) (V.writes (Elt F) g (stL V' f 32)) = fun y => V'.read (Elt F) f (pix y) := by
  funext y
  refine View.read_writes_apply_of_pieces V g (fun y => V'.read (Elt F) f (pix y)) _ (stL_forall V' f 32) y ?_
  have h0 : (y 0).val < 2 := (y 0).isLt
  have h1 : (y 1).val < 2048 := (y 1).isLt
  have h2 : (y 2).val < 128 := (y 2).isLt
  obtain ⟨hn, hb, hm, hq⟩ := piece_no (y 0).val ((y 1).val / 256) ((y 1).val % 2) h0 (by omega) (by omega)
  refine ⟨_, stL_mem V' f 32 (16 * (y 0).val + 2 * ((y 1).val / 256) + (y 1).val % 2) hn, ?_⟩
  refine ((stR _).mem_set).2 fun a => ?_
  match a with
  | ⟨0, _⟩ => exact ⟨0, Nat.one_pos, by show (y 0).val = (16 * (y 0).val + 2 * ((y 1).val / 256) + (y 1).val % 2) / 16 % 2 + 1 * 0; rw [hb]; rfl⟩
  | ⟨1, _⟩ => exact ⟨(y 1).val % 256 / 2, by show (y 1).val % 256 / 2 < 128; omega, by
      show (y 1).val = 256 * ((16 * (y 0).val + 2 * ((y 1).val / 256) + (y 1).val % 2) / 2 % 8) + (16 * (y 0).val + 2 * ((y 1).val / 256) + (y 1).val % 2) % 2 + 2 * ((y 1).val % 256 / 2)
      rw [hm, hq]
      omega⟩
  | ⟨2, _⟩ => exact ⟨(y 2).val, h2, by show (y 2).val = 0 + 1 * (y 2).val; omega⟩

end Cert.KernelIdeal.Hand
-- ==== Proof.CandI.lean ====
module

public import proofs.«01_k».proof.Proof.FactCI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pointwise.ElementwiseCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scores at the candidate ids, collected chunk by chunk -/

/-- The lane a word picks: a negative one counts from the end. -/
def tk (w : BitVec 32) : Fin 128 :=
  ⟨(Scalar.select (IntOp.cmpi .slt w 0#32) (IntOp.addi w 128#32) w).toNat % 128, Nat.mod_lt _ (by decide)⟩

/-- The number of chunk `k` of a block. -/
def cidW (v : BitVec 32) (k : ℕ) : BitVec 32 := Scalar.addi (Scalar.muli v 8#32) (Scf.iv 0#32 1#32 k)

/-- The pick of one candidate's primary score after `k` chunks. -/
def pcN (T : Vec F S8x256x256 .f32) (row : Fin 256) (w0 w1 w2 v : BitVec 32) (p0 : F .f32) : ℕ → F .f32
  | 0 => p0
  | k + 1 => if w2 = cidW v k then T (ix3 ⟨k % 8, Nat.mod_lt _ (by decide)⟩ row ⟨128 + (tk w0).val, by omega⟩)
    else if w1 = cidW v k then T (ix3 ⟨k % 8, Nat.mod_lt _ (by decide)⟩ row ⟨(tk w0).val, by omega⟩)
    else pcN T row w0 w1 w2 v p0 k

/-- The pick of one candidate's residual term after `k` chunks. -/
def tcN (E : Fin 8 → Fin 2 → Fin 128 → F .f32) (w3 w4 v : BitVec 32) (p0 : F .f32) : ℕ → F .f32
  | 0 => p0
  | k + 1 => if w4 = Scalar.addi (Scalar.muli 2#32 (cidW v k)) 1#32 then E ⟨k % 8, Nat.mod_lt _ (by decide)⟩ 1 (tk w3)
    else if w4 = Scalar.addi (Scalar.muli 2#32 (cidW v k)) 0#32 then E ⟨k % 8, Nat.mod_lt _ (by decide)⟩ 0 (tk w3)
    else tcN E w3 w4 v p0 k

/-- One residual term. -/
def resT (s r q : F .f32) : F .f32 := FloatOps.mulf s (FloatOps.subf r (FloatOps.mulf (Scalar.ofBits .f32 0x43000000#32) q))

/-- The picks of eight rows after `k` chunks. -/
def pcV (T : Vec F S8x256x256 .f32) (g : ℕ) (w0 w1 w2 : Vec F S1x8x128 .i32) (v : BitVec 32) (P0 : Vec F S8x128 .f32) (k : ℕ) : Vec F S8x128 .f32 :=
  match k with
  | 0 => P0
  | k + 1 => fun y => pcN T ⟨(8 * g + (y 0).val) % 256, Nat.mod_lt _ (by decide)⟩ (w0 (ix3 (0 : Fin 1) (y 0) (y 1))) (w1 (ix3 (0 : Fin 1) (y 0) (y 1)))
      (w2 (ix3 (0 : Fin 1) (y 0) (y 1))) v (P0 y) (k + 1)

theorem pcV_eq (T : Vec F S8x256x256 .f32) (g : ℕ) (w0 w1 w2 : Vec F S1x8x128 .i32) (v : BitVec 32) (P0 : Vec F S8x128 .f32) (k : ℕ) :
    pcV T g w0 w1 w2 v P0 k = fun y => pcN T ⟨(8 * g + (y 0).val) % 256, Nat.mod_lt _ (by decide)⟩ (w0 (ix3 (0 : Fin 1) (y 0) (y 1))) (w1 (ix3 (0 : Fin 1) (y 0) (y 1)))
      (w2 (ix3 (0 : Fin 1) (y 0) (y 1))) v (P0 y) k := by
  cases k <;> rfl

/-- The picks of a whole table after `k` groups of rows: `pick` of each cell. -/
def grp (P0 P1 : Vec F S256x128 .f32) (k : ℕ) : Vec F S256x128 .f32 :=
  match k with
  | 0 => P0
  | k + 1 => fun y => if (y 0).val / 8 < k + 1 then P1 y else P0 y

theorem grp_eq (P0 P1 : Vec F S256x128 .f32) (k : ℕ) : grp P0 P1 k = fun y => if (y 0).val / 8 < k then P1 y else P0 y := by
  cases k with
  | zero => exact funext fun y => (if_neg (by omega)).symm
  | succ k => rfl

theorem grp_all (P0 P1 : Vec F S256x128 .f32) : grp P0 P1 32 = P1 := by
  rw [grp_eq]
  exact funext fun y => if_pos (by have h : (y 0).val < 256 := (y 0).isLt; omega)

/-- The primary picks of a block, from the indices. -/
def pcT (T : Vec F S8x256x256 .f32) (I : Vec F S5x256x128 .i32) (v : BitVec 32) (P0 : Vec F S256x128 .f32) : Vec F S256x128 .f32 := fun y =>
  pcN T (y 0) (I (ix3 (0 : Fin 5) (y 0) (y 1))) (I (ix3 (1 : Fin 5) (y 0) (y 1))) (I (ix3 (2 : Fin 5) (y 0) (y 1))) v (P0 y) 8

/-- The residual terms of a row of eight chunks, out of the steps' table, the products and the row's sum. -/
def EF (S : Vec F S5x16x128 .f32) (R : Vec F S8x256x256 .f32) (Q : Vec F S256x128 .f32) (row : Fin 256) (k : Fin 8) (h : Fin 2) (l : Fin 128) : F .f32 :=
  resT (S (ix3 (4 : Fin 5) ⟨2 * k.val + h.val, by omega⟩ l)) (R (ix3 k row ⟨128 * h.val + l.val, by omega⟩)) (Q (ix2 row l))

/-- The residual picks of a block, from the indices. -/
def tcT (E : Fin 256 → Fin 8 → Fin 2 → Fin 128 → F .f32) (I : Vec F S5x256x128 .i32) (v : BitVec 32) (P0 : Vec F S256x128 .f32) : Vec F S256x128 .f32 := fun y =>
  tcN (E (y 0)) (I (ix3 (3 : Fin 5) (y 0) (y 1))) (I (ix3 (4 : Fin 5) (y 0) (y 1))) v (P0 y) 8

/-! ## One trip's payloads at an index -/

theorem ofBool_eq (a b : BitVec 32) : IntOp.cmpi .eq a b = if a = b then 1#1 else 0#1 := by
  show BitVec.ofBool (a == b) = _
  by_cases h : a = b
  · rw [if_pos h]; subst h; simp
  · rw [if_neg h, beq_eq_false_iff_ne.mpr h]; rfl

theorem sel_eq {α : Type} (a b : BitVec 32) (x y : α) : (if IntOp.cmpi .eq a b = 1#1 then x else y) = if a = b then x else y := by
  rw [ofBool_eq]
  by_cases h : a = b
  · rw [if_pos h, if_pos h, if_pos rfl]
  · rw [if_neg h, if_neg h, if_neg (by decide)]

/-- A lane gather of eight rows by the words of a vector. -/
theorem take_at (x : FVec F S8x128 .f32) (w : IVec S8x128 32) (r : Fin 8) (l : Fin 128) :
    dynamicGather 1 x (shapeCast S8x128 (shapeCast S8x128x1 (select (cmpi .slt w (broadcast S8x128 0#32)) (addi w (broadcast S8x128 128#32)) w)
      shapeCasts_S8x128_S8x128x1) shapeCasts_S8x128x1_S8x128) (ix2 r l) = x (ix2 r (tk (w (ix2 r l)))) := by
  rw [shapeCast_shapeCast, dynamicGather_apply]
  refine congrArg x (funext fun a => Fin.ext ?_)
  match a with
  | ⟨0, _⟩ => rfl
  | ⟨1, _⟩ => rfl

/-- The primary pick of one trip: the odd scores first, then the even ones, else what was there. -/
theorem pay64_at (v570 v573 v576 : Vec F S1x8x128 .i32) (v201 : BitVec 32) (q u : Vec F S8x128 .f32) (t : Fin k0_t2_loop.trips) (acc : Vec F S8x128 .f32)
    (b0 s0 b1 s1 : Vec F S1x1x128 .f32) (p0 p1 : Vec F S1x8x128 .f32) (r : Fin 8) (l : Fin 128) :
    k0_pay64 v570 v576 (Scalar.addi (Scalar.muli v201 8#32) (Scf.iv 0#32 1#32 t.val))
      (k0_pay51 v201 q u (k0_pay58 v570) (k0_pay59 v573) 0#32 1#32 t acc b0 s0 p0) (k0_pay52 s1) (k0_pay53 q u b1) p1 (ix2 r l)
    = if v576 (ix3 (0 : Fin 1) r l) = cidW v201 t.val then
        k0_pay63 (k0_pay52 s1) (k0_pay53 q u b1) p1 (ix3 (0 : Fin 1) r (tk (v570 (ix3 (0 : Fin 1) r l))))
      else if v573 (ix3 (0 : Fin 1) r l) = cidW v201 t.val then
        k0_pay50 q u b0 s0 p0 (ix3 (0 : Fin 1) r (tk (v570 (ix3 (0 : Fin 1) r l))))
      else acc (ix2 r l) := by
  have e58 : k0_pay58 v570 (ix2 r l) = v570 (ix3 (0 : Fin 1) r l) := shapeCast_1ab_ab_apply _ shapeCasts_S1x8x128_S8x128 r l
  have e59 : k0_pay59 v573 (ix2 r l) = v573 (ix3 (0 : Fin 1) r l) := shapeCast_1ab_ab_apply _ shapeCasts_S1x8x128_S8x128 r l
  have e76 : shapeCast S8x128 v576 shapeCasts_S1x8x128_S8x128 (ix2 r l) = v576 (ix3 (0 : Fin 1) r l) := shapeCast_1ab_ab_apply _ shapeCasts_S1x8x128_S8x128 r l
  have e63 : ∀ (z : Fin 128), k0_pay62 (k0_pay52 s1) (k0_pay53 q u b1) p1 (ix2 r z) = k0_pay63 (k0_pay52 s1) (k0_pay53 q u b1) p1 (ix3 (0 : Fin 1) r z) :=
    fun z => (shapeCast_ab_1ab_apply _ shapeCasts_S8x128_S1x8x128 0 r z).symm
  have e50 : ∀ (z : Fin 128), k0_pay49 q u b0 s0 p0 (ix2 r z) = k0_pay50 q u b0 s0 p0 (ix3 (0 : Fin 1) r z) :=
    fun z => (shapeCast_ab_1ab_apply _ shapeCasts_S8x128_S1x8x128 0 r z).symm
  have h1 : k0_pay51 v201 q u (k0_pay58 v570) (k0_pay59 v573) 0#32 1#32 t acc b0 s0 p0 (ix2 r l)
      = if v573 (ix3 (0 : Fin 1) r l) = cidW v201 t.val then
          k0_pay50 q u b0 s0 p0 (ix3 (0 : Fin 1) r (tk (v570 (ix3 (0 : Fin 1) r l)))) else acc (ix2 r l) := by
    refine (sel_eq (k0_pay59 v573 (ix2 r l)) (cidW v201 t.val) _ _).trans ?_
    rw [e59, take_at, e58, e50]
  refine (sel_eq (shapeCast S8x128 v576 shapeCasts_S1x8x128_S8x128 (ix2 r l)) (cidW v201 t.val) _ _).trans ?_
  rw [e76, h1, take_at, e58, e63]

/-- The residual pick of one trip: the second half's terms first, then the first half's, else what was there. -/
theorem pay110_at (v201 : BitVec 32) (q : Vec F S8x128 .f32) (w3 w4 : Vec F S1x8x128 .i32) (t : Fin k0_t3_loop.trips) (acc : Vec F S8x128 .f32)
    (s0 s1 : Vec F S1x1x128 .f32) (p0 p1 : Vec F S1x8x128 .f32) (r : Fin 8) (l : Fin 128) :
    k0_pay110 (k0_pay60 w3) (k0_pay61 w4) (k0_pay54 v201 (k0_pay57 q) (k0_pay60 w3) (k0_pay61 w4) 0#32 1#32 t acc s0 p0) (k0_pay55 (k0_pay57 q) s1 p1) (k0_pay56 v201 0#32 1#32 t) (ix2 r l)
    = if w4 (ix3 (0 : Fin 1) r l) = Scalar.addi (Scalar.muli 2#32 (cidW v201 t.val)) 1#32 then
        resT (s1 (ix3 (0 : Fin 1) (0 : Fin 1) (tk (w3 (ix3 (0 : Fin 1) r l))))) (p1 (ix3 (0 : Fin 1) r (tk (w3 (ix3 (0 : Fin 1) r l))))) (q (ix2 r (tk (w3 (ix3 (0 : Fin 1) r l)))))
      else if w4 (ix3 (0 : Fin 1) r l) = Scalar.addi (Scalar.muli 2#32 (cidW v201 t.val)) 0#32 then
        resT (s0 (ix3 (0 : Fin 1) (0 : Fin 1) (tk (w3 (ix3 (0 : Fin 1) r l))))) (p0 (ix3 (0 : Fin 1) r (tk (w3 (ix3 (0 : Fin 1) r l))))) (q (ix2 r (tk (w3 (ix3 (0 : Fin 1) r l)))))
      else acc (ix2 r l) := by
  have e60 : k0_pay60 w3 (ix2 r l) = w3 (ix3 (0 : Fin 1) r l) := shapeCast_1ab_ab_apply _ shapeCasts_S1x8x128_S8x128 r l
  have e61 : k0_pay61 w4 (ix2 r l) = w4 (ix3 (0 : Fin 1) r l) := shapeCast_1ab_ab_apply _ shapeCasts_S1x8x128_S8x128 r l
  have et : ∀ (s : Vec F S1x1x128 .f32) (p : Vec F S1x8x128 .f32) (z : Fin 128), k0_pay55 (k0_pay57 q) s p (ix2 r z)
      = resT (s (ix3 (0 : Fin 1) (0 : Fin 1) z)) (p (ix3 (0 : Fin 1) r z)) (q (ix2 r z)) := fun s p z => by
    show FloatOps.mulf (broadcastTo _ _ _ _) (FloatOps.subf (shapeCast _ _ _ _) _) = _
    rw [broadcastTo_1b_ab_apply, shapeCast_1ab_ab_apply, shapeCast_1ab_ab_apply]
    rfl
  have h1 : k0_pay54 v201 (k0_pay57 q) (k0_pay60 w3) (k0_pay61 w4) 0#32 1#32 t acc s0 p0 (ix2 r l)
      = if w4 (ix3 (0 : Fin 1) r l) = Scalar.addi (Scalar.muli 2#32 (cidW v201 t.val)) 0#32 then
          k0_pay55 (k0_pay57 q) s0 p0 (ix2 r (tk (w3 (ix3 (0 : Fin 1) r l)))) else acc (ix2 r l) := by
    refine (sel_eq (k0_pay61 w4 (ix2 r l)) (Scalar.addi (Scalar.muli 2#32 (cidW v201 t.val)) 0#32) _ _).trans ?_
    rw [e61, take_at, e60]
    rfl
  refine (sel_eq (k0_pay61 w4 (ix2 r l)) (Scalar.addi (Scalar.muli 2#32 (cidW v201 t.val)) 1#32) _ _).trans ?_
  rw [e61, h1, take_at, e60, et, et]

/-- A load of eight rows of one of the index tables. -/
theorem readI {κ : Kind} {sp : Space} (V : View sig κ sp S5x256x128 .i32) (X : V.ty.Contents (Elt F)) {off : Fin 3 → ℕ}
    (inb : ∀ a, off a + S1x8x128.size a ≤ S5x256x128.size a) (j : Fin 5) (g : ℕ) (hg : g < 32) (h : off = ![j.val, 8 * g, 0]) (r : Fin 8) (l : Fin 128) :
    V.readAt (Elt F) (Rect.unit (s := S5x256x128) off S1x8x128.size inb).toLoadRect X (ix3 (0 : Fin 1) r l) = V.read (Elt F) X (ix3 j ⟨8 * g + r.val, by omega⟩ l) :=
  readAt3 V X inb h _ _ fun a => by match a with
    | ⟨0, _⟩ => rfl
    | ⟨1, _⟩ => rfl
    | ⟨2, _⟩ => show l.val = 0 + l.val; omega

/-- A load of one row of the steps' table. -/
theorem readS {κ : Kind} {sp : Space} (V : View sig κ sp S5x16x128 .f32) (X : V.ty.Contents (Elt F)) {off : Fin 3 → ℕ}
    (inb : ∀ a, off a + S1x1x128.size a ≤ S5x16x128.size a) (k : ℕ) (hk : k < 16) (h : off = ![4, k, 0]) (l : Fin 128) :
    V.readAt (Elt F) (Rect.unit (s := S5x16x128) off S1x1x128.size inb).toLoadRect X (ix3 (0 : Fin 1) (0 : Fin 1) l) = V.read (Elt F) X (ix3 (4 : Fin 5) ⟨k, hk⟩ l) :=
  readAt3 V X inb h _ _ fun a => by match a with
    | ⟨0, _⟩ => rfl
    | ⟨1, _⟩ => rfl
    | ⟨2, _⟩ => show l.val = 0 + l.val; omega

/-- One trip of the primary picks. -/
theorem pcV_succ (q u : Vec F S8x128 .f32) (A : Vec F S4x8x128 .f32) (G : Vec F S8x256x256 .f32) (g k : ℕ) (hg : g < 32) (hk : k < 8) (w0 w1 w2 : Vec F S1x8x128 .i32) (v : BitVec 32)
    (P0 acc yl : Vec F S8x128 .f32) (hacc : acc = pcV (upd8 q u A G) g w0 w1 w2 v P0 k) (po pe : Vec F S1x8x128 .f32)
    (hy : ∀ (r : Fin 8) (l : Fin 128), yl (ix2 r l) = if w2 (ix3 (0 : Fin 1) r l) = cidW v k then po (ix3 (0 : Fin 1) r (tk (w0 (ix3 (0 : Fin 1) r l))))
      else if w1 (ix3 (0 : Fin 1) r l) = cidW v k then pe (ix3 (0 : Fin 1) r (tk (w0 (ix3 (0 : Fin 1) r l)))) else acc (ix2 r l))
    (ho : ∀ (r : Fin 8) (l : Fin 128), po (ix3 (0 : Fin 1) r l) = score (q (ix2 r l)) (u (ix2 r l)) (A (ix3 ⟨1, by decide⟩ ⟨k, hk⟩ l)) (A (ix3 ⟨3, by decide⟩ ⟨k, hk⟩ l))
      (G (ix3 ⟨k, hk⟩ ⟨8 * g + r.val, by omega⟩ ⟨128 + l.val, by omega⟩)))
    (he : ∀ (r : Fin 8) (l : Fin 128), pe (ix3 (0 : Fin 1) r l) = score (q (ix2 r l)) (u (ix2 r l)) (A (ix3 ⟨0, by decide⟩ ⟨k, hk⟩ l)) (A (ix3 ⟨2, by decide⟩ ⟨k, hk⟩ l))
      (G (ix3 ⟨k, hk⟩ ⟨8 * g + r.val, by omega⟩ ⟨l.val, by omega⟩))) :
    yl = pcV (upd8 q u A G) g w0 w1 w2 v P0 (k + 1) := by
  funext y
  obtain ⟨r, l, rfl⟩ : ∃ (r : Fin 8) (l : Fin 128), y = ix2 r l := ⟨y 0, y 1, eq_ix2 y⟩
  rw [hy, hacc, ho, he, pcV_eq]
  show _ = (if w2 (ix3 (0 : Fin 1) r l) = cidW v k then _ else if w1 (ix3 (0 : Fin 1) r l) = cidW v k then _ else _)
  have hr : ∀ (c c' : Fin 256), c = c' → (ix3 ⟨k % 8, Nat.mod_lt _ (by decide)⟩ (⟨(8 * g + r.val) % 256, Nat.mod_lt _ (by decide)⟩ : Fin 256) c : S8x256x256.Idx)
      = ix3 ⟨k, hk⟩ ⟨8 * g + r.val, by omega⟩ c' := fun c c' h => by
    subst h
    exact funext fun a => Fin.ext (by match a with
      | ⟨0, _⟩ => show k % 8 = k; omega
      | ⟨1, _⟩ => show (8 * g + r.val) % 256 = 8 * g + r.val; omega
      | ⟨2, _⟩ => rfl)
  have up : ∀ (c : Fin 256) (l : Fin 128) (j : ℕ) (hj : j < 2) (hc : c.val = 128 * j + l.val), upd8 q u A G (ix3 ⟨k, hk⟩ ⟨8 * g + r.val, by omega⟩ c)
      = score (q (ix2 r l)) (u (ix2 r l)) (A (ix3 ⟨j, by omega⟩ ⟨k, hk⟩ l)) (A (ix3 ⟨2 + j, by omega⟩ ⟨k, hk⟩ l)) (G (ix3 ⟨k, hk⟩ ⟨8 * g + r.val, by omega⟩ c)) := fun c l j hj hc => by
    have e0 : rl8 (ix3 ⟨k, hk⟩ ⟨8 * g + r.val, by omega⟩ c) = ix2 r l := funext fun a => Fin.ext (by match a with
      | ⟨0, _⟩ => show (8 * g + r.val) % 8 = r.val; omega
      | ⟨1, _⟩ => show c.val % 128 = l.val; omega)
    have e1 : aix 0 (ix3 ⟨k, hk⟩ ⟨8 * g + r.val, by omega⟩ c) = ix3 ⟨j, by omega⟩ ⟨k, hk⟩ l := funext fun a => Fin.ext (by match a with
      | ⟨0, _⟩ => show 2 * 0 + c.val / 128 = j; omega
      | ⟨1, _⟩ => rfl
      | ⟨2, _⟩ => show c.val % 128 = l.val; omega)
    have e2 : aix 1 (ix3 ⟨k, hk⟩ ⟨8 * g + r.val, by omega⟩ c) = ix3 ⟨2 + j, by omega⟩ ⟨k, hk⟩ l := funext fun a => Fin.ext (by match a with
      | ⟨0, _⟩ => show 2 * 1 + c.val / 128 = 2 + j; omega
      | ⟨1, _⟩ => rfl
      | ⟨2, _⟩ => show c.val % 128 = l.val; omega)
    unfold upd8
    rw [e0, e1, e2]
  congr 1
  · refine Eq.symm ((congrArg (upd8 q u A G) (hr _ _ rfl)).trans ?_)
    exact up _ _ 1 (by decide) rfl
  · congr 1
    refine Eq.symm ((congrArg (upd8 q u A G) (hr _ _ rfl)).trans ?_)
    exact up _ (tk (w0 (ix3 (0 : Fin 1) r l))) 0 (by decide) (Nat.zero_add _).symm

/-- A cell of a chunk not yet updated is as it was. -/
theorem tab8_at (q u : Vec F S8x128 .f32) (A : Vec F S4x8x128 .f32) (G : Vec F S8x256x256 .f32) (g k : ℕ) (hk : k < 8) (r c : Fin 256) :
    tab8 q u A G g k (ix3 ⟨k, hk⟩ r c) = G (ix3 ⟨k, hk⟩ r c) := by
  rw [tab8_eq]
  exact if_neg (by show ¬ (_ ∧ k < k); omega)

/-- The picks only read their own row of the scores. -/
theorem pcN_congr (T T' : Vec F S8x256x256 .f32) (row row' : Fin 256) (h : ∀ (c : Fin 8) (l : Fin 256), T (ix3 c row l) = T' (ix3 c row' l)) (w0 w1 w2 v : BitVec 32) (p0 : F .f32) (k : ℕ) :
    pcN T row w0 w1 w2 v p0 k = pcN T' row' w0 w1 w2 v p0 k := by
  induction k with
  | zero => rfl
  | succ k ih =>
    show (if _ then T _ else if _ then T _ else _) = (if _ then T' _ else if _ then T' _ else _)
    rw [ih, h, h]

/-- After eight chunks the picks of a group are the picks of the table's rows. -/
theorem pcV_all (q u : Vec F S256x128 .f32) (q8 u8 : Vec F S8x128 .f32) (A : Vec F S4x8x128 .f32) (G : Vec F S8x256x256 .f32) (I : Vec F S5x256x128 .i32) (v : BitVec 32) (P0 : Vec F S256x128 .f32)
    (w0 w1 w2 : Vec F S1x8x128 .i32) (p0 : Vec F S8x128 .f32) (g : ℕ) (hg : g < 32)
    (hq : ∀ (r : Fin 8) (l : Fin 128), q8 (ix2 r l) = q (ix2 ⟨8 * g + r.val, by omega⟩ l))
    (hu : ∀ (r : Fin 8) (l : Fin 128), u8 (ix2 r l) = u (ix2 ⟨8 * g + r.val, by omega⟩ l))
    (h0 : ∀ (r : Fin 8) (l : Fin 128), w0 (ix3 (0 : Fin 1) r l) = I (ix3 (0 : Fin 5) ⟨8 * g + r.val, by omega⟩ l))
    (h1 : ∀ (r : Fin 8) (l : Fin 128), w1 (ix3 (0 : Fin 1) r l) = I (ix3 (1 : Fin 5) ⟨8 * g + r.val, by omega⟩ l))
    (h2 : ∀ (r : Fin 8) (l : Fin 128), w2 (ix3 (0 : Fin 1) r l) = I (ix3 (2 : Fin 5) ⟨8 * g + r.val, by omega⟩ l))
    (hp : ∀ (r : Fin 8) (l : Fin 128), p0 (ix2 r l) = P0 (ix2 ⟨8 * g + r.val, by omega⟩ l)) (r : Fin 8) (l : Fin 128) :
    pcV (upd8 q8 u8 A (tab q u A G g)) g w0 w1 w2 v p0 8 (ix2 r l) = pcT (upd q u A G) I v P0 (ix2 ⟨8 * g + r.val, by omega⟩ l) := by
  rw [pcV_eq]
  show pcN _ ⟨(8 * g + r.val) % 256, _⟩ (w0 (ix3 (0 : Fin 1) r l)) (w1 (ix3 (0 : Fin 1) r l)) (w2 (ix3 (0 : Fin 1) r l)) v (p0 (ix2 r l)) 8
    = pcN _ ⟨8 * g + r.val, _⟩ (I (ix3 (0 : Fin 5) ⟨8 * g + r.val, _⟩ l)) (I (ix3 (1 : Fin 5) ⟨8 * g + r.val, _⟩ l)) (I (ix3 (2 : Fin 5) ⟨8 * g + r.val, _⟩ l)) v (P0 (ix2 ⟨8 * g + r.val, _⟩ l)) 8
  rw [h0, h1, h2, hp]
  refine pcN_congr _ _ _ _ (fun c m => ?_) _ _ _ _ _ _
  have e : (⟨(8 * g + r.val) % 256, Nat.mod_lt _ (by decide)⟩ : Fin 256) = ⟨8 * g + r.val, by omega⟩ := Fin.ext (by show (8 * g + r.val) % 256 = 8 * g + r.val; omega)
  rw [e]
  have e8 : ∀ (X8 : Vec F S8x128 .f32) (X : Vec F S256x128 .f32), (∀ (r : Fin 8) (l : Fin 128), X8 (ix2 r l) = X (ix2 ⟨8 * g + r.val, by omega⟩ l)) →
      X8 (rl8 (ix3 c (⟨8 * g + r.val, by omega⟩ : Fin 256) m)) = X (rl (ix3 c (⟨8 * g + r.val, by omega⟩ : Fin 256) m)) := fun X8 X h => by
    refine (congrArg X8 (show _ = ix2 r ⟨m.val % 128, Nat.mod_lt _ (by decide)⟩ from funext fun a => Fin.ext (by match a with
      | ⟨0, _⟩ => show (8 * g + r.val) % 8 = r.val; omega
      | ⟨1, _⟩ => rfl))).trans ((h r ⟨m.val % 128, Nat.mod_lt _ (by decide)⟩).trans (congrArg X (funext fun a => Fin.ext (by match a with
      | ⟨0, _⟩ => rfl
      | ⟨1, _⟩ => rfl))))
  have et : tab q u A G g (ix3 c ⟨8 * g + r.val, by omega⟩ m) = G (ix3 c ⟨8 * g + r.val, by omega⟩ m) := by
    rw [tab_eq]
    exact if_neg (by show ¬ (8 * g + r.val) / 8 < g; omega)
  unfold upd8 upd
  rw [e8 q8 q hq, e8 u8 u hu, et]

/-- Eight trips of the residual picks. -/
theorem st_tcN (st : ℕ → Vec F S8x128 .f32) (P0 : Vec F S8x128 .f32) (h0 : st 0 = P0) (E : Fin 8 → Fin 8 → Fin 2 → Fin 128 → F .f32) (w3 w4 : Vec F S1x8x128 .i32) (v : BitVec 32)
    (hs : ∀ (k : ℕ) (hk : k < 8) (r : Fin 8) (l : Fin 128), st (k + 1) (ix2 r l) = if w4 (ix3 (0 : Fin 1) r l) = Scalar.addi (Scalar.muli 2#32 (cidW v k)) 1#32 then E r ⟨k, hk⟩ 1 (tk (w3 (ix3 (0 : Fin 1) r l)))
      else if w4 (ix3 (0 : Fin 1) r l) = Scalar.addi (Scalar.muli 2#32 (cidW v k)) 0#32 then E r ⟨k, hk⟩ 0 (tk (w3 (ix3 (0 : Fin 1) r l))) else st k (ix2 r l)) (k : ℕ) (hk : k ≤ 8) (r : Fin 8) (l : Fin 128) :
    st k (ix2 r l) = tcN (E r) (w3 (ix3 (0 : Fin 1) r l)) (w4 (ix3 (0 : Fin 1) r l)) v (P0 (ix2 r l)) k := by
  induction k with
  | zero => rw [h0]; rfl
  | succ k ih =>
    rw [hs k (by omega), ih (by omega)]
    have e : (⟨k % 8, Nat.mod_lt _ (by decide)⟩ : Fin 8) = ⟨k, by omega⟩ := Fin.ext (by show k % 8 = k; omega)
    show _ = (if _ then E r ⟨k % 8, _⟩ 1 _ else if _ then E r ⟨k % 8, _⟩ 0 _ else _)
    rw [e]

/-- The residual picks only read the terms given. -/
theorem tcN_congr (E E' : Fin 8 → Fin 2 → Fin 128 → F .f32) (h : ∀ k h l, E k h l = E' k h l) (w3 w4 v : BitVec 32) (p0 : F .f32) (k : ℕ) :
    tcN E w3 w4 v p0 k = tcN E' w3 w4 v p0 k := by
  have : E = E' := funext fun a => funext fun b => funext fun c => h a b c
  rw [this]

/-- Storing a group's picks: one more group of the table is picked. -/
theorem grp_succ {κ : Kind} {sp : Space} (V : View sig κ sp S256x128 .f32) (f : V.ty.Contents (Elt F)) (P0 P1 : Vec F S256x128 .f32) (g : ℕ) (hg : g < 32)
    {off : Fin 2 → ℕ} (inb : ∀ a, off a + S8x128.size a ≤ S256x128.size a) (w : Vec F S8x128 .f32) (h : off = ![8 * g, 0])
    (hf : V.read (Elt F) f = grp P0 P1 g) (hw : ∀ (r : Fin 8) (l : Fin 128), w (ix2 r l) = P1 (ix2 ⟨8 * g + r.val, by omega⟩ l)) :
    V.read (Elt F) (V.writes (Elt F) f [⟨Rect.unit off S8x128.size inb, w⟩]) = grp P0 P1 (g + 1) := by
  funext y
  have hr : (y 0).val < 256 := (y 0).isLt
  by_cases hin : (y 0).val / 8 = g
  · subst hin
    rw [View.read_writes_cons_unit_of_mem V f inb w _ y (ix2 ⟨(y 0).val % 8, Nat.mod_lt _ (by decide)⟩ ⟨(y 1).val, (y 1).isLt⟩) h
      (fun a => by match a with
        | ⟨0, _⟩ => show (y 0).val = 8 * ((y 0).val / 8) + (y 0).val % 8; omega
        | ⟨1, _⟩ => show (y 1).val = 0 + (y 1).val; omega), hw, grp_eq]
    refine Eq.trans ?_ (if_pos (show (y 0).val / 8 < (y 0).val / 8 + 1 by omega)).symm
    exact congrArg P1 (funext fun a => Fin.ext (by match a with
      | ⟨0, _⟩ => show 8 * ((y 0).val / 8) + (y 0).val % 8 = (y 0).val; omega
      | ⟨1, _⟩ => rfl))
  · rw [View.read_writes_cons_unit_of_not_mem V f inb w _ y h (0 : Fin 2) (show (y 0).val < 8 * g ∨ 8 * g + 8 ≤ (y 0).val by omega)]
    refine (congrFun hf y).trans ?_
    rw [grp_eq, grp_eq]
    by_cases h' : (y 0).val / 8 < g
    · exact (if_pos h').trans (if_pos (by omega)).symm
    · exact (if_neg h').trans (if_neg (by omega)).symm

/-- A cell of a group not yet picked is as it was. -/
theorem grp_at (P0 P1 : Vec F S256x128 .f32) (g : ℕ) (hg : g < 32) (r : Fin 8) (l : Fin 128) : grp P0 P1 g (ix2 ⟨8 * g + r.val, by omega⟩ l) = P0 (ix2 ⟨8 * g + r.val, by omega⟩ l) := by
  rw [grp_eq]
  exact if_neg (by show ¬ (8 * g + r.val) / 8 < g; omega)

end Cert.KernelIdeal.Hand
-- ==== Proof.InnerI.lean ====
module

public import proofs.«01_k».proof.Proof.CandI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
@[sl_loop] def tblInv_k0_t2 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h2 : k0_cond2 i = 1#1) (v201 : BitVec 32) (c0_i32_204 : BitVec 32) (c1_i32_205 : BitVec 32) (k0_t1 : Fin k0_t1_loop.trips) (v562 : BitVec 32) (v564 : Vec F S8x128 .f32) (v566 : Vec F S8x128 .f32) (v570 : Vec F S1x8x128 .i32) (v573 : Vec F S1x8x128 .i32) (v576 : Vec F S1x8x128 .i32) (init : Vec F S8x128 .f32)
    (X21 : BufTy.Contents (Elt F) arg21.view.ty) (G : BufTy.Contents (Elt F) arg17.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 c0_i32_204 c1_i32_205 k0_t1 v562 v564 v566 v570 v573 v576 init where
  inv k acc := iprop((arg21.view.loc (c : Thread nD τ) ↦[arg21.view.set]{fullShare} X21)
    ∗ ∃ f : BufTy.Contents (Elt F) arg17.view.ty, (arg17.view.loc (c : Thread nD τ) ↦[arg17.view.set]{fullShare} f)
      ∗ ⌜arg17.view.read (Elt F) f = tab8 v564 v566 (arg21.view.read (Elt F) X21) (arg17.view.read (Elt F) G) k0_t1.val k⌝
      ∗ ⌜acc = pcV (upd8 v564 v566 (arg21.view.read (Elt F) X21) (arg17.view.read (Elt F) G)) k0_t1.val v570 v573 v576 v201 init k⌝)
  step k acc := by
    have hk : k.val < 8 := Nat.lt_of_lt_of_le k.isLt k0_t2_abs.2.1
    have hg : k0_t1.val < 32 := Nat.lt_of_lt_of_le k0_t1.isLt k0_t1_abs.2.1
    unfold k0_t2_body
    iintro ⟨HR, ⟨%f, HW, %hf, %hacc⟩⟩
    sl_exec
    sl_step
    isplitl [HR]; · iexact HR
    iexists _; isplitl [HW]; · iexact HW
    isplitl []
    · ipureintro
      refine trip_tab arg17.view f v564 v566 _ _ k0_t1.val k.val hg hk _ _ _ _ (Gen.k0_off12_eq k0_t1 k) (Gen.k0_off9_eq k0_t1 k) hf ?_ ?_
      · intro r l
        refine (pay_hi _ _ _ _ _ r l).trans ?_
        rw [readA arg21.view X21 _ 1 k.val (by decide) hk (Gen.k0_off10_eq k), readA arg21.view X21 _ 3 k.val (by decide) hk (Gen.k0_off11_eq k)]
        exact congrArg _ (readP arg17.view f _ k.val k0_t1.val 128 hk hg (Gen.k0_off12_eq k0_t1 k) r l ⟨128 + l.val, by omega⟩ rfl)
      · intro r l
        refine (pay_lo _ _ _ _ _ r l).trans ?_
        rw [readA arg21.view X21 _ 0 k.val (by decide) hk (Gen.k0_off7_eq k), readA arg21.view X21 _ 2 k.val (by decide) hk (Gen.k0_off8_eq k)]
        exact congrArg _ (readP arg17.view f _ k.val k0_t1.val 0 hk hg (Gen.k0_off9_eq k0_t1 k) r l ⟨l.val, by omega⟩ (by show l.val = 0 + l.val; omega))
    ipureintro
    refine pcV_succ v564 v566 _ _ k0_t1.val k.val hg hk v570 v573 v576 v201 init acc _ hacc _ _ (fun r l => pay64_at _ _ _ _ _ _ k _ _ _ _ _ _ _ r l) ?_ ?_
    · intro r l
      refine (pay_hi _ _ _ _ _ r l).trans ?_
      rw [readA arg21.view X21 _ 1 k.val (by decide) hk (Gen.k0_off10_eq k), readA arg21.view X21 _ 3 k.val (by decide) hk (Gen.k0_off11_eq k)]
      refine congrArg _ ((readP arg17.view f _ k.val k0_t1.val 128 hk hg (Gen.k0_off12_eq k0_t1 k) r l ⟨128 + l.val, by omega⟩ rfl).trans ?_)
      rw [hf]
      exact tab8_at _ _ _ _ _ _ hk _ _
    · intro r l
      refine (pay_lo _ _ _ _ _ r l).trans ?_
      rw [readA arg21.view X21 _ 0 k.val (by decide) hk (Gen.k0_off7_eq k), readA arg21.view X21 _ 2 k.val (by decide) hk (Gen.k0_off8_eq k)]
      refine congrArg _ ((readP arg17.view f _ k.val k0_t1.val 0 hk hg (Gen.k0_off9_eq k0_t1 k) r l ⟨l.val, by omega⟩ (by show l.val = 0 + l.val; omega)).trans ?_)
      rw [hf]
      exact tab8_at _ _ _ _ _ _ hk _ _

set_option warn.classDefReducibility false in
@[sl_loop] def tblInv_k0_t5 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h3 : k0_cond3 i = 1#1) (v201 : BitVec 32) (c0_i32_204 : BitVec 32) (c1_i32_205 : BitVec 32) (k0_t4 : Fin k0_t4_loop.trips) (v562 : BitVec 32) (v564 : Vec F S8x128 .f32) (v566 : Vec F S8x128 .f32) (v570 : Vec F S1x8x128 .i32) (v573 : Vec F S1x8x128 .i32) (v576 : Vec F S1x8x128 .i32) (init : Vec F S8x128 .f32)
    (X21 : BufTy.Contents (Elt F) arg21.view.ty) (G : BufTy.Contents (Elt F) arg16.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 c0_i32_204 c1_i32_205 k0_t4 v562 v564 v566 v570 v573 v576 init where
  inv k acc := iprop((arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab8 v564 v566 (arg21.view.read (Elt F) X21) (arg16.view.read (Elt F) G) k0_t4.val k⌝
      ∗ ⌜acc = pcV (upd8 v564 v566 (arg21.view.read (Elt F) X21) (arg16.view.read (Elt F) G)) k0_t4.val v570 v573 v576 v201 init k⌝)
  step k acc := by
    have hk : k.val < 8 := Nat.lt_of_lt_of_le k.isLt k0_t5_abs.2.1
    have hg : k0_t4.val < 32 := Nat.lt_of_lt_of_le k0_t4.isLt k0_t4_abs.2.1
    unfold k0_t5_body
    iintro ⟨HR, ⟨%f, HW, %hf, %hacc⟩⟩
    sl_exec
    sl_step
    isplitl [HR]; · iexact HR
    iexists _; isplitl [HW]; · iexact HW
    isplitl []
    · ipureintro
      refine trip_tab arg16.view f v564 v566 _ _ k0_t4.val k.val hg hk _ _ _ _ (Gen.k0_off27_eq k0_t4 k) (Gen.k0_off24_eq k0_t4 k) hf ?_ ?_
      · intro r l
        refine (pay_hi _ _ _ _ _ r l).trans ?_
        rw [readA arg21.view X21 _ 1 k.val (by decide) hk (Gen.k0_off25_eq k), readA arg21.view X21 _ 3 k.val (by decide) hk (Gen.k0_off26_eq k)]
        exact congrArg _ (readP arg16.view f _ k.val k0_t4.val 128 hk hg (Gen.k0_off27_eq k0_t4 k) r l ⟨128 + l.val, by omega⟩ rfl)
      · intro r l
        refine (pay_lo _ _ _ _ _ r l).trans ?_
        rw [readA arg21.view X21 _ 0 k.val (by decide) hk (Gen.k0_off22_eq k), readA arg21.view X21 _ 2 k.val (by decide) hk (Gen.k0_off23_eq k)]
        exact congrArg _ (readP arg16.view f _ k.val k0_t4.val 0 hk hg (Gen.k0_off24_eq k0_t4 k) r l ⟨l.val, by omega⟩ (by show l.val = 0 + l.val; omega))
    ipureintro
    refine pcV_succ v564 v566 _ _ k0_t4.val k.val hg hk v570 v573 v576 v201 init acc _ hacc _ _ (fun r l => pay64_at _ _ _ _ _ _ k _ _ _ _ _ _ _ r l) ?_ ?_
    · intro r l
      refine (pay_hi _ _ _ _ _ r l).trans ?_
      rw [readA arg21.view X21 _ 1 k.val (by decide) hk (Gen.k0_off25_eq k), readA arg21.view X21 _ 3 k.val (by decide) hk (Gen.k0_off26_eq k)]
      refine congrArg _ ((readP arg16.view f _ k.val k0_t4.val 128 hk hg (Gen.k0_off27_eq k0_t4 k) r l ⟨128 + l.val, by omega⟩ rfl).trans ?_)
      rw [hf]
      exact tab8_at _ _ _ _ _ _ hk _ _
    · intro r l
      refine (pay_lo _ _ _ _ _ r l).trans ?_
      rw [readA arg21.view X21 _ 0 k.val (by decide) hk (Gen.k0_off22_eq k), readA arg21.view X21 _ 2 k.val (by decide) hk (Gen.k0_off23_eq k)]
      refine congrArg _ ((readP arg16.view f _ k.val k0_t4.val 0 hk hg (Gen.k0_off24_eq k0_t4 k) r l ⟨l.val, by omega⟩ (by show l.val = 0 + l.val; omega)).trans ?_)
      rw [hf]
      exact tab8_at _ _ _ _ _ _ hk _ _

set_option warn.classDefReducibility false in
@[sl_loop] def tblInv_k0_t8 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h4 : k0_cond4 i = 1#1) (v40 : BitVec 32) (c0_i32_106 : BitVec 32) (c1_i32_107 : BitVec 32) (k0_t7 : Fin k0_t7_loop.trips) (v418 : BitVec 32) (v420 : Vec F S8x128 .f32) (v422 : Vec F S8x128 .f32) (v426 : Vec F S1x8x128 .i32) (v429 : Vec F S1x8x128 .i32) (v432 : Vec F S1x8x128 .i32) (init : Vec F S8x128 .f32)
    (X21 : BufTy.Contents (Elt F) arg21.view.ty) (G : BufTy.Contents (Elt F) arg16.view.ty) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 c0_i32_106 c1_i32_107 k0_t7 v418 v420 v422 v426 v429 v432 init where
  inv k acc := iprop((arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab8 v420 v422 (arg21.view.read (Elt F) X21) (arg16.view.read (Elt F) G) k0_t7.val k⌝
      ∗ ⌜acc = pcV (upd8 v420 v422 (arg21.view.read (Elt F) X21) (arg16.view.read (Elt F) G)) k0_t7.val v426 v429 v432 v40 init k⌝)
  step k acc := by
    have hk : k.val < 8 := Nat.lt_of_lt_of_le k.isLt k0_t8_abs.2.1
    have hg : k0_t7.val < 32 := Nat.lt_of_lt_of_le k0_t7.isLt k0_t7_abs.2.1
    unfold k0_t8_body
    iintro ⟨HR, ⟨%f, HW, %hf, %hacc⟩⟩
    sl_exec
    sl_step
    isplitl [HR]; · iexact HR
    iexists _; isplitl [HW]; · iexact HW
    isplitl []
    · ipureintro
      refine trip_tab arg16.view f v420 v422 _ _ k0_t7.val k.val hg hk _ _ _ _ (Gen.k0_off42_eq k0_t7 k) (Gen.k0_off39_eq k0_t7 k) hf ?_ ?_
      · intro r l
        refine (pay_hi _ _ _ _ _ r l).trans ?_
        rw [readA arg21.view X21 _ 1 k.val (by decide) hk (Gen.k0_off40_eq k), readA arg21.view X21 _ 3 k.val (by decide) hk (Gen.k0_off41_eq k)]
        exact congrArg _ (readP arg16.view f _ k.val k0_t7.val 128 hk hg (Gen.k0_off42_eq k0_t7 k) r l ⟨128 + l.val, by omega⟩ rfl)
      · intro r l
        refine (pay_lo _ _ _ _ _ r l).trans ?_
        rw [readA arg21.view X21 _ 0 k.val (by decide) hk (Gen.k0_off37_eq k), readA arg21.view X21 _ 2 k.val (by decide) hk (Gen.k0_off38_eq k)]
        exact congrArg _ (readP arg16.view f _ k.val k0_t7.val 0 hk hg (Gen.k0_off39_eq k0_t7 k) r l ⟨l.val, by omega⟩ (by show l.val = 0 + l.val; omega))
    ipureintro
    refine pcV_succ v420 v422 _ _ k0_t7.val k.val hg hk v426 v429 v432 v40 init acc _ hacc _ _ (fun r l => pay64_at _ _ _ _ _ _ k _ _ _ _ _ _ _ r l) ?_ ?_
    · intro r l
      refine (pay_hi _ _ _ _ _ r l).trans ?_
      rw [readA arg21.view X21 _ 1 k.val (by decide) hk (Gen.k0_off40_eq k), readA arg21.view X21 _ 3 k.val (by decide) hk (Gen.k0_off41_eq k)]
      refine congrArg _ ((readP arg16.view f _ k.val k0_t7.val 128 hk hg (Gen.k0_off42_eq k0_t7 k) r l ⟨128 + l.val, by omega⟩ rfl).trans ?_)
      rw [hf]
      exact tab8_at _ _ _ _ _ _ hk _ _
    · intro r l
      refine (pay_lo _ _ _ _ _ r l).trans ?_
      rw [readA arg21.view X21 _ 0 k.val (by decide) hk (Gen.k0_off37_eq k), readA arg21.view X21 _ 2 k.val (by decide) hk (Gen.k0_off38_eq k)]
      refine congrArg _ ((readP arg16.view f _ k.val k0_t7.val 0 hk hg (Gen.k0_off39_eq k0_t7 k) r l ⟨l.val, by omega⟩ (by show l.val = 0 + l.val; omega)).trans ?_)
      rw [hf]
      exact tab8_at _ _ _ _ _ _ hk _ _

/-- The residual picks of a group after `k` chunks. -/
theorem st_at_k0_t3 (𝒱 : Variants) (c : Dev nD) (bd : Option 𝒱.V) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h2 : k0_cond2 i = 1#1) (v201 : BitVec 32) (v204 : IVec S8x128 1) (v354 : FVec F S8x128 .f32) (k0_t1 : Fin k0_t1_loop.trips) (v562 : BitVec 32) (v568 : Vec F S8x128 .f32) (v580 v583 : Vec F S1x8x128 .i32)
    (X19 : BufTy.Contents (Elt F) arg19.view.ty) (X20 : BufTy.Contents (Elt F) arg20.view.ty) (init : Vec F S8x128 .f32) (hg : k0_t1.val < 32) (k : ℕ) (hk : k ≤ 8) (r : Fin 8) (l : Fin 128) :
    Gen.st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 k0_t1 v562 (k0_pay57 v568) (k0_pay60 v580) (k0_pay61 v583) 0#32 1#32 X19 X20 init k (ix2 r l)
    = tcN (fun k h l => resT (arg20.view.read (Elt F) X20 (ix3 (4 : Fin 5) ⟨2 * k.val + h.val, by omega⟩ l)) (arg19.view.read (Elt F) X19 (ix3 k ⟨8 * k0_t1.val + r.val, by omega⟩ ⟨128 * h.val + l.val, by omega⟩)) (v568 (ix2 r l)))
        (v580 (ix3 (0 : Fin 1) r l)) (v583 (ix3 (0 : Fin 1) r l)) v201 (init (ix2 r l)) k := by
  have ht : k0_t3_loop.trips = 8 := rfl
  refine st_tcN (fun k => Gen.st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 k0_t1 v562 (k0_pay57 v568) (k0_pay60 v580) (k0_pay61 v583) 0#32 1#32 X19 X20 init k) init rfl (fun r k h l => resT (arg20.view.read (Elt F) X20 (ix3 (4 : Fin 5) ⟨2 * k.val + h.val, by omega⟩ l)) (arg19.view.read (Elt F) X19 (ix3 k ⟨8 * k0_t1.val + r.val, by omega⟩ ⟨128 * h.val + l.val, by omega⟩)) (v568 (ix2 r l))) v580 v583 v201 (fun k hk r l => ?_) k hk r l
  beta_reduce
  rw [Gen.st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 k0_t1 v562 (k0_pay57 v568) (k0_pay60 v580) (k0_pay61 v583) 0#32 1#32 X19 X20 init ⟨k, by rw [ht]; exact hk⟩]
  unfold Gen.tripR_k0_t3 Gen.trip_k0_t3
  refine (pay110_at _ _ _ _ _ _ _ _ _ _ r l).trans ?_
  rw [readS arg20.view X20 _ (2 * k + 1) (by omega) (show k0_off13 ⟨k, by rw [ht]; exact hk⟩ 1#32 = ![4, 2 * k + 1, 0] from Gen.k0_off13_eq ⟨k, by rw [ht]; exact hk⟩ 1), readS arg20.view X20 _ (2 * k) (by omega) (show k0_off13 ⟨k, by rw [ht]; exact hk⟩ 0#32 = ![4, 2 * k, 0] from Gen.k0_off13_eq ⟨k, by rw [ht]; exact hk⟩ 0),
    readP arg19.view X19 _ k k0_t1.val 128 hk hg (Gen.k0_off15_eq k0_t1 ⟨k, by rw [ht]; exact hk⟩) r _ ⟨128 + (tk (v580 (ix3 (0 : Fin 1) r l))).val, by omega⟩ rfl,
    readP arg19.view X19 _ k k0_t1.val 0 hk hg (Gen.k0_off14_eq k0_t1 ⟨k, by rw [ht]; exact hk⟩) r _ ⟨128 * 0 + (tk (v580 (ix3 (0 : Fin 1) r l))).val, by omega⟩ rfl]
  rfl

/-- The residual picks of a group after `k` chunks. -/
theorem st_at_k0_t6 (𝒱 : Variants) (c : Dev nD) (bd : Option 𝒱.V) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h3 : k0_cond3 i = 1#1) (v201 : BitVec 32) (v204 : IVec S8x128 1) (v354 : FVec F S8x128 .f32) (k0_t4 : Fin k0_t4_loop.trips) (v562 : BitVec 32) (v568 : Vec F S8x128 .f32) (v580 v583 : Vec F S1x8x128 .i32)
    (X19 : BufTy.Contents (Elt F) arg18.view.ty) (X20 : BufTy.Contents (Elt F) arg20.view.ty) (init : Vec F S8x128 .f32) (hg : k0_t4.val < 32) (k : ℕ) (hk : k ≤ 8) (r : Fin 8) (l : Fin 128) :
    Gen.st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 k0_t4 v562 (k0_pay57 v568) (k0_pay60 v580) (k0_pay61 v583) 0#32 1#32 X19 X20 init k (ix2 r l)
    = tcN (fun k h l => resT (arg20.view.read (Elt F) X20 (ix3 (4 : Fin 5) ⟨2 * k.val + h.val, by omega⟩ l)) (arg18.view.read (Elt F) X19 (ix3 k ⟨8 * k0_t4.val + r.val, by omega⟩ ⟨128 * h.val + l.val, by omega⟩)) (v568 (ix2 r l)))
        (v580 (ix3 (0 : Fin 1) r l)) (v583 (ix3 (0 : Fin 1) r l)) v201 (init (ix2 r l)) k := by
  have ht : k0_t6_loop.trips = 8 := rfl
  refine st_tcN (fun k => Gen.st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 k0_t4 v562 (k0_pay57 v568) (k0_pay60 v580) (k0_pay61 v583) 0#32 1#32 X19 X20 init k) init rfl (fun r k h l => resT (arg20.view.read (Elt F) X20 (ix3 (4 : Fin 5) ⟨2 * k.val + h.val, by omega⟩ l)) (arg18.view.read (Elt F) X19 (ix3 k ⟨8 * k0_t4.val + r.val, by omega⟩ ⟨128 * h.val + l.val, by omega⟩)) (v568 (ix2 r l))) v580 v583 v201 (fun k hk r l => ?_) k hk r l
  beta_reduce
  rw [Gen.st_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 k0_t4 v562 (k0_pay57 v568) (k0_pay60 v580) (k0_pay61 v583) 0#32 1#32 X19 X20 init ⟨k, by rw [ht]; exact hk⟩]
  unfold Gen.tripR_k0_t6 Gen.trip_k0_t6
  refine (pay110_at _ _ _ _ _ _ _ _ _ _ r l).trans ?_
  rw [readS arg20.view X20 _ (2 * k + 1) (by omega) (show k0_off28 ⟨k, by rw [ht]; exact hk⟩ 1#32 = ![4, 2 * k + 1, 0] from Gen.k0_off28_eq ⟨k, by rw [ht]; exact hk⟩ 1), readS arg20.view X20 _ (2 * k) (by omega) (show k0_off28 ⟨k, by rw [ht]; exact hk⟩ 0#32 = ![4, 2 * k, 0] from Gen.k0_off28_eq ⟨k, by rw [ht]; exact hk⟩ 0),
    readP arg18.view X19 _ k k0_t4.val 128 hk hg (Gen.k0_off30_eq k0_t4 ⟨k, by rw [ht]; exact hk⟩) r _ ⟨128 + (tk (v580 (ix3 (0 : Fin 1) r l))).val, by omega⟩ rfl,
    readP arg18.view X19 _ k k0_t4.val 0 hk hg (Gen.k0_off29_eq k0_t4 ⟨k, by rw [ht]; exact hk⟩) r _ ⟨128 * 0 + (tk (v580 (ix3 (0 : Fin 1) r l))).val, by omega⟩ rfl]
  rfl

/-- The residual picks of a group after `k` chunks. -/
theorem st_at_k0_t9 (𝒱 : Variants) (c : Dev nD) (bd : Option 𝒱.V) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h4 : k0_cond4 i = 1#1) (v40 : BitVec 32) (v43 : IVec S8x128 1) (v172 : IVec S8x128 32) (v185 : FVec F S8x128 .f32) (v186 : IVec S8x128 32) (k0_t7 : Fin k0_t7_loop.trips) (v418 : BitVec 32) (v424 : Vec F S8x128 .f32) (v436 v439 : Vec F S1x8x128 .i32)
    (X19 : BufTy.Contents (Elt F) arg18.view.ty) (X20 : BufTy.Contents (Elt F) arg20.view.ty) (init : Vec F S8x128 .f32) (hg : k0_t7.val < 32) (k : ℕ) (hk : k ≤ 8) (r : Fin 8) (l : Fin 128) :
    Gen.st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 k0_t7 v418 (k0_pay57 v424) (k0_pay60 v436) (k0_pay61 v439) 0#32 1#32 X19 X20 init k (ix2 r l)
    = tcN (fun k h l => resT (arg20.view.read (Elt F) X20 (ix3 (4 : Fin 5) ⟨2 * k.val + h.val, by omega⟩ l)) (arg18.view.read (Elt F) X19 (ix3 k ⟨8 * k0_t7.val + r.val, by omega⟩ ⟨128 * h.val + l.val, by omega⟩)) (v424 (ix2 r l)))
        (v436 (ix3 (0 : Fin 1) r l)) (v439 (ix3 (0 : Fin 1) r l)) v40 (init (ix2 r l)) k := by
  have ht : k0_t9_loop.trips = 8 := rfl
  refine st_tcN (fun k => Gen.st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 k0_t7 v418 (k0_pay57 v424) (k0_pay60 v436) (k0_pay61 v439) 0#32 1#32 X19 X20 init k) init rfl (fun r k h l => resT (arg20.view.read (Elt F) X20 (ix3 (4 : Fin 5) ⟨2 * k.val + h.val, by omega⟩ l)) (arg18.view.read (Elt F) X19 (ix3 k ⟨8 * k0_t7.val + r.val, by omega⟩ ⟨128 * h.val + l.val, by omega⟩)) (v424 (ix2 r l))) v436 v439 v40 (fun k hk r l => ?_) k hk r l
  beta_reduce
  rw [Gen.st_k0_t9_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 k0_t7 v418 (k0_pay57 v424) (k0_pay60 v436) (k0_pay61 v439) 0#32 1#32 X19 X20 init ⟨k, by rw [ht]; exact hk⟩]
  unfold Gen.tripR_k0_t9 Gen.trip_k0_t9
  refine (pay110_at _ _ _ _ _ _ _ _ _ _ r l).trans ?_
  rw [readS arg20.view X20 _ (2 * k + 1) (by omega) (show k0_off43 ⟨k, by rw [ht]; exact hk⟩ 1#32 = ![4, 2 * k + 1, 0] from Gen.k0_off43_eq ⟨k, by rw [ht]; exact hk⟩ 1), readS arg20.view X20 _ (2 * k) (by omega) (show k0_off43 ⟨k, by rw [ht]; exact hk⟩ 0#32 = ![4, 2 * k, 0] from Gen.k0_off43_eq ⟨k, by rw [ht]; exact hk⟩ 0),
    readP arg18.view X19 _ k k0_t7.val 128 hk hg (Gen.k0_off45_eq k0_t7 ⟨k, by rw [ht]; exact hk⟩) r _ ⟨128 + (tk (v436 (ix3 (0 : Fin 1) r l))).val, by omega⟩ rfl,
    readP arg18.view X19 _ k k0_t7.val 0 hk hg (Gen.k0_off44_eq k0_t7 ⟨k, by rw [ht]; exact hk⟩) r _ ⟨128 * 0 + (tk (v436 (ix3 (0 : Fin 1) r l))).val, by omega⟩ rfl]
  rfl

end Cert.KernelIdeal.Hand
-- ==== Proof.OuterI.lean ====
module

public import proofs.«01_k».proof.Proof.InnerI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
@[sl_loop] def tblInv_k0_t1 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h2 : k0_cond2 i = 1#1) (v201 : BitVec 32) (v204 : IVec S8x128 1) (v354 : FVec F S8x128 .f32)
    (G14 : BufTy.Contents (Elt F) arg14.view.ty) (G15 : BufTy.Contents (Elt F) arg15.view.ty) (X11 : BufTy.Contents (Elt F) arg11.view.ty) (X12 : BufTy.Contents (Elt F) arg12.view.ty) (X13 : BufTy.Contents (Elt F) arg13.view.ty)
    (G : BufTy.Contents (Elt F) arg17.view.ty) (X19 : BufTy.Contents (Elt F) arg19.view.ty) (X20 : BufTy.Contents (Elt F) arg20.view.ty) (X21 : BufTy.Contents (Elt F) arg21.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f)
      ∗ ⌜arg14.view.read (Elt F) f = grp (arg14.view.read (Elt F) G14) (pcT (upd (arg11.view.read (Elt F) X11) (arg12.view.read (Elt F) X12) (arg21.view.read (Elt F) X21) (arg17.view.read (Elt F) G)) (arg13.view.read (Elt F) X13) v201 (arg14.view.read (Elt F) G14)) k⌝)
    ∗ (∃ f : BufTy.Contents (Elt F) arg15.view.ty, (arg15.view.loc (c : Thread nD τ) ↦[arg15.view.set]{fullShare} f)
      ∗ ⌜arg15.view.read (Elt F) f = grp (arg15.view.read (Elt F) G15) (tcT (EF (arg20.view.read (Elt F) X20) (arg19.view.read (Elt F) X19) (arg11.view.read (Elt F) X11)) (arg13.view.read (Elt F) X13) v201 (arg15.view.read (Elt F) G15)) k⌝)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg17.view.ty, (arg17.view.loc (c : Thread nD τ) ↦[arg17.view.set]{fullShare} f)
      ∗ ⌜arg17.view.read (Elt F) f = tab (arg11.view.read (Elt F) X11) (arg12.view.read (Elt F) X12) (arg21.view.read (Elt F) X21) (arg17.view.read (Elt F) G) k⌝)
  step k acc := by
    have hk : k.val < 32 := Nat.lt_of_lt_of_le k.isLt k0_t1_abs.2.1
    unfold k0_t1_body
    iintro ⟨H11, H12, H13, ⟨%f14, H14, %hf14⟩, ⟨%f15, H15, %hf15⟩, H19, H20, H21, ⟨%f, H17, %hf⟩⟩
    sl_exec
    sl_step
    isplitl [H11]; · iexact H11
    isplitl [H12]; · iexact H12
    isplitl [H13]; · iexact H13
    isplitl [H14]
    · iexists _; isplitl [H14]; · iexact H14
      ipureintro
      refine grp_succ arg14.view f14 _ _ k.val hk _ _ (Gen.k0_off1_eq k) hf14 (fun r l => ?_)
      refine (congrFun (show k0_pay65 _ = _ from shapeCast_self _ shapeCasts_S8x128_S8x128) (ix2 r l)).trans ?_
      rw [hf]
      exact pcV_all _ _ _ _ _ _ _ _ _ _ _ _ _ k.val hk (fun r l => readQ arg11.view X11 _ k.val hk (Gen.k0_off1_eq k) r l)
        (fun r l => readQ arg12.view X12 _ k.val hk (Gen.k0_off1_eq k) r l)
        (fun r l => readI arg13.view X13 _ 0 k.val hk (Gen.k0_off2_eq k) r l)
        (fun r l => readI arg13.view X13 _ 1 k.val hk (Gen.k0_off3_eq k) r l)
        (fun r l => readI arg13.view X13 _ 2 k.val hk (Gen.k0_off4_eq k) r l)
        (fun r l => (readQ arg14.view f14 _ k.val hk (Gen.k0_off1_eq k) r l).trans ((congrFun hf14 _).trans (grp_at _ _ k.val hk r l))) r l
    isplitl [H15]
    · iexists _; isplitl [H15]; · iexact H15
      ipureintro
      refine grp_succ arg15.view f15 _ _ k.val hk _ _ (Gen.k0_off1_eq k) hf15 (fun r l => ?_)
      refine (congrFun (shapeCast_self _ shapeCasts_S8x128_S8x128) (ix2 r l)).trans ?_
      refine (st_at_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v201 v204 v354 k _ _ _ _ _ _ _ hk 8 (le_refl 8) r l).trans ?_
      rw [readI arg13.view X13 _ 3 k.val hk (Gen.k0_off5_eq k) r l, readI arg13.view X13 _ 4 k.val hk (Gen.k0_off6_eq k) r l]
      refine (tcN_congr _ _ (fun a b m => ?_) _ _ _ _ _).trans (congrArg (fun z => tcN _ _ _ _ z 8) ((readQ arg15.view f15 _ k.val hk (Gen.k0_off1_eq k) r l).trans ((congrFun hf15 _).trans (grp_at _ _ k.val hk r l))))
      exact congrArg (resT _ _) (readQ arg11.view X11 _ k.val hk (Gen.k0_off1_eq k) r m)
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off1_eq k) r l)
      (fun r l => readQ arg12.view X12 _ k.val hk (Gen.k0_off1_eq k) r l)

set_option warn.classDefReducibility false in
@[sl_loop] def tblInv_k0_t4 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h3 : k0_cond3 i = 1#1) (v201 : BitVec 32) (v204 : IVec S8x128 1) (v354 : FVec F S8x128 .f32)
    (G14 : BufTy.Contents (Elt F) arg14.view.ty) (G15 : BufTy.Contents (Elt F) arg15.view.ty) (X11 : BufTy.Contents (Elt F) arg11.view.ty) (X12 : BufTy.Contents (Elt F) arg12.view.ty) (X13 : BufTy.Contents (Elt F) arg13.view.ty)
    (G : BufTy.Contents (Elt F) arg16.view.ty) (X19 : BufTy.Contents (Elt F) arg18.view.ty) (X20 : BufTy.Contents (Elt F) arg20.view.ty) (X21 : BufTy.Contents (Elt F) arg21.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f)
      ∗ ⌜arg14.view.read (Elt F) f = grp (arg14.view.read (Elt F) G14) (pcT (upd (arg11.view.read (Elt F) X11) (arg12.view.read (Elt F) X12) (arg21.view.read (Elt F) X21) (arg16.view.read (Elt F) G)) (arg13.view.read (Elt F) X13) v201 (arg14.view.read (Elt F) G14)) k⌝)
    ∗ (∃ f : BufTy.Contents (Elt F) arg15.view.ty, (arg15.view.loc (c : Thread nD τ) ↦[arg15.view.set]{fullShare} f)
      ∗ ⌜arg15.view.read (Elt F) f = grp (arg15.view.read (Elt F) G15) (tcT (EF (arg20.view.read (Elt F) X20) (arg18.view.read (Elt F) X19) (arg11.view.read (Elt F) X11)) (arg13.view.read (Elt F) X13) v201 (arg15.view.read (Elt F) G15)) k⌝)
    ∗ (arg18.view.loc (c : Thread nD τ) ↦[arg18.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab (arg11.view.read (Elt F) X11) (arg12.view.read (Elt F) X12) (arg21.view.read (Elt F) X21) (arg16.view.read (Elt F) G) k⌝)
  step k acc := by
    have hk : k.val < 32 := Nat.lt_of_lt_of_le k.isLt k0_t4_abs.2.1
    unfold k0_t4_body
    iintro ⟨H11, H12, H13, ⟨%f14, H14, %hf14⟩, ⟨%f15, H15, %hf15⟩, H19, H20, H21, ⟨%f, H17, %hf⟩⟩
    sl_exec
    sl_step
    isplitl [H11]; · iexact H11
    isplitl [H12]; · iexact H12
    isplitl [H13]; · iexact H13
    isplitl [H14]
    · iexists _; isplitl [H14]; · iexact H14
      ipureintro
      refine grp_succ arg14.view f14 _ _ k.val hk _ _ (Gen.k0_off16_eq k) hf14 (fun r l => ?_)
      refine (congrFun (show k0_pay160 _ = _ from shapeCast_self _ shapeCasts_S8x128_S8x128) (ix2 r l)).trans ?_
      rw [hf]
      exact pcV_all _ _ _ _ _ _ _ _ _ _ _ _ _ k.val hk (fun r l => readQ arg11.view X11 _ k.val hk (Gen.k0_off16_eq k) r l)
        (fun r l => readQ arg12.view X12 _ k.val hk (Gen.k0_off16_eq k) r l)
        (fun r l => readI arg13.view X13 _ 0 k.val hk (Gen.k0_off17_eq k) r l)
        (fun r l => readI arg13.view X13 _ 1 k.val hk (Gen.k0_off18_eq k) r l)
        (fun r l => readI arg13.view X13 _ 2 k.val hk (Gen.k0_off19_eq k) r l)
        (fun r l => (readQ arg14.view f14 _ k.val hk (Gen.k0_off16_eq k) r l).trans ((congrFun hf14 _).trans (grp_at _ _ k.val hk r l))) r l
    isplitl [H15]
    · iexists _; isplitl [H15]; · iexact H15
      ipureintro
      refine grp_succ arg15.view f15 _ _ k.val hk _ _ (Gen.k0_off16_eq k) hf15 (fun r l => ?_)
      refine (congrFun (shapeCast_self _ shapeCasts_S8x128_S8x128) (ix2 r l)).trans ?_
      refine (st_at_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v201 v204 v354 k _ _ _ _ _ _ _ hk 8 (le_refl 8) r l).trans ?_
      rw [readI arg13.view X13 _ 3 k.val hk (Gen.k0_off20_eq k) r l, readI arg13.view X13 _ 4 k.val hk (Gen.k0_off21_eq k) r l]
      refine (tcN_congr _ _ (fun a b m => ?_) _ _ _ _ _).trans (congrArg (fun z => tcN _ _ _ _ z 8) ((readQ arg15.view f15 _ k.val hk (Gen.k0_off16_eq k) r l).trans ((congrFun hf15 _).trans (grp_at _ _ k.val hk r l))))
      exact congrArg (resT _ _) (readQ arg11.view X11 _ k.val hk (Gen.k0_off16_eq k) r m)
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off16_eq k) r l)
      (fun r l => readQ arg12.view X12 _ k.val hk (Gen.k0_off16_eq k) r l)

set_option warn.classDefReducibility false in
@[sl_loop] def tblInv_k0_t7 (𝒱 : Variants) (c : Dev nD) (bd : Option 𝒱.V) (E : Set ℕ) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (k0_h4 : k0_cond4 i = 1#1) (v40 : BitVec 32) (v43 : IVec S8x128 1) (v172 : IVec S8x128 32) (v185 : FVec F S8x128 .f32) (v186 : IVec S8x128 32)
    (G14 : BufTy.Contents (Elt F) arg14.view.ty) (G15 : BufTy.Contents (Elt F) arg15.view.ty) (X11 : BufTy.Contents (Elt F) arg11.view.ty) (X12 : BufTy.Contents (Elt F) arg12.view.ty) (X13 : BufTy.Contents (Elt F) arg13.view.ty)
    (G : BufTy.Contents (Elt F) arg16.view.ty) (X19 : BufTy.Contents (Elt F) arg18.view.ty) (X20 : BufTy.Contents (Elt F) arg20.view.ty) (X21 : BufTy.Contents (Elt F) arg21.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 where
  inv k acc := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f : BufTy.Contents (Elt F) arg14.view.ty, (arg14.view.loc (c : Thread nD τ) ↦[arg14.view.set]{fullShare} f)
      ∗ ⌜arg14.view.read (Elt F) f = grp (arg14.view.read (Elt F) G14) (pcT (upd (arg11.view.read (Elt F) X11) (arg12.view.read (Elt F) X12) (arg21.view.read (Elt F) X21) (arg16.view.read (Elt F) G)) (arg13.view.read (Elt F) X13) v40 (arg14.view.read (Elt F) G14)) k⌝)
    ∗ (∃ f : BufTy.Contents (Elt F) arg15.view.ty, (arg15.view.loc (c : Thread nD τ) ↦[arg15.view.set]{fullShare} f)
      ∗ ⌜arg15.view.read (Elt F) f = grp (arg15.view.read (Elt F) G15) (tcT (EF (arg20.view.read (Elt F) X20) (arg18.view.read (Elt F) X19) (arg11.view.read (Elt F) X11)) (arg13.view.read (Elt F) X13) v40 (arg15.view.read (Elt F) G15)) k⌝)
    ∗ (arg18.view.loc (c : Thread nD τ) ↦[arg18.view.set]{fullShare} X19)
    ∗ (arg20.view.loc (c : Thread nD τ) ↦[arg20.view.set]{fullShare} X20)
    ∗ (arg21.view.loc (c : Thread nD τ) ↦[arg21.view.set]{fullShare} X21)
    ∗ ∃ f : BufTy.Contents (Elt F) arg16.view.ty, (arg16.view.loc (c : Thread nD τ) ↦[arg16.view.set]{fullShare} f)
      ∗ ⌜arg16.view.read (Elt F) f = tab (arg11.view.read (Elt F) X11) (arg12.view.read (Elt F) X12) (arg21.view.read (Elt F) X21) (arg16.view.read (Elt F) G) k⌝)
  step k acc := by
    have hk : k.val < 32 := Nat.lt_of_lt_of_le k.isLt k0_t7_abs.2.1
    unfold k0_t7_body
    iintro ⟨H11, H12, H13, ⟨%f14, H14, %hf14⟩, ⟨%f15, H15, %hf15⟩, H19, H20, H21, ⟨%f, H17, %hf⟩⟩
    sl_exec
    sl_step
    isplitl [H11]; · iexact H11
    isplitl [H12]; · iexact H12
    isplitl [H13]; · iexact H13
    isplitl [H14]
    · iexists _; isplitl [H14]; · iexact H14
      ipureintro
      refine grp_succ arg14.view f14 _ _ k.val hk _ _ (Gen.k0_off31_eq k) hf14 (fun r l => ?_)
      refine (congrFun (show k0_pay255 _ = _ from shapeCast_self _ shapeCasts_S8x128_S8x128) (ix2 r l)).trans ?_
      rw [hf]
      exact pcV_all _ _ _ _ _ _ _ _ _ _ _ _ _ k.val hk (fun r l => readQ arg11.view X11 _ k.val hk (Gen.k0_off31_eq k) r l)
        (fun r l => readQ arg12.view X12 _ k.val hk (Gen.k0_off31_eq k) r l)
        (fun r l => readI arg13.view X13 _ 0 k.val hk (Gen.k0_off32_eq k) r l)
        (fun r l => readI arg13.view X13 _ 1 k.val hk (Gen.k0_off33_eq k) r l)
        (fun r l => readI arg13.view X13 _ 2 k.val hk (Gen.k0_off34_eq k) r l)
        (fun r l => (readQ arg14.view f14 _ k.val hk (Gen.k0_off31_eq k) r l).trans ((congrFun hf14 _).trans (grp_at _ _ k.val hk r l))) r l
    isplitl [H15]
    · iexists _; isplitl [H15]; · iexact H15
      ipureintro
      refine grp_succ arg15.view f15 _ _ k.val hk _ _ (Gen.k0_off31_eq k) hf15 (fun r l => ?_)
      refine (congrFun (shapeCast_self _ shapeCasts_S8x128_S8x128) (ix2 r l)).trans ?_
      refine (st_at_k0_t9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 v40 v43 v172 v185 v186 k _ _ _ _ _ _ _ hk 8 (le_refl 8) r l).trans ?_
      rw [readI arg13.view X13 _ 3 k.val hk (Gen.k0_off35_eq k) r l, readI arg13.view X13 _ 4 k.val hk (Gen.k0_off36_eq k) r l]
      refine (tcN_congr _ _ (fun a b m => ?_) _ _ _ _ _).trans (congrArg (fun z => tcN _ _ _ _ z 8) ((readQ arg15.view f15 _ k.val hk (Gen.k0_off31_eq k) r l).trans ((congrFun hf15 _).trans (grp_at _ _ k.val hk r l))))
      exact congrArg (resT _ _) (readQ arg11.view X11 _ k.val hk (Gen.k0_off31_eq k) r m)
    isplitl [H19]; · iexact H19
    isplitl [H20]; · iexact H20
    isplitl [H21]; · iexact H21
    iexists _; isplitl [H17]; · iexact H17
    ipureintro
    refine hL2.trans ?_
    rw [hf]
    exact tab_succ _ _ _ _ _ _ k.val hk (fun r l => readQ arg11.view X11 _ k.val hk (Gen.k0_off31_eq k) r l)
      (fun r l => readQ arg12.view X12 _ k.val hk (Gen.k0_off31_eq k) r l)

end Cert.KernelIdeal.Hand
-- ==== Proof.FactAI.lean ====
module

public import proofs.«01_k».proof.Proof.TabI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two products of a block: eight chunks of 256 columns -/

/-- The 128 packed columns of chunk `k`. -/
def wcol (cp : Vec F S960x1024 .i8) (k : ℕ) (hk : k < 8) : Vec F S960x128 .i8 := fun y =>
  cp (ix2 ⟨(y 0).val, (y 0).isLt⟩ ⟨128 * k + (y 1).val, by have h : (y 1).val < 128 := (y 1).isLt; omega⟩)

/-- The table of products of the query rows with a block of packed codes, one chunk per leading index. -/
def PF (xq : Vec F S256x960 .bf16) (cp : Vec F S960x1024 .i8) : Vec F S8x256x256 .f32 := fun y =>
  k0_pay31 xq (wcol cp (y 0).val (y 0).isLt) (ix3 (0 : Fin 1) ⟨(y 1).val, (y 1).isLt⟩ ⟨(y 2).val, (y 2).isLt⟩)

theorem PF_at (xq : Vec F S256x960 .bf16) (cp : Vec F S960x1024 .i8) (k : ℕ) (hk : k < 8) (y : S8x256x256.Idx) (x : S1x256x256.Idx)
    (h0 : (y 0).val = k) (h1 : (y 1).val = (x 1).val) (h2 : (y 2).val = (x 2).val) : PF xq cp y = k0_pay31 xq (wcol cp k hk) x := by
  subst h0
  refine congrArg (k0_pay31 xq (wcol cp (y 0).val hk)) (funext fun a => Fin.ext ?_)
  match a with
  | ⟨0, _⟩ => show 0 = (x 0).val; have h : (x 0).val < 1 := (x 0).isLt; omega
  | ⟨1, _⟩ => exact h1
  | ⟨2, _⟩ => exact h2

/-- Eight chunk stores leave the table of products. -/
theorem read_P {κ : Kind} {sp : Space} (V : View sig κ sp S8x256x256 .f32) (f : V.ty.Contents (Elt F)) (xq : Vec F S256x960 .bf16)
    (cp : Vec F S960x1024 .i8) (w0 w1 w2 w3 w4 w5 w6 w7 : Vec F S1x256x256 .f32)
    (e0 : w0 = k0_pay31 xq (wcol cp 0 (by decide)))
    (e1 : w1 = k0_pay31 xq (wcol cp 1 (by decide)))
    (e2 : w2 = k0_pay31 xq (wcol cp 2 (by decide)))
    (e3 : w3 = k0_pay31 xq (wcol cp 3 (by decide)))
    (e4 : w4 = k0_pay31 xq (wcol cp 4 (by decide)))
    (e5 : w5 = k0_pay31 xq (wcol cp 5 (by decide)))
    (e6 : w6 = k0_pay31 xq (wcol cp 6 (by decide)))
    (e7 : w7 = k0_pay31 xq (wcol cp 7 (by decide))) :
    V.read (Elt F) (V.writes (Elt F) f [⟨Rect.unit ![7, 0, 0] S1x256x256.size inb_S8x256x256_S1x256x256_7_0_0, w7⟩,
      ⟨Rect.unit ![6, 0, 0] S1x256x256.size inb_S8x256x256_S1x256x256_6_0_0, w6⟩,
      ⟨Rect.unit ![5, 0, 0] S1x256x256.size inb_S8x256x256_S1x256x256_5_0_0, w5⟩,
      ⟨Rect.unit ![4, 0, 0] S1x256x256.size inb_S8x256x256_S1x256x256_4_0_0, w4⟩,
      ⟨Rect.unit ![3, 0, 0] S1x256x256.size inb_S8x256x256_S1x256x256_3_0_0, w3⟩,
      ⟨Rect.unit ![2, 0, 0] S1x256x256.size inb_S8x256x256_S1x256x256_2_0_0, w2⟩,
      ⟨Rect.unit ![1, 0, 0] S1x256x256.size inb_S8x256x256_S1x256x256_1_0_0, w1⟩,
      ⟨Rect.unit ![0, 0, 0] S1x256x256.size inb_S8x256x256_S1x256x256_0_0_0, w0⟩]) = PF xq cp := by
  subst e0 e1 e2 e3 e4 e5 e6 e7
  funext y
  refine View.read_writes_apply_of_pieces V f (PF xq cp) _ ?_ y ?_
  · simp only [List.forall_mem_cons]
    refine ⟨fun x => ?_, fun x => ?_, fun x => ?_, fun x => ?_, fun x => ?_, fun x => ?_, fun x => ?_, fun x => ?_, fun p hp => absurd hp List.not_mem_nil⟩
    · exact (PF_at xq cp 7 (by decide) _ x (by show 7 + 1 * (x 0).val = 7; have h : (x 0).val < 1 := (x 0).isLt; omega) (by show 0 + 1 * (x 1).val = _; omega) (by show 0 + 1 * (x 2).val = _; omega)).symm
    · exact (PF_at xq cp 6 (by decide) _ x (by show 6 + 1 * (x 0).val = 6; have h : (x 0).val < 1 := (x 0).isLt; omega) (by show 0 + 1 * (x 1).val = _; omega) (by show 0 + 1 * (x 2).val = _; omega)).symm
    · exact (PF_at xq cp 5 (by decide) _ x (by show 5 + 1 * (x 0).val = 5; have h : (x 0).val < 1 := (x 0).isLt; omega) (by show 0 + 1 * (x 1).val = _; omega) (by show 0 + 1 * (x 2).val = _; omega)).symm
    · exact (PF_at xq cp 4 (by decide) _ x (by show 4 + 1 * (x 0).val = 4; have h : (x 0).val < 1 := (x 0).isLt; omega) (by show 0 + 1 * (x 1).val = _; omega) (by show 0 + 1 * (x 2).val = _; omega)).symm
    · exact (PF_at xq cp 3 (by decide) _ x (by show 3 + 1 * (x 0).val = 3; have h : (x 0).val < 1 := (x 0).isLt; omega) (by show 0 + 1 * (x 1).val = _; omega) (by show 0 + 1 * (x 2).val = _; omega)).symm
    · exact (PF_at xq cp 2 (by decide) _ x (by show 2 + 1 * (x 0).val = 2; have h : (x 0).val < 1 := (x 0).isLt; omega) (by show 0 + 1 * (x 1).val = _; omega) (by show 0 + 1 * (x 2).val = _; omega)).symm
    · exact (PF_at xq cp 1 (by decide) _ x (by show 1 + 1 * (x 0).val = 1; have h : (x 0).val < 1 := (x 0).isLt; omega) (by show 0 + 1 * (x 1).val = _; omega) (by show 0 + 1 * (x 2).val = _; omega)).symm
    · exact (PF_at xq cp 0 (by decide) _ x (by show 0 + 1 * (x 0).val = 0; have h : (x 0).val < 1 := (x 0).isLt; omega) (by show 0 + 1 * (x 1).val = _; omega) (by show 0 + 1 * (x 2).val = _; omega)).symm
  · exact View.cover_of_tiled _ ![1, 256, 256] (by rfl) y

/-- A load of chunk `k`'s packed columns. -/
theorem readAt_wcol {κ : Kind} {sp : Space} (V : View sig κ sp S960x1024 .i8) (X : V.ty.Contents (Elt F)) (k : ℕ) (hk : k < 8)
    (inb : ∀ a, (![0, 128 * k] : Fin 2 → ℕ) a + S960x128.size a ≤ S960x1024.size a) :
    V.readAt (Elt F) (Rect.unit (s := S960x1024) ![0, 128 * k] S960x128.size inb).toLoadRect X = wcol (V.read (Elt F) X) k hk :=
  funext fun x => readAt2 V X inb rfl x _ fun a => by match a with
    | ⟨0, _⟩ => show (x 0).val = 0 + (x 0).val; omega
    | ⟨1, _⟩ => rfl

/-- A load of a whole rank-two buffer. -/
theorem readAt_all {κ : Kind} {sp : Space} {e : EltTy} {d : Fin 2 → ℕ} (V : View sig κ sp (⟨2, d⟩ : Shape) e) (X : V.ty.Contents (Elt F))
    (inb : ∀ a, (![0, 0] : Fin 2 → ℕ) a + d a ≤ d a) :
    V.readAt (Elt F) (Rect.unit (s := ⟨2, d⟩) ![0, 0] d inb).toLoadRect X = V.read (Elt F) X :=
  funext fun x => readAt2 V X inb rfl x _ fun a => by match a with
    | ⟨0, _⟩ => show (x 0).val = 0 + (x 0).val; omega
    | ⟨1, _⟩ => show (x 1).val = 0 + (x 1).val; omega

/-- The product of chunk `k` as the body computes it from its loads. -/
theorem payP {κ κ' : Kind} {sp sp' : Space} (V : View sig κ sp S256x960 .bf16) (X : V.ty.Contents (Elt F)) (V' : View sig κ' sp' S960x1024 .i8)
    (X' : V'.ty.Contents (Elt F)) (k : ℕ) (hk : k < 8) (inb : ∀ a, (![0, 0] : Fin 2 → ℕ) a + S256x960.size a ≤ S256x960.size a)
    (inb' : ∀ a, (![0, 128 * k] : Fin 2 → ℕ) a + S960x128.size a ≤ S960x1024.size a) :
    k0_pay31 (V.readAt (Elt F) (Rect.unit (s := S256x960) ![0, 0] S256x960.size inb).toLoadRect X)
      (V'.readAt (Elt F) (Rect.unit (s := S960x1024) ![0, 128 * k] S960x128.size inb').toLoadRect X')
      = k0_pay31 (V.read (Elt F) X) (wcol (V'.read (Elt F) X') k hk) := by
  rw [readAt_wcol V' X' k hk inb', readAt_all V X inb]

/-! ## What the first step leaves: the query rows, their sums and their products with the mean -/

/-- One batch of the queries. -/
def xb (x : Vec F S2x960x128 .bf16) (b : Fin 2) : Vec F S1x960x128 .bf16 := fun y => x (ix3 b ⟨(y 1).val, (y 1).isLt⟩ ⟨(y 2).val, (y 2).isLt⟩)

/-- The batch a row belongs to. -/
def rb (r : Fin 256) : Fin 2 := ⟨r.val / 128, by omega⟩

/-- The query rows. -/
def XQf (x : Vec F S2x960x128 .bf16) : Vec F S256x960 .bf16 := fun y =>
  k0_pay6 (xb x (rb (y 0))) (ix2 ⟨(y 0).val % 128, Nat.mod_lt _ (by decide)⟩ ⟨(y 1).val, (y 1).isLt⟩)

/-- The sums of the query rows, on every lane. -/
def SQf (x : Vec F S2x960x128 .bf16) : Vec F S256x128 .f32 := fun y =>
  k0_pay7 (xb x (rb (y 0))) (ix2 ⟨(y 0).val % 128, Nat.mod_lt _ (by decide)⟩ ⟨(y 1).val, (y 1).isLt⟩)

/-- The products of the query rows with the mean, on every lane. -/
def QMf (x : Vec F S2x960x128 .bf16) (mu : Vec F S1x960 .f32) : Vec F S256x128 .f32 := fun y =>
  k0_pay8 (xb x (rb (y 0))) mu (ix2 ⟨(y 0).val % 128, Nat.mod_lt _ (by decide)⟩ ⟨(y 1).val, (y 1).isLt⟩)

/-- Two stores of 128 rows each leave the rows of the two payloads. -/
theorem read_two {κ : Kind} {sp : Space} {e : EltTy} {n : ℕ} (V : View sig κ sp (⟨2, ![256, n]⟩ : Shape) e) (f : V.ty.Contents (Elt F))
    (w : Fin 2 → Vec F (⟨2, ![128, n]⟩ : Shape) e) (w0 w1 : Vec F (⟨2, ![128, n]⟩ : Shape) e) (e0 : w0 = w 0) (e1 : w1 = w 1)
    (inb0 : ∀ a, (![0, 0] : Fin 2 → ℕ) a + (![128, n] : Fin 2 → ℕ) a ≤ (![256, n] : Fin 2 → ℕ) a)
    (inb1 : ∀ a, (![128, 0] : Fin 2 → ℕ) a + (![128, n] : Fin 2 → ℕ) a ≤ (![256, n] : Fin 2 → ℕ) a)
    (y : (⟨2, ![256, n]⟩ : Shape).Idx) :
    V.read (Elt F) (V.writes (Elt F) f [⟨Rect.unit (s := ⟨2, ![256, n]⟩) ![128, 0] ![128, n] inb1, w1⟩, ⟨Rect.unit (s := ⟨2, ![256, n]⟩) ![0, 0] ![128, n] inb0, w0⟩]) y
      = w (rb (y 0)) (ix2 ⟨(y 0).val % 128, Nat.mod_lt _ (by decide)⟩ ⟨(y 1).val, (y 1).isLt⟩) := by
  subst e0 e1
  have hr : (y 0).val < 256 := (y 0).isLt
  by_cases h : 128 ≤ (y 0).val
  · rw [View.read_writes_cons_unit_of_mem V f inb1 (w 1) _ y (ix2 ⟨(y 0).val % 128, Nat.mod_lt _ (by decide)⟩ ⟨(y 1).val, (y 1).isLt⟩) rfl
      (fun a => by match a with
        | ⟨0, _⟩ => show (y 0).val = 128 + (y 0).val % 128; omega
        | ⟨1, _⟩ => show (y 1).val = 0 + (y 1).val; omega)]
    exact congrFun (congrArg w (Fin.ext (show 1 = (y 0).val / 128 by omega))) _
  · rw [View.read_writes_cons_unit_of_not_mem V f inb1 (w 1) _ y rfl (0 : Fin 2) (Or.inl (show (y 0).val < 128 by omega)),
      View.read_writes_cons_unit_of_mem V f inb0 (w 0) _ y (ix2 ⟨(y 0).val % 128, Nat.mod_lt _ (by decide)⟩ ⟨(y 1).val, (y 1).isLt⟩) rfl
      (fun a => by match a with
        | ⟨0, _⟩ => show (y 0).val = 0 + (y 0).val % 128; omega
        | ⟨1, _⟩ => show (y 1).val = 0 + (y 1).val; omega)]
    exact congrFun (congrArg w (Fin.ext (show 0 = (y 0).val / 128 by omega))) _

/-- A load of one batch of the queries. -/
theorem readAt_xb {κ : Kind} {sp : Space} (V : View sig κ sp S2x960x128 .bf16) (X : V.ty.Contents (Elt F)) (b : Fin 2)
    (inb : ∀ a, (![b.val, 0, 0] : Fin 3 → ℕ) a + S1x960x128.size a ≤ S2x960x128.size a) :
    V.readAt (Elt F) (Rect.unit (s := S2x960x128) ![b.val, 0, 0] S1x960x128.size inb).toLoadRect X = xb (V.read (Elt F) X) b :=
  funext fun x => readAt3 V X inb rfl x _ fun a => by match a with
    | ⟨0, _⟩ => show b.val = b.val + (x 0).val; have h : (x 0).val < 1 := (x 0).isLt; omega
    | ⟨1, _⟩ => show (x 1).val = 0 + (x 1).val; omega
    | ⟨2, _⟩ => show (x 2).val = 0 + (x 2).val; omega

end Cert.KernelIdeal.Hand
-- ==== Proof.FactBI.lean ====
module

public import proofs.«01_k».proof.Proof.TabI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pointwise.ElementwiseCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A row of bounds or steps, spread to the lanes of a chunk -/

/-- The lane index the body builds: twice the lane plus the parity, wrapped at 128. -/
def laneIx (p : BitVec 32) : IVec S8x128 32 :=
  andi (addi (muli (broadcast S8x128 2#32) (iota .tc S8x128 32 [1] iota_S8x128_d1_w32)) (broadcast S8x128 p)) (broadcast S8x128 127#32)

/-- The lanes of a block of eight rows gathered at `laneIx`. -/
def laneG (p : BitVec 32) (x : FVec F S8x128 .f32) : FVec F S8x128 .f32 :=
  dynamicGather 1 x (shapeCast S8x128 (shapeCast S8x128x1 (select (cmpi .slt (laneIx p) (broadcast S8x128 0#32))
    (addi (laneIx p) (broadcast S8x128 128#32)) (laneIx p)) shapeCasts_S8x128_S8x128x1) shapeCasts_S8x128x1_S8x128)

/-- The gathered lane as one word, for lane `v`. -/
def laneW (v p : BitVec 32) : BitVec 32 :=
  Scalar.select (IntOp.cmpi .slt (IntOp.andi (IntOp.addi (IntOp.muli 2#32 v) p) 127#32) 0#32)
    (IntOp.addi (IntOp.andi (IntOp.addi (IntOp.muli 2#32 v) p) 127#32) 128#32) (IntOp.andi (IntOp.addi (IntOp.muli 2#32 v) p) 127#32)

theorem laneW_eq : ∀ (p : Fin 2) (l : Fin 128), (laneW (BitVec.ofNat 32 l.val) (BitVec.ofNat 32 p.val)).toNat % 128 = (2 * l.val + p.val) % 128 := by
  decide +kernel

theorem laneG_apply (p : Fin 2) (x : FVec F S8x128 .f32) (r : Fin 8) (l : Fin 128) :
    laneG (BitVec.ofNat 32 p.val) x (ix2 r l) = x (ix2 r ⟨(2 * l.val + p.val) % 128, Nat.mod_lt _ (by decide)⟩) := by
  unfold laneG
  rw [shapeCast_shapeCast, dynamicGather_apply]
  refine congrArg x (funext fun a => Fin.ext ?_)
  match a with
  | ⟨0, _⟩ => rfl
  | ⟨1, _⟩ =>
    refine Eq.trans ?_ (laneW_eq p l)
    have hi : iota .tc S8x128 32 [1] iota_S8x128_d1_w32 (ix2 r l) = BitVec.ofNat 32 l.val := iota_single_apply _ _ _ _ _ _
    rw [← hi]
    rfl

/-- Where a cell's bound and step lie in their block. -/
def jx (q : Fin 2) (k : Fin 8) (l : Fin 128) : S2048.Idx := ix1 ⟨256 * k.val + 2 * l.val + q.val, by omega⟩

/-- The first and the last eight rows of a vector of 2048, lanes gathered. -/
def loP (p : BitVec 32) (v : Vec F S2048 .f32) : FVec F S1x8x128 .f32 :=
  shapeCast S1x8x128 (laneG p (extractStridedSlice S8x128 ![0, 0] (shapeCast S16x128 (shapeCast S2048 v shapeCasts_S2048_S2048) shapeCasts_S2048_S16x128)
    slices_S16x128_o0_0_S8x128)) shapeCasts_S8x128_S1x8x128
def hiP (p : BitVec 32) (v : Vec F S2048 .f32) : FVec F S1x8x128 .f32 :=
  shapeCast S1x8x128 (laneG p (extractStridedSlice S8x128 ![8, 0] (shapeCast S16x128 (shapeCast S2048 v shapeCasts_S2048_S2048) shapeCasts_S2048_S16x128)
    slices_S16x128_o8_0_S8x128)) shapeCasts_S8x128_S1x8x128

theorem rows_apply (v : Vec F S2048 .f32) (r : Fin 16) (l : Fin 128) :
    shapeCast S16x128 (shapeCast S2048 v shapeCasts_S2048_S2048) shapeCasts_S2048_S16x128 (ix2 r l) = v (ix1 ⟨128 * r.val + l.val, by omega⟩) := by
  rw [shapeCast_self]
  refine shapeCast_apply v shapeCasts_S2048_S16x128 (ix2 r l) (ix1 ⟨128 * r.val + l.val, by omega⟩) ?_
  rw [Shape.rowMajor_val_one, Shape.rowMajor_val_two]
  show 128 * r.val + l.val = r.val * 128 + l.val
  omega

theorem loP_apply (p : Fin 2) (v : Vec F S2048 .f32) (r : Fin 8) (l : Fin 128) :
    loP (BitVec.ofNat 32 p.val) v (ix3 (0 : Fin 1) r l) = v (ix1 ⟨128 * r.val + (2 * l.val + p.val) % 128, by omega⟩) := by
  unfold loP
  rw [shapeCast_ab_1ab_apply, laneG_apply]
  rw [extractStridedSlice_apply ![0, 0] _ slices_S16x128_o0_0_S8x128 _ (ix2 (⟨r.val, by omega⟩ : Fin 16) (⟨(2 * l.val + p.val) % 128, Nat.mod_lt _ (by decide)⟩ : Fin 128))
    (fun a => by match a with
      | ⟨0, _⟩ => show r.val = 0 + r.val; omega
      | ⟨1, _⟩ => show (2 * l.val + p.val) % 128 = 0 + (2 * l.val + p.val) % 128; omega), rows_apply]

theorem hiP_apply (p : Fin 2) (v : Vec F S2048 .f32) (r : Fin 8) (l : Fin 128) :
    hiP (BitVec.ofNat 32 p.val) v (ix3 (0 : Fin 1) r l) = v (ix1 ⟨128 * (8 + r.val) + (2 * l.val + p.val) % 128, by omega⟩) := by
  unfold hiP
  rw [shapeCast_ab_1ab_apply, laneG_apply]
  rw [extractStridedSlice_apply ![8, 0] _ slices_S16x128_o8_0_S8x128 _ (ix2 (⟨8 + r.val, by omega⟩ : Fin 16) (⟨(2 * l.val + p.val) % 128, Nat.mod_lt _ (by decide)⟩ : Fin 128))
    (fun a => by match a with
      | ⟨0, _⟩ => show 8 + r.val = 8 + r.val; omega
      | ⟨1, _⟩ => show (2 * l.val + p.val) % 128 = 0 + (2 * l.val + p.val) % 128; omega), rows_apply]

/-- The sixteen gathered rows as they lie in the buffer. -/
theorem read_rows {κ : Kind} {sp : Space} (V : View sig κ sp S5x16x128 .f32) (f : V.ty.Contents (Elt F)) (p : Fin 2) (v : Vec F S2048 .f32)
    (L : List (View.Piece (Elt F) S5x16x128 .f32)) (s : Fin 5)
    (inb8 : ∀ a, (![s.val, 8, 0] : Fin 3 → ℕ) a + S1x8x128.size a ≤ S5x16x128.size a)
    (inb0 : ∀ a, (![s.val, 0, 0] : Fin 3 → ℕ) a + S1x8x128.size a ≤ S5x16x128.size a) (r : Fin 16) (l : Fin 128) :
    V.read (Elt F) (V.writes (Elt F) f (⟨Rect.unit ![s.val, 8, 0] S1x8x128.size inb8, hiP (BitVec.ofNat 32 p.val) v⟩
      :: ⟨Rect.unit ![s.val, 0, 0] S1x8x128.size inb0, loP (BitVec.ofNat 32 p.val) v⟩ :: L)) (ix3 s r l)
      = v (ix1 ⟨128 * r.val + (2 * l.val + p.val) % 128, by omega⟩) := by
  by_cases h : 8 ≤ r.val
  · rw [View.read_writes_cons_unit_of_mem V f inb8 (hiP _ v) _ _ (ix3 (0 : Fin 1) (⟨r.val - 8, by omega⟩ : Fin 8) l) rfl
      (fun a => by match a with
        | ⟨0, _⟩ => rfl
        | ⟨1, _⟩ => show r.val = 8 + (r.val - 8); omega
        | ⟨2, _⟩ => show l.val = 0 + l.val; omega), hiP_apply]
    refine congrArg (fun z => v (ix1 z)) (Fin.ext ?_)
    show 128 * (8 + (r.val - 8)) + (2 * l.val + p.val) % 128 = 128 * r.val + (2 * l.val + p.val) % 128
    omega
  · rw [View.read_writes_cons_unit_of_not_mem V f inb8 (hiP _ v) _ _ rfl (1 : Fin 3) (Or.inl (show r.val < 8 by omega)),
      View.read_writes_cons_unit_of_mem V f inb0 (loP _ v) _ _ (ix3 (0 : Fin 1) (⟨r.val, by omega⟩ : Fin 8) l) rfl
      (fun a => by match a with
        | ⟨0, _⟩ => rfl
        | ⟨1, _⟩ => show r.val = 0 + r.val; omega
        | ⟨2, _⟩ => show l.val = 0 + l.val; omega), loP_apply]

/-- Low lanes from the one row, high lanes from the other. -/
def selRow (a b : Vec F S1x8x128 .f32) : FVec F S8x128 .f32 :=
  select k0_pay85 (shapeCast S8x128 a shapeCasts_S1x8x128_S8x128) (shapeCast S8x128 b shapeCasts_S1x8x128_S8x128)

theorem low_lane : ∀ l : Fin 128, IntOp.cmpi .slt (BitVec.ofNat 32 l.val) 64#32 = if l.val < 64 then 1#1 else 0#1 := by decide +kernel

theorem selRow_apply (a b : Vec F S1x8x128 .f32) (k : Fin 8) (l : Fin 128) :
    selRow a b (ix2 k l) = if l.val < 64 then a (ix3 (0 : Fin 1) k l) else b (ix3 (0 : Fin 1) k l) := by
  have hi : iota .tc S8x128 32 [1] iota_S8x128_d1_w32 (ix2 k l) = BitVec.ofNat 32 l.val := iota_single_apply _ _ _ _ _ _
  have hc : k0_pay85 (ix2 k l) = if l.val < 64 then 1#1 else 0#1 := by
    refine Eq.trans ?_ (low_lane l)
    rw [← hi]
    rfl
  show (if k0_pay85 (ix2 k l) = 1#1 then shapeCast S8x128 a shapeCasts_S1x8x128_S8x128 (ix2 k l) else shapeCast S8x128 b shapeCasts_S1x8x128_S8x128 (ix2 k l)) = _
  rw [hc, shapeCast_1ab_ab_apply, shapeCast_1ab_ab_apply]
  by_cases h : l.val < 64
  · rw [if_pos h, if_pos h, if_pos rfl]
  · rw [if_neg h, if_neg h, if_neg (by decide)]

/-- Every other row of the sixteen, even ones on the low lanes and odd ones on the high lanes: cell `(k, l)` is element `256 k + 2 l + p`. -/
theorem row_q {κ : Kind} {sp : Space} (V : View sig κ sp S5x16x128 .f32) (f : V.ty.Contents (Elt F)) (p : Fin 2) (v : Vec F S2048 .f32)
    (L : List (View.Piece (Elt F) S5x16x128 .f32)) (s : Fin 5)
    (inb8 : ∀ a, (![s.val, 8, 0] : Fin 3 → ℕ) a + S1x8x128.size a ≤ S5x16x128.size a)
    (inb0 : ∀ a, (![s.val, 0, 0] : Fin 3 → ℕ) a + S1x8x128.size a ≤ S5x16x128.size a) (inbA inbB) :
    selRow (V.readAt (Elt F) (⟨![s.val, 0, 0], S1x8x128.size, ![1, 2, 1], inbA⟩ : LoadRect S5x16x128)
        (V.writes (Elt F) f (⟨Rect.unit ![s.val, 8, 0] S1x8x128.size inb8, hiP (BitVec.ofNat 32 p.val) v⟩
          :: ⟨Rect.unit ![s.val, 0, 0] S1x8x128.size inb0, loP (BitVec.ofNat 32 p.val) v⟩ :: L)))
      (V.readAt (Elt F) (⟨![s.val, 1, 0], S1x8x128.size, ![1, 2, 1], inbB⟩ : LoadRect S5x16x128)
        (V.writes (Elt F) f (⟨Rect.unit ![s.val, 8, 0] S1x8x128.size inb8, hiP (BitVec.ofNat 32 p.val) v⟩
          :: ⟨Rect.unit ![s.val, 0, 0] S1x8x128.size inb0, loP (BitVec.ofNat 32 p.val) v⟩ :: L)))
      = fun y => v (jx p (y 0) (y 1)) := by
  funext y
  obtain ⟨k, l, rfl⟩ : ∃ (k : Fin 8) (l : Fin 128), y = ix2 k l := ⟨y 0, y 1, eq_ix2 y⟩
  rw [selRow_apply]
  by_cases h : l.val < 64
  · rw [if_pos h]
    refine Eq.trans ?_ ((read_rows V f p v L s inb8 inb0 ⟨2 * k.val, by omega⟩ l).trans ?_)
    · refine congrArg (V.read (Elt F) _) (funext fun a => Fin.ext ?_)
      match a with
      | ⟨0, _⟩ => rfl
      | ⟨1, _⟩ => show 0 + 2 * k.val = 2 * k.val; omega
      | ⟨2, _⟩ => show 0 + 1 * l.val = l.val; omega
    · refine congrArg (fun z => v (ix1 z)) (Fin.ext ?_)
      show 128 * (2 * k.val) + (2 * l.val + p.val) % 128 = 256 * k.val + 2 * l.val + p.val
      omega
  · rw [if_neg h]
    refine Eq.trans ?_ ((read_rows V f p v L s inb8 inb0 ⟨2 * k.val + 1, by omega⟩ l).trans ?_)
    · refine congrArg (V.read (Elt F) _) (funext fun a => Fin.ext ?_)
      match a with
      | ⟨0, _⟩ => rfl
      | ⟨1, _⟩ => show 1 + 2 * k.val = 2 * k.val + 1; omega
      | ⟨2, _⟩ => show 0 + 1 * l.val = l.val; omega
    · refine congrArg (fun z => v (ix1 z)) (Fin.ext ?_)
      show 128 * (2 * k.val + 1) + (2 * l.val + p.val) % 128 = 256 * k.val + 2 * l.val + p.val
      omega

/-- The step as it scales the products: the one sixteenth on the odd columns, whose codes are read sixteen times too large. -/
def stepq (st : Vec F S2048 .f32) (q : Fin 2) (k : Fin 8) (l : Fin 128) : F .f32 :=
  if q.val = 0 then st (jx q k l) else FloatOps.mulf (st (jx q k l)) (Scalar.ofBits .f32 0x3D800000#32)

/-- The four rows of bounds and steps of a block. -/
def AFFf (bd st : Vec F S2048 .f32) : Vec F S4x8x128 .f32 := fun y =>
  if (y 0).val < 2 then bd (jx ⟨(y 0).val % 2, Nat.mod_lt _ (by decide)⟩ (y 1) (y 2))
  else stepq st ⟨(y 0).val % 2, Nat.mod_lt _ (by decide)⟩ (y 1) (y 2)

theorem AFFf_bd (bd st : Vec F S2048 .f32) (q : Fin 2) (k : Fin 8) (l : Fin 128) :
    AFFf bd st (ix3 (⟨q.val, by omega⟩ : Fin 4) k l) = bd (jx q k l) := by
  refine (if_pos (show q.val < 2 from q.isLt)).trans ?_
  exact congrArg (fun z => bd (jx z k l)) (Fin.ext (show q.val % 2 = q.val by omega))

theorem AFFf_st (bd st : Vec F S2048 .f32) (q : Fin 2) (k : Fin 8) (l : Fin 128) :
    AFFf bd st (ix3 (⟨2 + q.val, by omega⟩ : Fin 4) k l) = stepq st q k l := by
  refine (if_neg (show ¬ 2 + q.val < 2 by omega)).trans ?_
  exact congrArg (fun z => stepq st z k l) (Fin.ext (show (2 + q.val) % 2 = q.val by omega))

theorem aff_piece (bd st : Vec F S2048 .f32) (g : FVec F S8x128 .f32) (s : Fin 4)
    (inb : ∀ a, (![s.val, 0, 0] : Fin 3 → ℕ) a + S1x8x128.size a ≤ S4x8x128.size a)
    (h : ∀ (k : Fin 8) (l : Fin 128), g (ix2 k l) = AFFf bd st (ix3 s k l)) (x : S1x8x128.Idx) :
    shapeCast S1x8x128 g shapeCasts_S8x128_S1x8x128 x = AFFf bd st ((Rect.unit (s := S4x8x128) ![s.val, 0, 0] S1x8x128.size inb).emb x) := by
  obtain ⟨u, k, l, rfl⟩ : ∃ (u : Fin 1) (k : Fin 8) (l : Fin 128), x = ix3 u k l := ⟨x 0, x 1, x 2, eq_ix3 x⟩
  rw [shapeCast_ab_1ab_apply, h]
  refine congrArg (AFFf bd st) (funext fun a => Fin.ext ?_)
  match a with
  | ⟨0, _⟩ => show s.val = s.val + 1 * u.val; omega
  | ⟨1, _⟩ => show k.val = 0 + 1 * k.val; omega
  | ⟨2, _⟩ => show l.val = 0 + 1 * l.val; omega

/-- Four row stores leave the table of bounds and steps. -/
theorem read_AFF {κ : Kind} {sp : Space} (V : View sig κ sp S4x8x128 .f32) (f : V.ty.Contents (Elt F)) (bd st : Vec F S2048 .f32)
    (g0 g1 g2 g3 : FVec F S8x128 .f32) (w0 w1 w2 w3 : FVec F S1x8x128 .f32)
    (e0 : g0 = fun y => bd (jx 0 (y 0) (y 1))) (e1 : g1 = fun y => bd (jx 1 (y 0) (y 1)))
    (e2 : g2 = fun y => st (jx 0 (y 0) (y 1))) (e3 : g3 = fun y => st (jx 1 (y 0) (y 1)))
    (d0 : w0 = shapeCast S1x8x128 g0 shapeCasts_S8x128_S1x8x128) (d1 : w1 = shapeCast S1x8x128 g1 shapeCasts_S8x128_S1x8x128)
    (d2 : w2 = shapeCast S1x8x128 g2 shapeCasts_S8x128_S1x8x128)
    (d3 : w3 = shapeCast S1x8x128 (mulf g3 (broadcast S8x128 (Scalar.ofBits .f32 0x3D800000#32))) shapeCasts_S8x128_S1x8x128) :
    V.read (Elt F) (V.writes (Elt F) f [⟨Rect.unit ![3, 0, 0] S1x8x128.size inb_S4x8x128_S1x8x128_3_0_0, w3⟩,
      ⟨Rect.unit ![2, 0, 0] S1x8x128.size inb_S4x8x128_S1x8x128_2_0_0, w2⟩, ⟨Rect.unit ![1, 0, 0] S1x8x128.size inb_S4x8x128_S1x8x128_1_0_0, w1⟩,
      ⟨Rect.unit ![0, 0, 0] S1x8x128.size inb_S4x8x128_S1x8x128_0_0_0, w0⟩]) = AFFf bd st := by
  subst d0 d1 d2 d3 e0 e1 e2 e3
  funext y
  refine View.read_writes_apply_of_pieces V f (AFFf bd st) _ ?_ y ?_
  · simp only [List.forall_mem_cons]
    refine ⟨?_, ?_, ?_, ?_, fun p hp => absurd hp List.not_mem_nil⟩
    · exact aff_piece bd st _ 3 _ fun k l => ((AFFf_st bd st 1 k l).trans (if_neg (show ¬ (1 : Fin 2).val = 0 by decide))).symm
    · exact aff_piece bd st _ 2 _ fun k l => ((AFFf_st bd st 0 k l).trans (if_pos rfl)).symm
    · exact aff_piece bd st _ 1 _ fun k l => (AFFf_bd bd st 1 k l).symm
    · exact aff_piece bd st _ 0 _ fun k l => (AFFf_bd bd st 0 k l).symm
  · exact View.cover_of_tiled _ ![1, 8, 128] (by rfl) y

/-- A load of a whole rank-one buffer. -/
theorem readAt_all1 {κ : Kind} {sp : Space} (V : View sig κ sp S2048 .f32) (X : V.ty.Contents (Elt F))
    (inb : ∀ a, (![0] : Fin 1 → ℕ) a + S2048.size a ≤ S2048.size a) :
    V.readAt (Elt F) (Rect.unit (s := S2048) ![0] S2048.size inb).toLoadRect X = V.read (Elt F) X :=
  funext fun x => congrArg (V.read (Elt F) X) (funext fun a => Fin.ext (by match a with
    | ⟨0, _⟩ => show 0 + 1 * (x 0).val = (x 0).val; omega))

end Cert.KernelIdeal.Hand
-- ==== Proof.FactDI.lean ====
module

public import proofs.«01_k».proof.Proof.CandI
public import proofs.«01_k».proof.Proof.FactAI
public import proofs.«01_k».proof.Proof.FactBI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pointwise.ElementwiseCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The residual products of a block: eight chunks of 256 codes -/

/-- The 256 residual codes of chunk `k`. -/
def wcr (cr : Vec F S960x2048 .i8) (k : ℕ) (hk : k < 8) : Vec F S960x256 .i8 := fun y =>
  cr (ix2 ⟨(y 0).val, (y 0).isLt⟩ ⟨256 * k + (y 1).val, by have h : (y 1).val < 256 := (y 1).isLt; omega⟩)

/-- The table of products of the query rows with a block of residual codes, one chunk per leading index. -/
def RF (xq : Vec F S256x960 .bf16) (cr : Vec F S960x2048 .i8) : Vec F S8x256x256 .f32 := fun y =>
  k0_pay67 xq (wcr cr (y 0).val (y 0).isLt) (ix3 (0 : Fin 1) ⟨(y 1).val, (y 1).isLt⟩ ⟨(y 2).val, (y 2).isLt⟩)

theorem RF_at (xq : Vec F S256x960 .bf16) (cr : Vec F S960x2048 .i8) (k : ℕ) (hk : k < 8) (y : S8x256x256.Idx) (x : S1x256x256.Idx)
    (h0 : (y 0).val = k) (h1 : (y 1).val = (x 1).val) (h2 : (y 2).val = (x 2).val) : RF xq cr y = k0_pay67 xq (wcr cr k hk) x := by
  subst h0
  refine congrArg (k0_pay67 xq (wcr cr (y 0).val hk)) (funext fun a => Fin.ext ?_)
  match a with
  | ⟨0, _⟩ => show 0 = (x 0).val; have h : (x 0).val < 1 := (x 0).isLt; omega
  | ⟨1, _⟩ => exact h1
  | ⟨2, _⟩ => exact h2

/-- Eight chunk stores leave the table of residual products. -/
theorem read_R {κ : Kind} {sp : Space} (V : View sig κ sp S8x256x256 .f32) (f : V.ty.Contents (Elt F)) (xq : Vec F S256x960 .bf16)
    (cr : Vec F S960x2048 .i8) (w0 w1 w2 w3 w4 w5 w6 w7 : Vec F S1x256x256 .f32)
    (e0 : w0 = k0_pay67 xq (wcr cr 0 (by decide)))
    (e1 : w1 = k0_pay67 xq (wcr cr 1 (by decide)))
    (e2 : w2 = k0_pay67 xq (wcr cr 2 (by decide)))
    (e3 : w3 = k0_pay67 xq (wcr cr 3 (by decide)))
    (e4 : w4 = k0_pay67 xq (wcr cr 4 (by decide)))
    (e5 : w5 = k0_pay67 xq (wcr cr 5 (by decide)))
    (e6 : w6 = k0_pay67 xq (wcr cr 6 (by decide)))
    (e7 : w7 = k0_pay67 xq (wcr cr 7 (by decide))) :
    V.read (Elt F) (V.writes (Elt F) f [⟨Rect.unit ![7, 0, 0] S1x256x256.size inb_S8x256x256_S1x256x256_7_0_0, w7⟩,
      ⟨Rect.unit ![6, 0, 0] S1x256x256.size inb_S8x256x256_S1x256x256_6_0_0, w6⟩,
      ⟨Rect.unit ![5, 0, 0] S1x256x256.size inb_S8x256x256_S1x256x256_5_0_0, w5⟩,
      ⟨Rect.unit ![4, 0, 0] S1x256x256.size inb_S8x256x256_S1x256x256_4_0_0, w4⟩,
      ⟨Rect.unit ![3, 0, 0] S1x256x256.size inb_S8x256x256_S1x256x256_3_0_0, w3⟩,
      ⟨Rect.unit ![2, 0, 0] S1x256x256.size inb_S8x256x256_S1x256x256_2_0_0, w2⟩,
      ⟨Rect.unit ![1, 0, 0] S1x256x256.size inb_S8x256x256_S1x256x256_1_0_0, w1⟩,
      ⟨Rect.unit ![0, 0, 0] S1x256x256.size inb_S8x256x256_S1x256x256_0_0_0, w0⟩]) = RF xq cr := by
  subst e0 e1 e2 e3 e4 e5 e6 e7
  funext y
  refine View.read_writes_apply_of_pieces V f (RF xq cr) _ ?_ y ?_
  · simp only [List.forall_mem_cons]
    refine ⟨fun x => ?_, fun x => ?_, fun x => ?_, fun x => ?_, fun x => ?_, fun x => ?_, fun x => ?_, fun x => ?_, fun p hp => absurd hp List.not_mem_nil⟩
    · exact (RF_at xq cr 7 (by decide) _ x (by show 7 + 1 * (x 0).val = 7; have h : (x 0).val < 1 := (x 0).isLt; omega) (by show 0 + 1 * (x 1).val = _; omega) (by show 0 + 1 * (x 2).val = _; omega)).symm
    · exact (RF_at xq cr 6 (by decide) _ x (by show 6 + 1 * (x 0).val = 6; have h : (x 0).val < 1 := (x 0).isLt; omega) (by show 0 + 1 * (x 1).val = _; omega) (by show 0 + 1 * (x 2).val = _; omega)).symm
    · exact (RF_at xq cr 5 (by decide) _ x (by show 5 + 1 * (x 0).val = 5; have h : (x 0).val < 1 := (x 0).isLt; omega) (by show 0 + 1 * (x 1).val = _; omega) (by show 0 + 1 * (x 2).val = _; omega)).symm
    · exact (RF_at xq cr 4 (by decide) _ x (by show 4 + 1 * (x 0).val = 4; have h : (x 0).val < 1 := (x 0).isLt; omega) (by show 0 + 1 * (x 1).val = _; omega) (by show 0 + 1 * (x 2).val = _; omega)).symm
    · exact (RF_at xq cr 3 (by decide) _ x (by show 3 + 1 * (x 0).val = 3; have h : (x 0).val < 1 := (x 0).isLt; omega) (by show 0 + 1 * (x 1).val = _; omega) (by show 0 + 1 * (x 2).val = _; omega)).symm
    · exact (RF_at xq cr 2 (by decide) _ x (by show 2 + 1 * (x 0).val = 2; have h : (x 0).val < 1 := (x 0).isLt; omega) (by show 0 + 1 * (x 1).val = _; omega) (by show 0 + 1 * (x 2).val = _; omega)).symm
    · exact (RF_at xq cr 1 (by decide) _ x (by show 1 + 1 * (x 0).val = 1; have h : (x 0).val < 1 := (x 0).isLt; omega) (by show 0 + 1 * (x 1).val = _; omega) (by show 0 + 1 * (x 2).val = _; omega)).symm
    · exact (RF_at xq cr 0 (by decide) _ x (by show 0 + 1 * (x 0).val = 0; have h : (x 0).val < 1 := (x 0).isLt; omega) (by show 0 + 1 * (x 1).val = _; omega) (by show 0 + 1 * (x 2).val = _; omega)).symm
  · exact View.cover_of_tiled _ ![1, 256, 256] (by rfl) y

/-- A load of chunk `k`'s residual codes. -/
theorem readAt_wcr {κ : Kind} {sp : Space} (V : View sig κ sp S960x2048 .i8) (X : V.ty.Contents (Elt F)) (k : ℕ) (hk : k < 8)
    (inb : ∀ a, (![0, 256 * k] : Fin 2 → ℕ) a + S960x256.size a ≤ S960x2048.size a) :
    V.readAt (Elt F) (Rect.unit (s := S960x2048) ![0, 256 * k] S960x256.size inb).toLoadRect X = wcr (V.read (Elt F) X) k hk :=
  funext fun x => readAt2 V X inb rfl x _ fun a => by match a with
    | ⟨0, _⟩ => show (x 0).val = 0 + (x 0).val; omega
    | ⟨1, _⟩ => rfl

/-- The residual product of chunk `k` as the body computes it from its loads. -/
theorem payR {κ κ' : Kind} {sp sp' : Space} (V : View sig κ sp S256x960 .bf16) (X : V.ty.Contents (Elt F)) (V' : View sig κ' sp' S960x2048 .i8)
    (X' : V'.ty.Contents (Elt F)) (k : ℕ) (hk : k < 8) (inb : ∀ a, (![0, 0] : Fin 2 → ℕ) a + S256x960.size a ≤ S256x960.size a)
    (inb' : ∀ a, (![0, 256 * k] : Fin 2 → ℕ) a + S960x256.size a ≤ S960x2048.size a) :
    k0_pay67 (V.readAt (Elt F) (Rect.unit (s := S256x960) ![0, 0] S256x960.size inb).toLoadRect X)
      (V'.readAt (Elt F) (Rect.unit (s := S960x2048) ![0, 256 * k] S960x256.size inb').toLoadRect X')
      = k0_pay67 (V.read (Elt F) X) (wcr (V'.read (Elt F) X') k hk) := by
  rw [readAt_wcr V' X' k hk inb', readAt_all V X inb]

/-! ## The indices of the candidates, set up by the first step -/

/-- One batch of the candidate ids. -/
def cb (cand : Vec F S2x120x128 .i32) (b : Fin 2) : Vec F S1x120x128 .i32 := fun y => cand (ix3 b ⟨(y 1).val, (y 1).isLt⟩ ⟨(y 2).val, (y 2).isLt⟩)

/-- One of the five tables' payload of one batch. -/
def idxP (s : Fin 5) (v : Vec F S1x120x128 .i32) : Vec F S1x128x128 .i32 :=
  match s with
  | 0 => k0_pay12 (k0_pay11 (F := F) v)
  | 1 => k0_pay13 (k0_pay9 (F := F) v) (k0_pay10 (F := F) v)
  | 2 => k0_pay14 (k0_pay9 (F := F) v) (k0_pay10 (F := F) v)
  | 3 => k0_pay15 (k0_pay9 (F := F) v)
  | 4 => k0_pay16 (k0_pay9 (F := F) v)

/-- The five index tables. -/
def IDXf (cand : Vec F S2x120x128 .i32) : Vec F S5x256x128 .i32 := fun y =>
  idxP (F := F) (y 0) (cb (F := F) cand (rb (y 1))) (ix3 (0 : Fin 1) ⟨(y 1).val % 128, Nat.mod_lt _ (by decide)⟩ ⟨(y 2).val, (y 2).isLt⟩)

theorem IDX_piece (cand : Vec F S2x120x128 .i32) (s : Fin 5) (b : Fin 2) (inb : ∀ a, (![s.val, 128 * b.val, 0] : Fin 3 → ℕ) a + S1x128x128.size a ≤ S5x256x128.size a)
    (x : S1x128x128.Idx) : idxP (F := F) s (cb (F := F) cand b) x = IDXf (F := F) cand ((Rect.unit (s := S5x256x128) ![s.val, 128 * b.val, 0] S1x128x128.size inb).emb x) := by
  obtain ⟨u, r, l, rfl⟩ : ∃ (u : Fin 1) (r l : Fin 128), x = ix3 u r l := ⟨x 0, x 1, x 2, eq_ix3 x⟩
  have e0 : ((Rect.unit (s := S5x256x128) ![s.val, 128 * b.val, 0] S1x128x128.size inb).emb (ix3 u r l)) 0 = s := Fin.ext (by show s.val + 1 * u.val = s.val; omega)
  have e1 : (((Rect.unit (s := S5x256x128) ![s.val, 128 * b.val, 0] S1x128x128.size inb).emb (ix3 u r l)) 1).val = 128 * b.val + r.val := by show 128 * b.val + 1 * r.val = _; omega
  have e2 : (((Rect.unit (s := S5x256x128) ![s.val, 128 * b.val, 0] S1x128x128.size inb).emb (ix3 u r l)) 2).val = l.val := by show 0 + 1 * l.val = _; omega
  generalize (Rect.unit (s := S5x256x128) ![s.val, 128 * b.val, 0] S1x128x128.size inb).emb (ix3 u r l) = y at e0 e1 e2
  unfold IDXf
  have eb : rb (y 1) = b := Fin.ext (by show (y 1).val / 128 = b.val; omega)
  rw [e0, eb]
  refine congrArg (idxP (F := F) s (cb (F := F) cand b)) (funext fun a => Fin.ext ?_)
  match a with
  | ⟨0, _⟩ => show u.val = 0; omega
  | ⟨1, _⟩ => show r.val = (y 1).val % 128; omega
  | ⟨2, _⟩ => exact e2.symm

/-- Ten stores leave the index tables. -/
theorem read_I {κ : Kind} {sp : Space} (V : View sig κ sp S5x256x128 .i32) (f : V.ty.Contents (Elt F)) (cand : Vec F S2x120x128 .i32) (w14 w13 w12 w11 w10 w04 w03 w02 w01 w00 : Vec F S1x128x128 .i32)
    (e14 : w14 = idxP 4 (cb cand 1))
    (e13 : w13 = idxP 3 (cb cand 1))
    (e12 : w12 = idxP 2 (cb cand 1))
    (e11 : w11 = idxP 1 (cb cand 1))
    (e10 : w10 = idxP 0 (cb cand 1))
    (e04 : w04 = idxP 4 (cb cand 0))
    (e03 : w03 = idxP 3 (cb cand 0))
    (e02 : w02 = idxP 2 (cb cand 0))
    (e01 : w01 = idxP 1 (cb cand 0))
    (e00 : w00 = idxP 0 (cb cand 0)) :
    V.read (Elt F) (V.writes (Elt F) f [⟨Rect.unit ![4, 128, 0] S1x128x128.size inb_S5x256x128_S1x128x128_4_128_0, w14⟩,
      ⟨Rect.unit ![3, 128, 0] S1x128x128.size inb_S5x256x128_S1x128x128_3_128_0, w13⟩,
      ⟨Rect.unit ![2, 128, 0] S1x128x128.size inb_S5x256x128_S1x128x128_2_128_0, w12⟩,
      ⟨Rect.unit ![1, 128, 0] S1x128x128.size inb_S5x256x128_S1x128x128_1_128_0, w11⟩,
      ⟨Rect.unit ![0, 128, 0] S1x128x128.size inb_S5x256x128_S1x128x128_0_128_0, w10⟩,
      ⟨Rect.unit ![4, 0, 0] S1x128x128.size inb_S5x256x128_S1x128x128_4_0_0, w04⟩,
      ⟨Rect.unit ![3, 0, 0] S1x128x128.size inb_S5x256x128_S1x128x128_3_0_0, w03⟩,
      ⟨Rect.unit ![2, 0, 0] S1x128x128.size inb_S5x256x128_S1x128x128_2_0_0, w02⟩,
      ⟨Rect.unit ![1, 0, 0] S1x128x128.size inb_S5x256x128_S1x128x128_1_0_0, w01⟩,
      ⟨Rect.unit ![0, 0, 0] S1x128x128.size inb_S5x256x128_S1x128x128_0_0_0, w00⟩]) = IDXf (F := F) cand := by
  subst e14 e13 e12 e11 e10 e04 e03 e02 e01 e00
  funext y
  refine View.read_writes_apply_of_pieces V f (IDXf (F := F) cand) _ ?_ y ?_
  · simp only [List.forall_mem_cons]
    refine ⟨fun x => ?_, fun x => ?_, fun x => ?_, fun x => ?_, fun x => ?_, fun x => ?_, fun x => ?_, fun x => ?_, fun x => ?_, fun x => ?_, fun p hp => absurd hp List.not_mem_nil⟩
    · exact IDX_piece cand 4 1 inb_S5x256x128_S1x128x128_4_128_0 x
    · exact IDX_piece cand 3 1 inb_S5x256x128_S1x128x128_3_128_0 x
    · exact IDX_piece cand 2 1 inb_S5x256x128_S1x128x128_2_128_0 x
    · exact IDX_piece cand 1 1 inb_S5x256x128_S1x128x128_1_128_0 x
    · exact IDX_piece cand 0 1 inb_S5x256x128_S1x128x128_0_128_0 x
    · exact IDX_piece cand 4 0 inb_S5x256x128_S1x128x128_4_0_0 x
    · exact IDX_piece cand 3 0 inb_S5x256x128_S1x128x128_3_0_0 x
    · exact IDX_piece cand 2 0 inb_S5x256x128_S1x128x128_2_0_0 x
    · exact IDX_piece cand 1 0 inb_S5x256x128_S1x128x128_1_0_0 x
    · exact IDX_piece cand 0 0 inb_S5x256x128_S1x128x128_0_0_0 x
  · exact View.cover_of_tiled _ ![1, 128, 128] (by rfl) y

/-- A load of one batch of the candidate ids. -/
theorem readAt_cb {κ : Kind} {sp : Space} (V : View sig κ sp S2x120x128 .i32) (X : V.ty.Contents (Elt F)) (b : Fin 2)
    (inb : ∀ a, (![b.val, 0, 0] : Fin 3 → ℕ) a + S1x120x128.size a ≤ S2x120x128.size a) :
    V.readAt (Elt F) (Rect.unit (s := S2x120x128) ![b.val, 0, 0] S1x120x128.size inb).toLoadRect X = cb (F := F) (V.read (Elt F) X) b :=
  funext fun x => readAt3 V X inb rfl x _ fun a => by match a with
    | ⟨0, _⟩ => show b.val = b.val + (x 0).val; have h : (x 0).val < 1 := (x 0).isLt; omega
    | ⟨1, _⟩ => show (x 1).val = 0 + (x 1).val; omega
    | ⟨2, _⟩ => show (x 2).val = 0 + (x 2).val; omega

/-! ## The steps in their own order -/

/-- The steps of a block in their own order, sixteen rows of 128. -/
def STf (st : Vec F S2048 .f32) : Vec F S5x16x128 .f32 := fun y =>
  st (ix1 ⟨128 * (y 1).val + (y 2).val, by have h1 : (y 1).val < 16 := (y 1).isLt; have h2 : (y 2).val < 128 := (y 2).isLt; omega⟩)

theorem EF_congr (S S' : Vec F S5x16x128 .f32) (R : Vec F S8x256x256 .f32) (Q : Vec F S256x128 .f32) (h : ∀ (k : Fin 16) (l : Fin 128), S (ix3 (4 : Fin 5) k l) = S' (ix3 (4 : Fin 5) k l)) :
    EF S R Q = EF S' R Q :=
  funext fun r => funext fun k => funext fun j => funext fun l => congrArg (fun z => resT z _ _) (h _ l)

/-- The steps' rows are not touched by the four stores after them. -/
theorem read_ST {κ : Kind} {sp : Space} (V : View sig κ sp S5x16x128 .f32) (f : V.ty.Contents (Elt F)) (L : List (View.Piece (Elt F) S5x16x128 .f32))
    (w1 w2 w3 w4 : Vec F S1x8x128 .f32) (st : Vec F S2048 .f32) (k : Fin 16) (l : Fin 128) :
    V.read (Elt F) (V.writes (Elt F) f (⟨Rect.unit ![3, 8, 0] S1x8x128.size inb_S5x16x128_S1x8x128_3_8_0, w1⟩
      :: ⟨Rect.unit ![3, 0, 0] S1x8x128.size inb_S5x16x128_S1x8x128_3_0_0, w2⟩
      :: ⟨Rect.unit ![2, 8, 0] S1x8x128.size inb_S5x16x128_S1x8x128_2_8_0, w3⟩
      :: ⟨Rect.unit ![2, 0, 0] S1x8x128.size inb_S5x16x128_S1x8x128_2_0_0, w4⟩
      :: ⟨Rect.unit ![4, 0, 0] S1x16x128.size inb_S5x16x128_S1x16x128_4_0_0, k0_pay99 st⟩ :: L)) (ix3 (4 : Fin 5) k l)
      = STf st (ix3 (4 : Fin 5) k l) := by
  rw [View.read_writes_cons_unit_of_not_mem V f inb_S5x16x128_S1x8x128_3_8_0 w1 _ (ix3 (4 : Fin 5) k l) rfl (0 : Fin 3) (Or.inr (show 3 + 1 ≤ 4 by decide)),
    View.read_writes_cons_unit_of_not_mem V f inb_S5x16x128_S1x8x128_3_0_0 w2 _ (ix3 (4 : Fin 5) k l) rfl (0 : Fin 3) (Or.inr (show 3 + 1 ≤ 4 by decide)),
    View.read_writes_cons_unit_of_not_mem V f inb_S5x16x128_S1x8x128_2_8_0 w3 _ (ix3 (4 : Fin 5) k l) rfl (0 : Fin 3) (Or.inr (show 2 + 1 ≤ 4 by decide)),
    View.read_writes_cons_unit_of_not_mem V f inb_S5x16x128_S1x8x128_2_0_0 w4 _ (ix3 (4 : Fin 5) k l) rfl (0 : Fin 3) (Or.inr (show 2 + 1 ≤ 4 by decide)),
    View.read_writes_cons_unit_of_mem V f inb_S5x16x128_S1x16x128_4_0_0 (k0_pay99 st) _ (ix3 (4 : Fin 5) k l) (ix3 (0 : Fin 1) k l) rfl
      (fun a => by match a with
        | ⟨0, _⟩ => rfl
        | ⟨1, _⟩ => show k.val = 0 + k.val; omega
        | ⟨2, _⟩ => show l.val = 0 + l.val; omega)]
  show shapeCast S1x16x128 (shapeCast S16x128 (shapeCast S2048 st shapeCasts_S2048_S2048) shapeCasts_S2048_S16x128) shapeCasts_S16x128_S1x16x128 (ix3 (0 : Fin 1) k l) = _
  exact (shapeCast_ab_1ab_apply _ shapeCasts_S16x128_S1x16x128 0 k l).trans (rows_apply st k l)

/-! ## The refined scores the last step writes -/

/-- The refined scores from the two tables of picks. -/
def OUTf (pc tc : Vec F S256x128 .f32) : Vec F S2x120x128 .f32 := fun y =>
  FloatOps.addf (pc (ix2 ⟨128 * (y 0).val + (y 2).val, by have h0 : (y 0).val < 2 := (y 0).isLt; have h2 : (y 2).val < 128 := (y 2).isLt; omega⟩ ⟨(y 1).val, by have h : (y 1).val < 120 := (y 1).isLt; omega⟩))
    (FloatOps.mulf (tc (ix2 ⟨128 * (y 0).val + (y 2).val, by have h0 : (y 0).val < 2 := (y 0).isLt; have h2 : (y 2).val < 128 := (y 2).isLt; omega⟩ ⟨(y 1).val, by have h : (y 1).val < 120 := (y 1).isLt; omega⟩)) (Scalar.ofBits .f32 0x3B800000#32))

theorem out0 (pc tc : Vec F S256x128 .f32) (k : Fin 120) (s : Fin 128) : k0_pay321 pc tc (ix3 (0 : Fin 1) k s) = OUTf pc tc (ix3 (0 : Fin 2) k s) := by
  show shapeCast S1x120x128 (extractStridedSlice S120x128 ![0, 0] (transpose S128x128 [1, 0] (extractStridedSlice S128x128 ![0, 0] (k0_pay320 pc tc) slices_S256x128_o0_0_S128x128) transposes_S128x128_p1_0_S128x128) slices_S128x128_o0_0_S120x128) shapeCasts_S120x128_S1x120x128 (ix3 (0 : Fin 1) k s) = _
  refine (shapeCast_ab_1ab_apply _ shapeCasts_S120x128_S1x120x128 0 k s).trans ?_
  refine (extractStridedSlice_apply ![0, 0] _ slices_S128x128_o0_0_S120x128 (ix2 k s) (ix2 (⟨k.val, by omega⟩ : Fin 128) s) (fun a => by match a with
    | ⟨0, _⟩ => show k.val = 0 + k.val; omega
    | ⟨1, _⟩ => show s.val = 0 + s.val; omega)).trans ?_
  refine (transpose_ix2_apply _ _ (⟨k.val, by omega⟩ : Fin 128) s).trans ?_
  exact extractStridedSlice_apply ![0, 0] _ slices_S256x128_o0_0_S128x128 (ix2 s (⟨k.val, by omega⟩ : Fin 128)) (ix2 (⟨128 * 0 + s.val, by omega⟩ : Fin 256) (⟨k.val, by omega⟩ : Fin 128)) (fun a => by match a with
    | ⟨0, _⟩ => show 128 * 0 + s.val = 0 + s.val; omega
    | ⟨1, _⟩ => show k.val = 0 + k.val; omega)

theorem out1 (pc tc : Vec F S256x128 .f32) (k : Fin 120) (s : Fin 128) : k0_pay4 (k0_pay322 pc tc) (ix3 (0 : Fin 1) k s) = OUTf pc tc (ix3 (1 : Fin 2) k s) := by
  show shapeCast S1x120x128 (extractStridedSlice S120x128 ![0, 0] (transpose S128x128 [1, 0] (extractStridedSlice S128x128 ![128, 0] (k0_pay320 pc tc) slices_S256x128_o128_0_S128x128) transposes_S128x128_p1_0_S128x128) slices_S128x128_o0_0_S120x128) shapeCasts_S120x128_S1x120x128 (ix3 (0 : Fin 1) k s) = _
  refine (shapeCast_ab_1ab_apply _ shapeCasts_S120x128_S1x120x128 0 k s).trans ?_
  refine (extractStridedSlice_apply ![0, 0] _ slices_S128x128_o0_0_S120x128 (ix2 k s) (ix2 (⟨k.val, by omega⟩ : Fin 128) s) (fun a => by match a with
    | ⟨0, _⟩ => show k.val = 0 + k.val; omega
    | ⟨1, _⟩ => show s.val = 0 + s.val; omega)).trans ?_
  refine (transpose_ix2_apply _ _ (⟨k.val, by omega⟩ : Fin 128) s).trans ?_
  exact extractStridedSlice_apply ![128, 0] _ slices_S256x128_o128_0_S128x128 (ix2 s (⟨k.val, by omega⟩ : Fin 128)) (ix2 (⟨128 * 1 + s.val, by omega⟩ : Fin 256) (⟨k.val, by omega⟩ : Fin 128)) (fun a => by match a with
    | ⟨0, _⟩ => show 128 * 1 + s.val = 128 + s.val; omega
    | ⟨1, _⟩ => show k.val = 0 + k.val; omega)

/-- The two batches' stores leave the refined scores. -/
theorem read_OUT {κ : Kind} {sp : Space} (V : View sig κ sp S2x120x128 .f32) (f : V.ty.Contents (Elt F)) (pc tc : Vec F S256x128 .f32) (w1 w0 : Vec F S1x120x128 .f32)
    (e1 : w1 = k0_pay4 (k0_pay322 pc tc)) (e0 : w0 = k0_pay321 pc tc) :
    V.read (Elt F) (V.writes (Elt F) f [⟨Rect.unit ![1, 0, 0] S1x120x128.size inb_S2x120x128_S1x120x128_1_0_0, w1⟩, ⟨Rect.unit ![0, 0, 0] S1x120x128.size inb_S2x120x128_S1x120x128_0_0_0, w0⟩]) = OUTf pc tc := by
  subst e1 e0
  funext y
  refine View.read_writes_apply_of_pieces V f (OUTf pc tc) _ ?_ y ?_
  · simp only [List.forall_mem_cons]
    refine ⟨fun x => ?_, fun x => ?_, fun p hp => absurd hp List.not_mem_nil⟩
    · obtain ⟨u, k, s, rfl⟩ : ∃ (u : Fin 1) (k : Fin 120) (s : Fin 128), x = ix3 u k s := ⟨x 0, x 1, x 2, eq_ix3 x⟩
      obtain rfl : u = 0 := Subsingleton.elim _ _
      refine (out1 pc tc k s).trans (congrArg (OUTf pc tc) (funext fun a => Fin.ext ?_))
      match a with
      | ⟨0, _⟩ => rfl
      | ⟨1, _⟩ => show k.val = 0 + 1 * k.val; omega
      | ⟨2, _⟩ => show s.val = 0 + 1 * s.val; omega
    · obtain ⟨u, k, s, rfl⟩ : ∃ (u : Fin 1) (k : Fin 120) (s : Fin 128), x = ix3 u k s := ⟨x 0, x 1, x 2, eq_ix3 x⟩
      obtain rfl : u = 0 := Subsingleton.elim _ _
      refine (out0 pc tc k s).trans (congrArg (OUTf pc tc) (funext fun a => Fin.ext ?_))
      match a with
      | ⟨0, _⟩ => rfl
      | ⟨1, _⟩ => show k.val = 0 + 1 * k.val; omega
      | ⟨2, _⟩ => show s.val = 0 + 1 * s.val; omega
  · exact View.cover_of_tiled _ ![1, 120, 128] (by rfl) y

end Cert.KernelIdeal.Hand
-- ==== Proof.Run1I.lean ====
module

public import proofs.«01_k».proof.Proof.OuterI
public import proofs.«01_k».proof.Proof.FactAI
public import proofs.«01_k».proof.Proof.FactBI
public import proofs.«01_k».proof.Proof.FactCI
public import proofs.«01_k».proof.Proof.FactDI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step: the query rows are set up and the first block multiplied. -/
theorem run_h1 (c : Dev nD) (i : grid0.Coords) (h1 : Scalar.cmpi .ne (Scalar.extui (Scalar.cmpi .eq (BitVec.ofNat 32 (i 0).val) 0#32)) 0#32 = 1#1) (h2 : ¬ (k0_cond2 i = 1#1)) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} X9)
      ∗ (∃ f : BufTy.Contents (Elt F) arg10.view.ty, (arg10.view.loc (c : Thread nD τ) ↦[arg10.view.set]{fullShare} f) ∗ ⌜arg10.view.read (Elt F) f = XQf (arg1.view.read (Elt F) X1)⌝)
      ∗ (∃ f : BufTy.Contents (Elt F) arg11.view.ty, (arg11.view.loc (c : Thread nD τ) ↦[arg11.view.set]{fullShare} f) ∗ ⌜arg11.view.read (Elt F) f = SQf (arg1.view.read (Elt F) X1)⌝)
      ∗ (∃ f : BufTy.Contents (Elt F) arg12.view.ty, (arg12.view.loc (c : Thread nD τ) ↦[arg12.view.set]{fullShare} f) ∗ ⌜arg12.view.read (Elt F) f = QMf (arg1.view.read (Elt F) X1) (arg2.view.read (Elt F) X2)⌝)
      ∗ (∃ f : BufTy.Contents (Elt F) arg13.view.ty, (arg13.view.loc (c : Thread nD τ) ↦[arg13.view.set]{fullShare} f) ∗ ⌜arg13.view.read (Elt F) f = IDXf (F := F) (arg7.view.read (Elt F) X7)⌝)
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f) ∗ ⌜arg16.view.read (Elt F) f = PF (XQf (arg1.view.read (Elt F) X1)) (arg3.view.read (Elt F) X3)⌝)
      ∗ (arg17.view.loc (c : Thread nD τ) ↦[arg17.view.set]{fullShare} X17)
      ∗ (∃ f : BufTy.Contents (Elt F) arg18.view.ty, (arg18.view.loc (c : Thread nD τ) ↦[arg18.view.set]{fullShare} f) ∗ ⌜arg18.view.read (Elt F) f = RF (XQf (arg1.view.read (Elt F) X1)) (arg6.view.read (Elt F) X6)⌝)
      ∗ (arg19.view.loc (c : Thread nD τ) ↦[arg19.view.set]{fullShare} X19)
      ∗ (arg20.view.loc (c : Thread nD τ) ↦[arg20.view.set]{fullShare} X20)
      ∗ (arg21.view.loc (c : Thread nD τ) ↦[arg21.view.set]{fullShare} X21)) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; isplitl [H10]; · iexact H10
    ipureintro
    refine funext fun y => ?_
    exact read_two arg10.view X10 (fun b => k0_pay6 (xb (arg1.view.read (Elt F) X1) b)) _ _
      (congrArg k0_pay6 (readAt_xb arg1.view X1 0 inb_S2x960x128_S1x960x128_0_0_0)) (congrArg k0_pay6 (readAt_xb arg1.view X1 1 inb_S2x960x128_S1x960x128_1_0_0))
      inb_S256x960_S128x960_0_0 inb_S256x960_S128x960_128_0 y
  isplitl [H11]
  · iexists _; isplitl [H11]; · iexact H11
    ipureintro
    refine funext fun y => ?_
    exact read_two arg11.view X11 (fun b => k0_pay7 (xb (arg1.view.read (Elt F) X1) b)) _ _
      (congrArg k0_pay7 (readAt_xb arg1.view X1 0 inb_S2x960x128_S1x960x128_0_0_0)) (congrArg k0_pay7 (readAt_xb arg1.view X1 1 inb_S2x960x128_S1x960x128_1_0_0))
      inb_S256x128_S128x128_0_0 inb_S256x128_S128x128_128_0 y
  isplitl [H12]
  · iexists _; isplitl [H12]; · iexact H12
    ipureintro
    refine funext fun y => ?_
    exact read_two arg12.view X12 (fun b => k0_pay8 (xb (arg1.view.read (Elt F) X1) b) (arg2.view.read (Elt F) X2)) _ _
      (congrArg₂ k0_pay8 (readAt_xb arg1.view X1 0 inb_S2x960x128_S1x960x128_0_0_0) (readAt_all arg2.view X2 inb_S1x960_S1x960_0_0))
      (congrArg₂ k0_pay8 (readAt_xb arg1.view X1 1 inb_S2x960x128_S1x960x128_1_0_0) (readAt_all arg2.view X2 inb_S1x960_S1x960_0_0))
      inb_S256x128_S128x128_0_0 inb_S256x128_S128x128_128_0 y
  isplitl [H13]
  · iexists _; isplitl [H13]; · iexact H13
    ipureintro
    refine read_I arg13.view _ _ _ _ _ _ _ _ _ _ _ _ ?_ ?_ ?_ ?_ ?_ ?_ ?_ ?_ ?_ ?_
    · exact congrArg (idxP (F := F) 4) (readAt_cb arg7.view X7 1 inb_S2x120x128_S1x120x128_1_0_0)
    · exact congrArg (idxP (F := F) 3) (readAt_cb arg7.view X7 1 inb_S2x120x128_S1x120x128_1_0_0)
    · exact congrArg (idxP (F := F) 2) (readAt_cb arg7.view X7 1 inb_S2x120x128_S1x120x128_1_0_0)
    · exact congrArg (idxP (F := F) 1) (readAt_cb arg7.view X7 1 inb_S2x120x128_S1x120x128_1_0_0)
    · exact congrArg (idxP (F := F) 0) (readAt_cb arg7.view X7 1 inb_S2x120x128_S1x120x128_1_0_0)
    · exact congrArg (idxP (F := F) 4) (readAt_cb arg7.view X7 0 inb_S2x120x128_S1x120x128_0_0_0)
    · exact congrArg (idxP (F := F) 3) (readAt_cb arg7.view X7 0 inb_S2x120x128_S1x120x128_0_0_0)
    · exact congrArg (idxP (F := F) 2) (readAt_cb arg7.view X7 0 inb_S2x120x128_S1x120x128_0_0_0)
    · exact congrArg (idxP (F := F) 1) (readAt_cb arg7.view X7 0 inb_S2x120x128_S1x120x128_0_0_0)
    · exact congrArg (idxP (F := F) 0) (readAt_cb arg7.view X7 0 inb_S2x120x128_S1x120x128_0_0_0)
  isplitl [H14]
  · iexists _; iexact H14
  isplitl [H15]
  · iexists _; iexact H15
  isplitl [H16]
  · iexists _; isplitl [H16]; · iexact H16
    ipureintro
    have hxq : run_h1.sl.v180 arg1 arg10 X1 = XQf (arg1.view.read (Elt F) X1) :=
      (readAt_all arg10.view _ inb_S256x960_S256x960_0_0).trans (funext fun y => read_two arg10.view _ (fun b => k0_pay6 (xb (arg1.view.read (Elt F) X1) b)) _ _
        (congrArg k0_pay6 (readAt_xb arg1.view X1 0 inb_S2x960x128_S1x960x128_0_0_0)) (congrArg k0_pay6 (readAt_xb arg1.view X1 1 inb_S2x960x128_S1x960x128_1_0_0))
        inb_S256x960_S128x960_0_0 inb_S256x960_S128x960_128_0 y)
    refine read_P arg16.view _ _ _ _ _ _ _ _ _ _ _ ?_ ?_ ?_ ?_ ?_ ?_ ?_ ?_
    · exact congrArg₂ k0_pay31 hxq (readAt_wcol arg3.view X3 0 (by decide) inb_S960x1024_S960x128_0_0)
    · exact congrArg₂ k0_pay31 hxq (readAt_wcol arg3.view X3 1 (by decide) inb_S960x1024_S960x128_0_128)
    · exact congrArg₂ k0_pay31 hxq (readAt_wcol arg3.view X3 2 (by decide) inb_S960x1024_S960x128_0_256)
    · exact congrArg₂ k0_pay31 hxq (readAt_wcol arg3.view X3 3 (by decide) inb_S960x1024_S960x128_0_384)
    · exact congrArg₂ k0_pay31 hxq (readAt_wcol arg3.view X3 4 (by decide) inb_S960x1024_S960x128_0_512)
    · exact congrArg₂ k0_pay31 hxq (readAt_wcol arg3.view X3 5 (by decide) inb_S960x1024_S960x128_0_640)
    · exact congrArg₂ k0_pay31 hxq (readAt_wcol arg3.view X3 6 (by decide) inb_S960x1024_S960x128_0_768)
    · exact congrArg₂ k0_pay31 hxq (readAt_wcol arg3.view X3 7 (by decide) inb_S960x1024_S960x128_0_896)
  isplitl [H17]
  · iexact H17
  isplitl [H18]
  · iexists _; isplitl [H18]; · iexact H18
    ipureintro
    have hxq : run_h1.sl.v180 arg1 arg10 X1 = XQf (arg1.view.read (Elt F) X1) :=
      (readAt_all arg10.view _ inb_S256x960_S256x960_0_0).trans (funext fun y => read_two arg10.view _ (fun b => k0_pay6 (xb (arg1.view.read (Elt F) X1) b)) _ _
        (congrArg k0_pay6 (readAt_xb arg1.view X1 0 inb_S2x960x128_S1x960x128_0_0_0)) (congrArg k0_pay6 (readAt_xb arg1.view X1 1 inb_S2x960x128_S1x960x128_1_0_0))
        inb_S256x960_S128x960_0_0 inb_S256x960_S128x960_128_0 y)
    refine read_R arg18.view _ _ _ _ _ _ _ _ _ _ _ ?_ ?_ ?_ ?_ ?_ ?_ ?_ ?_
    · exact congrArg₂ k0_pay67 hxq (readAt_wcr arg6.view X6 0 (by decide) inb_S960x2048_S960x256_0_0)
    · exact congrArg₂ k0_pay67 hxq (readAt_wcr arg6.view X6 1 (by decide) inb_S960x2048_S960x256_0_256)
    · exact congrArg₂ k0_pay67 hxq (readAt_wcr arg6.view X6 2 (by decide) inb_S960x2048_S960x256_0_512)
    · exact congrArg₂ k0_pay67 hxq (readAt_wcr arg6.view X6 3 (by decide) inb_S960x2048_S960x256_0_768)
    · exact congrArg₂ k0_pay67 hxq (readAt_wcr arg6.view X6 4 (by decide) inb_S960x2048_S960x256_0_1024)
    · exact congrArg₂ k0_pay67 hxq (readAt_wcr arg6.view X6 5 (by decide) inb_S960x2048_S960x256_0_1280)
    · exact congrArg₂ k0_pay67 hxq (readAt_wcr arg6.view X6 6 (by decide) inb_S960x2048_S960x256_0_1536)
    · exact congrArg₂ k0_pay67 hxq (readAt_wcr arg6.view X6 7 (by decide) inb_S960x2048_S960x256_0_1792)
  isplitl [H19]
  · iexact H19
  isplitl [H20]
  · iexact H20
  iexact H21

end Cert.KernelIdeal.Hand
-- ==== Proof.Run2I.lean ====
module

public import proofs.«01_k».proof.Proof.OuterI
public import proofs.«01_k».proof.Proof.FactAI
public import proofs.«01_k».proof.Proof.FactBI
public import proofs.«01_k».proof.Proof.FactCI
public import proofs.«01_k».proof.Proof.FactDI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An even step between: this block is multiplied into the first table, the second table gives the result. -/
theorem run_h2 (c : Dev nD) (i : grid0.Coords) (h1 : ¬ (Scalar.cmpi .ne (Scalar.extui (Scalar.cmpi .eq (BitVec.ofNat 32 (i 0).val) 0#32)) 0#32 = 1#1)) (h2 : k0_cond2 i = 1#1) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg17.view.read (Elt F) X17) (pix y)⌝)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f) ∗ ⌜arg14.view.read (Elt F) f = pcT (upd (arg11.view.read (Elt F) X11) (arg12.view.read (Elt F) X12) (AFFf (arg4.view.read (Elt F) X4) (arg5.view.read (Elt F) X5)) (arg17.view.read (Elt F) X17)) (arg13.view.read (Elt F) X13) (Scalar.subi (BitVec.ofNat 32 (i 0).val) 1#32) (arg14.view.read (Elt F) X14)⌝)
      ∗ (∃ f : BufTy.Contents (Elt F) arg15.view.ty, (arg15.view.loc (c : Thread nD τ) ↦[arg15.view.set]{fullShare} f) ∗ ⌜arg15.view.read (Elt F) f = tcT (EF (STf (arg5.view.read (Elt F) X5)) (arg19.view.read (Elt F) X19) (arg11.view.read (Elt F) X11)) (arg13.view.read (Elt F) X13) (Scalar.subi (BitVec.ofNat 32 (i 0).val) 1#32) (arg15.view.read (Elt F) X15)⌝)
      ∗ (∃ f : BufTy.Contents (Elt F) arg16.view.ty, (arg16.view.loc (c : Thread nD τ) ↦[arg16.view.set]{fullShare} f) ∗ ⌜arg16.view.read (Elt F) f = PF (arg10.view.read (Elt F) X10) (arg3.view.read (Elt F) X3)⌝)
      ∗ (∃ f : BufTy.Contents (Elt F) arg17.view.ty, (arg17.view.loc (c : Thread nD τ) ↦[arg17.view.set]{fullShare} f))
      ∗ (∃ f : BufTy.Contents (Elt F) arg18.view.ty, (arg18.view.loc (c : Thread nD τ) ↦[arg18.view.set]{fullShare} f) ∗ ⌜arg18.view.read (Elt F) f = RF (arg10.view.read (Elt F) X10) (arg6.view.read (Elt F) X6)⌝)
      ∗ (arg19.view.loc (c : Thread nD τ) ↦[arg19.view.set]{fullShare} X19)
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg17.view fL2).trans ?_
    refine funext fun y => ?_
    have ht := hL11
    have hA : arg21.view.read (Elt F) (arg21.view.writes (Elt F) arg21.view.junk (run_h2.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexact H9
  isplitl [H10]
  · iexact H10
  isplitl [H11]
  · iexact H11
  isplitl [H12]
  · iexact H12
  isplitl [H13]
  · iexact H13
  isplitl [H14]
  · iexists _; isplitl [H14]; · iexact H14
    ipureintro
    have ht := hL4
    have hA : arg21.view.read (Elt F) (arg21.view.writes (Elt F) arg21.view.junk (run_h2.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact ht.trans (grp_all _ _)
  isplitl [H15]
  · iexists _; isplitl [H15]; · iexact H15
    ipureintro
    refine hL6.trans ((grp_all _ _).trans ?_)
    refine congrArg (fun E => tcT E (arg13.view.read (Elt F) X13) (Scalar.subi (BitVec.ofNat 32 (i 0).val) 1#32) (arg15.view.read (Elt F) X15)) ?_
    rw [← readAt_all1 arg5.view X5 inb_S2048_S2048_0]
    exact EF_congr _ _ _ _ fun k l => read_ST arg20.view _ _ _ _ _ _ _ k l
  isplitl [H16]
  · iexists _; isplitl [H16]; · iexact H16
    ipureintro
    refine read_P arg16.view _ _ _ _ _ _ _ _ _ _ _ ?_ ?_ ?_ ?_ ?_ ?_ ?_ ?_
    · exact (payP arg10.view X10 arg3.view X3 0 (by decide) inb_S256x960_S256x960_0_0 inb_S960x1024_S960x128_0_0)
    · exact (payP arg10.view X10 arg3.view X3 1 (by decide) inb_S256x960_S256x960_0_0 inb_S960x1024_S960x128_0_128)
    · exact (payP arg10.view X10 arg3.view X3 2 (by decide) inb_S256x960_S256x960_0_0 inb_S960x1024_S960x128_0_256)
    · exact (payP arg10.view X10 arg3.view X3 3 (by decide) inb_S256x960_S256x960_0_0 inb_S960x1024_S960x128_0_384)
    · exact (payP arg10.view X10 arg3.view X3 4 (by decide) inb_S256x960_S256x960_0_0 inb_S960x1024_S960x128_0_512)
    · exact (payP arg10.view X10 arg3.view X3 5 (by decide) inb_S256x960_S256x960_0_0 inb_S960x1024_S960x128_0_640)
    · exact (payP arg10.view X10 arg3.view X3 6 (by decide) inb_S256x960_S256x960_0_0 inb_S960x1024_S960x128_0_768)
    · exact (payP arg10.view X10 arg3.view X3 7 (by decide) inb_S256x960_S256x960_0_0 inb_S960x1024_S960x128_0_896)
  isplitl [H17]
  · iexists _; iexact H17
  isplitl [H18]
  · iexists _; isplitl [H18]; · iexact H18
    ipureintro
    refine read_R arg18.view _ _ _ _ _ _ _ _ _ _ _ ?_ ?_ ?_ ?_ ?_ ?_ ?_ ?_
    · exact payR arg10.view X10 arg6.view X6 0 (by decide) inb_S256x960_S256x960_0_0 inb_S960x2048_S960x256_0_0
    · exact payR arg10.view X10 arg6.view X6 1 (by decide) inb_S256x960_S256x960_0_0 inb_S960x2048_S960x256_0_256
    · exact payR arg10.view X10 arg6.view X6 2 (by decide) inb_S256x960_S256x960_0_0 inb_S960x2048_S960x256_0_512
    · exact payR arg10.view X10 arg6.view X6 3 (by decide) inb_S256x960_S256x960_0_0 inb_S960x2048_S960x256_0_768
    · exact payR arg10.view X10 arg6.view X6 4 (by decide) inb_S256x960_S256x960_0_0 inb_S960x2048_S960x256_0_1024
    · exact payR arg10.view X10 arg6.view X6 5 (by decide) inb_S256x960_S256x960_0_0 inb_S960x2048_S960x256_0_1280
    · exact payR arg10.view X10 arg6.view X6 6 (by decide) inb_S256x960_S256x960_0_0 inb_S960x2048_S960x256_0_1536
    · exact payR arg10.view X10 arg6.view X6 7 (by decide) inb_S256x960_S256x960_0_0 inb_S960x2048_S960x256_0_1792
  isplitl [H19]
  · iexact H19
  isplitl [H20]
  · iexists _; iexact H20
  iexists _; iexact H21

end Cert.KernelIdeal.Hand
-- ==== Proof.Run3I.lean ====
module

public import proofs.«01_k».proof.Proof.OuterI
public import proofs.«01_k».proof.Proof.FactAI
public import proofs.«01_k».proof.Proof.FactBI
public import proofs.«01_k».proof.Proof.FactCI
public import proofs.«01_k».proof.Proof.FactDI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An odd step between: this block is multiplied into the second table, the first table gives the result. -/
theorem run_h3 (c : Dev nD) (i : grid0.Coords) (h1 : ¬ (Scalar.cmpi .ne (Scalar.extui (Scalar.cmpi .eq (BitVec.ofNat 32 (i 0).val) 0#32)) 0#32 = 1#1)) (h2 : ¬ (k0_cond2 i = 1#1)) (h3 : k0_cond3 i = 1#1) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg16.view.read (Elt F) X16) (pix y)⌝)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f) ∗ ⌜arg14.view.read (Elt F) f = pcT (upd (arg11.view.read (Elt F) X11) (arg12.view.read (Elt F) X12) (AFFf (arg4.view.read (Elt F) X4) (arg5.view.read (Elt F) X5)) (arg16.view.read (Elt F) X16)) (arg13.view.read (Elt F) X13) (Scalar.subi (BitVec.ofNat 32 (i 0).val) 1#32) (arg14.view.read (Elt F) X14)⌝)
      ∗ (∃ f : BufTy.Contents (Elt F) arg15.view.ty, (arg15.view.loc (c : Thread nD τ) ↦[arg15.view.set]{fullShare} f) ∗ ⌜arg15.view.read (Elt F) f = tcT (EF (STf (arg5.view.read (Elt F) X5)) (arg18.view.read (Elt F) X18) (arg11.view.read (Elt F) X11)) (arg13.view.read (Elt F) X13) (Scalar.subi (BitVec.ofNat 32 (i 0).val) 1#32) (arg15.view.read (Elt F) X15)⌝)
      ∗ (∃ f : BufTy.Contents (Elt F) arg16.view.ty, (arg16.view.loc (c : Thread nD τ) ↦[arg16.view.set]{fullShare} f))
      ∗ (∃ f : BufTy.Contents (Elt F) arg17.view.ty, (arg17.view.loc (c : Thread nD τ) ↦[arg17.view.set]{fullShare} f) ∗ ⌜arg17.view.read (Elt F) f = PF (arg10.view.read (Elt F) X10) (arg3.view.read (Elt F) X3)⌝)
      ∗ (arg18.view.loc (c : Thread nD τ) ↦[arg18.view.set]{fullShare} X18)
      ∗ (∃ f : BufTy.Contents (Elt F) arg19.view.ty, (arg19.view.loc (c : Thread nD τ) ↦[arg19.view.set]{fullShare} f) ∗ ⌜arg19.view.read (Elt F) f = RF (arg10.view.read (Elt F) X10) (arg6.view.read (Elt F) X6)⌝)
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg16.view fL2).trans ?_
    refine funext fun y => ?_
    have ht := hL11
    have hA : arg21.view.read (Elt F) (arg21.view.writes (Elt F) arg21.view.junk (run_h3.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexact H9
  isplitl [H10]
  · iexact H10
  isplitl [H11]
  · iexact H11
  isplitl [H12]
  · iexact H12
  isplitl [H13]
  · iexact H13
  isplitl [H14]
  · iexists _; isplitl [H14]; · iexact H14
    ipureintro
    have ht := hL4
    have hA : arg21.view.read (Elt F) (arg21.view.writes (Elt F) arg21.view.junk (run_h3.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact ht.trans (grp_all _ _)
  isplitl [H15]
  · iexists _; isplitl [H15]; · iexact H15
    ipureintro
    refine hL6.trans ((grp_all _ _).trans ?_)
    refine congrArg (fun E => tcT E (arg13.view.read (Elt F) X13) (Scalar.subi (BitVec.ofNat 32 (i 0).val) 1#32) (arg15.view.read (Elt F) X15)) ?_
    rw [← readAt_all1 arg5.view X5 inb_S2048_S2048_0]
    exact EF_congr _ _ _ _ fun k l => read_ST arg20.view _ _ _ _ _ _ _ k l
  isplitl [H16]
  · iexists _; iexact H16
  isplitl [H17]
  · iexists _; isplitl [H17]; · iexact H17
    ipureintro
    refine read_P arg17.view _ _ _ _ _ _ _ _ _ _ _ ?_ ?_ ?_ ?_ ?_ ?_ ?_ ?_
    · exact (payP arg10.view X10 arg3.view X3 0 (by decide) inb_S256x960_S256x960_0_0 inb_S960x1024_S960x128_0_0)
    · exact (payP arg10.view X10 arg3.view X3 1 (by decide) inb_S256x960_S256x960_0_0 inb_S960x1024_S960x128_0_128)
    · exact (payP arg10.view X10 arg3.view X3 2 (by decide) inb_S256x960_S256x960_0_0 inb_S960x1024_S960x128_0_256)
    · exact (payP arg10.view X10 arg3.view X3 3 (by decide) inb_S256x960_S256x960_0_0 inb_S960x1024_S960x128_0_384)
    · exact (payP arg10.view X10 arg3.view X3 4 (by decide) inb_S256x960_S256x960_0_0 inb_S960x1024_S960x128_0_512)
    · exact (payP arg10.view X10 arg3.view X3 5 (by decide) inb_S256x960_S256x960_0_0 inb_S960x1024_S960x128_0_640)
    · exact (payP arg10.view X10 arg3.view X3 6 (by decide) inb_S256x960_S256x960_0_0 inb_S960x1024_S960x128_0_768)
    · exact (payP arg10.view X10 arg3.view X3 7 (by decide) inb_S256x960_S256x960_0_0 inb_S960x1024_S960x128_0_896)
  isplitl [H18]
  · iexact H18
  isplitl [H19]
  · iexists _; isplitl [H19]; · iexact H19
    ipureintro
    refine read_R arg19.view _ _ _ _ _ _ _ _ _ _ _ ?_ ?_ ?_ ?_ ?_ ?_ ?_ ?_
    · exact payR arg10.view X10 arg6.view X6 0 (by decide) inb_S256x960_S256x960_0_0 inb_S960x2048_S960x256_0_0
    · exact payR arg10.view X10 arg6.view X6 1 (by decide) inb_S256x960_S256x960_0_0 inb_S960x2048_S960x256_0_256
    · exact payR arg10.view X10 arg6.view X6 2 (by decide) inb_S256x960_S256x960_0_0 inb_S960x2048_S960x256_0_512
    · exact payR arg10.view X10 arg6.view X6 3 (by decide) inb_S256x960_S256x960_0_0 inb_S960x2048_S960x256_0_768
    · exact payR arg10.view X10 arg6.view X6 4 (by decide) inb_S256x960_S256x960_0_0 inb_S960x2048_S960x256_0_1024
    · exact payR arg10.view X10 arg6.view X6 5 (by decide) inb_S256x960_S256x960_0_0 inb_S960x2048_S960x256_0_1280
    · exact payR arg10.view X10 arg6.view X6 6 (by decide) inb_S256x960_S256x960_0_0 inb_S960x2048_S960x256_0_1536
    · exact payR arg10.view X10 arg6.view X6 7 (by decide) inb_S256x960_S256x960_0_0 inb_S960x2048_S960x256_0_1792
  isplitl [H20]
  · iexists _; iexact H20
  iexists _; iexact H21

end Cert.KernelIdeal.Hand
-- ==== Proof.Run4I.lean ====
module

public import proofs.«01_k».proof.Proof.OuterI
public import proofs.«01_k».proof.Proof.FactAI
public import proofs.«01_k».proof.Proof.FactBI
public import proofs.«01_k».proof.Proof.FactCI
public import proofs.«01_k».proof.Proof.FactDI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last step: the first table gives the result. -/
theorem run_h4 (c : Dev nD) (i : grid0.Coords) (h1 : ¬ (Scalar.cmpi .ne (Scalar.extui (Scalar.cmpi .eq (BitVec.ofNat 32 (i 0).val) 0#32)) 0#32 = 1#1)) (h2 : ¬ (k0_cond2 i = 1#1)) (h3 : ¬ (k0_cond3 i = 1#1)) (h4 : k0_cond4 i = 1#1) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (K : PUnit → sProp 𝕄) :
    iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f : BufTy.Contents (Elt F) arg8.view.ty, (arg8.view.loc (c : Thread nD τ) ↦[arg8.view.set]{fullShare} f) ∗ ⌜arg8.view.read (Elt F) f = fun y => upd (arg11.view.read (Elt F) X11) (arg12.view.read (Elt F) X12) (AFFf (arg4.view.read (Elt F) X4) (arg5.view.read (Elt F) X5)) (arg16.view.read (Elt F) X16) (pix y)⌝)
      ∗ (∃ f : BufTy.Contents (Elt F) arg9.view.ty, (arg9.view.loc (c : Thread nD τ) ↦[arg9.view.set]{fullShare} f) ∗ ⌜arg9.view.read (Elt F) f = OUTf (pcT (upd (arg11.view.read (Elt F) X11) (arg12.view.read (Elt F) X12) (AFFf (arg4.view.read (Elt F) X4) (arg5.view.read (Elt F) X5)) (arg16.view.read (Elt F) X16)) (arg13.view.read (Elt F) X13) (Scalar.subi (BitVec.ofNat 32 (i 0).val) 1#32) (arg14.view.read (Elt F) X14)) (tcT (EF (STf (arg5.view.read (Elt F) X5)) (arg18.view.read (Elt F) X18) (arg11.view.read (Elt F) X11)) (arg13.view.read (Elt F) X13) (Scalar.subi (BitVec.ofNat 32 (i 0).val) 1#32) (arg15.view.read (Elt F) X15))⌝)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12)
      ∗ (arg13.view.loc (c : Thread nD τ) ↦[arg13.view.set]{fullShare} X13)
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f))
      ∗ (arg17.view.loc (c : Thread nD τ) ↦[arg17.view.set]{fullShare} X17)
      ∗ (arg18.view.loc (c : Thread nD τ) ↦[arg18.view.set]{fullShare} X18)
      ∗ (arg19.view.loc (c : Thread nD τ) ↦[arg19.view.set]{fullShare} X19)
      ∗ (∃ f : BufTy.Contents (Elt F) arg20.view.ty, (arg20.view.loc (c : Thread nD τ) ↦[arg20.view.set]{fullShare} f))
      ∗ (∃ f : BufTy.Contents (Elt F) arg21.view.ty, (arg21.view.loc (c : Thread nD τ) ↦[arg21.view.set]{fullShare} f))) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lvq_score_eq_skeleton]; unfold cc0_lvq_score_skel
  iintro ⟨H1, H2, H3, H4, H5, H6, H7, H8, H9, H10, H11, H12, H13, H14, H15, H16, H17, H18, H19, H20, H21, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro
    refine (read_prim arg8.view _ arg16.view fL2).trans ?_
    refine funext fun y => ?_
    have ht := hL11
    have hA : arg21.view.read (Elt F) (arg21.view.writes (Elt F) arg21.view.junk (run_h4.sl.H21_4 arg4 arg5 arg20 X4 X5)) = AFFf (arg4.view.read (Elt F) X4) (arg5.view.read (Elt F) X5) := by
      rw [← readAt_all1 arg4.view X4 inb_S2048_S2048_0, ← readAt_all1 arg5.view X5 inb_S2048_S2048_0]
      exact read_AFF arg21.view _ _ _ _ _ _ _ _ _ _ _
        (row_q arg20.view _ 0 _ _ 0 inb_S5x16x128_S1x8x128_0_8_0 inb_S5x16x128_S1x8x128_0_0_0 _ _)
        (row_q arg20.view _ 1 _ _ 1 inb_S5x16x128_S1x8x128_1_8_0 inb_S5x16x128_S1x8x128_1_0_0 _ _)
        (row_q arg20.view _ 0 _ _ 2 inb_S5x16x128_S1x8x128_2_8_0 inb_S5x16x128_S1x8x128_2_0_0 _ _)
        (row_q arg20.view _ 1 _ _ 3 inb_S5x16x128_S1x8x128_3_8_0 inb_S5x16x128_S1x8x128_3_0_0 _ _) rfl rfl rfl rfl
    rw [hA] at ht
    exact congrFun (ht.trans (tab_all _ _ _ _)) (pix y)
  isplitl [H9]
  · iexists _; isplitl [H9]; · iexact H9
    ipureintro
    have h14 : arg14.view.read (Elt F) fL0 = pcT (upd (arg11.view.read (Elt F) X11) (arg12.view.read (Elt F) X12) (AFFf (arg4.view.read (Elt F) X4) (arg5.view.read (Elt F) X5)) (arg16.view.read (Elt F) X16)) (arg13.view.read (Elt F) X13) (Scalar.subi (BitVec.ofNat 32 (i 0).val) 1#32) (arg14.view.read (Elt F) X14) := by
      have ht := hL4
      have hA : arg21.view.read (Elt F) (arg21.view.writes (Elt F) arg21.view.junk (run_h4.sl.H21_4 arg4 arg5 arg20 X4 X5)) = AFFf (arg4.view.read (Elt F) X4) (arg5.view.read (Elt F) X5) := by
        rw [← readAt_all1 arg4.view X4 inb_S2048_S2048_0, ← readAt_all1 arg5.view X5 inb_S2048_S2048_0]
        exact read_AFF arg21.view _ _ _ _ _ _ _ _ _ _ _
          (row_q arg20.view _ 0 _ _ 0 inb_S5x16x128_S1x8x128_0_8_0 inb_S5x16x128_S1x8x128_0_0_0 _ _)
          (row_q arg20.view _ 1 _ _ 1 inb_S5x16x128_S1x8x128_1_8_0 inb_S5x16x128_S1x8x128_1_0_0 _ _)
          (row_q arg20.view _ 0 _ _ 2 inb_S5x16x128_S1x8x128_2_8_0 inb_S5x16x128_S1x8x128_2_0_0 _ _)
          (row_q arg20.view _ 1 _ _ 3 inb_S5x16x128_S1x8x128_3_8_0 inb_S5x16x128_S1x8x128_3_0_0 _ _) rfl rfl rfl rfl
      rw [hA] at ht
      exact ht.trans (grp_all _ _)
    have h15 : arg15.view.read (Elt F) fL1 = tcT (EF (STf (arg5.view.read (Elt F) X5)) (arg18.view.read (Elt F) X18) (arg11.view.read (Elt F) X11)) (arg13.view.read (Elt F) X13) (Scalar.subi (BitVec.ofNat 32 (i 0).val) 1#32) (arg15.view.read (Elt F) X15) := by
      refine hL6.trans ((grp_all _ _).trans ?_)
      refine congrArg (fun E => tcT E (arg13.view.read (Elt F) X13) (Scalar.subi (BitVec.ofNat 32 (i 0).val) 1#32) (arg15.view.read (Elt F) X15)) ?_
      rw [← readAt_all1 arg5.view X5 inb_S2048_S2048_0]
      exact EF_congr _ _ _ _ fun k l => read_ST arg20.view _ _ _ _ _ _ _ k l
    have e14 := (readAt_all arg14.view fL0 inb_S256x128_S256x128_0_0).trans h14
    have e15 := (readAt_all arg15.view fL1 inb_S256x128_S256x128_0_0).trans h15
    exact read_OUT arg9.view _ _ _ _ _ (congrArg₂ (fun p t => k0_pay4 (k0_pay322 p t)) e14 e15) (congrArg₂ k0_pay321 e14 e15)
  isplitl [H10]
  · iexact H10
  isplitl [H11]
  · iexact H11
  isplitl [H12]
  · iexact H12
  isplitl [H13]
  · iexact H13
  isplitl [H14]
  · iexists _; iexact H14
  isplitl [H15]
  · iexists _; iexact H15
  isplitl [H16]
  · iexists _; iexact H16
  isplitl [H17]
  · iexact H17
  isplitl [H18]
  · iexact H18
  isplitl [H19]
  · iexact H19
  isplitl [H20]
  · iexists _; iexact H20
  iexists _; iexact H21

end Cert.KernelIdeal.Hand
-- ==== Proof.StepI.lean ====
module

public import proofs.«01_k».proof.Proof.Run1I
public import proofs.«01_k».proof.Proof.Run2I
public import proofs.«01_k».proof.Proof.Run3I
public import proofs.«01_k».proof.Proof.Run4I
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one step of the grid leaves, told of what it found: the first step sets up the query rows, their sums and their
products with the mean, and multiplies its block; every later step keeps those, gives the result of the block before its
own out of the table that holds it, and (but for the last step) multiplies its own block into the other table. -/
def Step (n : ℕ) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (Z8 : Vec F S2x2048x128 .f32) (Z9 : Vec F S2x120x128 .f32) (Z10 : Vec F S256x960 .bf16) (Z11 : Vec F S256x128 .f32) (Z12 : Vec F S256x128 .f32) (Z13 : Vec F S5x256x128 .i32) (Z14 : Vec F S256x128 .f32) (Z15 : Vec F S256x128 .f32) (Z16 : Vec F S8x256x256 .f32) (Z17 : Vec F S8x256x256 .f32) (Z18 : Vec F S8x256x256 .f32) (Z19 : Vec F S8x256x256 .f32) : Prop :=
  (n = 0 → Z10 = XQf X1 ∧ Z11 = SQf X1 ∧ Z12 = QMf X1 X2 ∧ Z16 = PF (XQf X1) X3 ∧ Z13 = IDXf (F := F) X7 ∧ Z18 = RF (XQf X1) X6)
  ∧ (0 < n → Z10 = X10 ∧ Z11 = X11 ∧ Z12 = X12 ∧ Z13 = X13)
  ∧ (0 < n → n % 2 = 1 → Z8 = fun y => upd X11 X12 (AFFf X4 X5) X16 (pix y))
  ∧ (0 < n → n % 2 = 0 → Z8 = fun y => upd X11 X12 (AFFf X4 X5) X17 (pix y))
  ∧ (0 < n → n < 49 → n % 2 = 0 → Z16 = PF X10 X3 ∧ Z18 = RF X10 X6)
  ∧ (0 < n → n < 49 → n % 2 = 1 → Z17 = PF X10 X3 ∧ Z19 = RF X10 X6)
  ∧ (0 < n → n < 49 → n % 2 = 1 → Z14 = pcT (upd X11 X12 (AFFf X4 X5) X16) X13 (Scalar.subi (BitVec.ofNat 32 n) 1#32) X14 ∧ Z15 = tcT (EF (STf X5) X18 X11) X13 (Scalar.subi (BitVec.ofNat 32 n) 1#32) X15)
  ∧ (0 < n → n < 49 → n % 2 = 0 → Z14 = pcT (upd X11 X12 (AFFf X4 X5) X17) X13 (Scalar.subi (BitVec.ofNat 32 n) 1#32) X14 ∧ Z15 = tcT (EF (STf X5) X19 X11) X13 (Scalar.subi (BitVec.ofNat 32 n) 1#32) X15)
  ∧ (n = 49 → Z9 = OUTf (pcT (upd X11 X12 (AFFf X4 X5) X16) X13 (Scalar.subi (BitVec.ofNat 32 n) 1#32) X14) (tcT (EF (STf X5) X18 X11) X13 (Scalar.subi (BitVec.ofNat 32 n) 1#32) X15))

/-- The coordinates of step `n`. -/
def gpt (n : Fin 50) : grid0.Coords := fun a => ⟨n.val, by rw [Fin.eq_zero a]; exact n.isLt⟩

/-- Which branches a step takes, by its number. -/
theorem branches (n : Fin 50) :
    (n.val = 0 ∧ (Scalar.cmpi .ne (Scalar.extui (Scalar.cmpi .eq (BitVec.ofNat 32 n.val) 0#32)) 0#32 = 1#1) ∧ ¬ (k0_cond2 (gpt n) = 1#1) ∧ ¬ (k0_cond3 (gpt n) = 1#1) ∧ ¬ (k0_cond4 (gpt n) = 1#1))
    ∨ ((0 < n.val ∧ n.val < 49 ∧ n.val % 2 = 0) ∧ ¬ (Scalar.cmpi .ne (Scalar.extui (Scalar.cmpi .eq (BitVec.ofNat 32 n.val) 0#32)) 0#32 = 1#1) ∧ (k0_cond2 (gpt n) = 1#1) ∧ ¬ (k0_cond3 (gpt n) = 1#1) ∧ ¬ (k0_cond4 (gpt n) = 1#1))
    ∨ ((0 < n.val ∧ n.val < 49 ∧ n.val % 2 = 1) ∧ ¬ (Scalar.cmpi .ne (Scalar.extui (Scalar.cmpi .eq (BitVec.ofNat 32 n.val) 0#32)) 0#32 = 1#1) ∧ ¬ (k0_cond2 (gpt n) = 1#1) ∧ (k0_cond3 (gpt n) = 1#1) ∧ ¬ (k0_cond4 (gpt n) = 1#1))
    ∨ (n.val = 49 ∧ ¬ (Scalar.cmpi .ne (Scalar.extui (Scalar.cmpi .eq (BitVec.ofNat 32 n.val) 0#32)) 0#32 = 1#1) ∧ ¬ (k0_cond2 (gpt n) = 1#1) ∧ ¬ (k0_cond3 (gpt n) = 1#1) ∧ (k0_cond4 (gpt n) = 1#1)) := by
  revert n; decide +kernel

/-- The first step. -/
theorem step_h1 (c : Dev nD) (i : grid0.Coords) (hn : (i 0).val = 0) (h1 : Scalar.cmpi .ne (Scalar.extui (Scalar.cmpi .eq (BitVec.ofNat 32 (i 0).val) 0#32)) 0#32 = 1#1) (h2 : ¬ (k0_cond2 i = 1#1)) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X6 X7 X10 X11 X12 X13 X14 X15 X16 X17 X18 X19 Z8 Z9 Z10 Z11 Z12 Z13 Z14 Z15 Z16 Z17 Z18 Z19⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h1 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, H8, H9, ⟨%g10, H10, %e10⟩, ⟨%g11, H11, %e11⟩, ⟨%g12, H12, %e12⟩, ⟨%g13, H13, %e13⟩, ⟨%g14, H14⟩, ⟨%g15, H15⟩, ⟨%g16, H16, %e16⟩, H17, ⟨%g18, H18, %e18⟩, H19, H20, H21⟩
  iapply Hk
  iexists arg8.view.read (Elt F) f8, arg9.view.read (Elt F) f9, arg10.view.read (Elt F) g10, arg11.view.read (Elt F) g11, arg12.view.read (Elt F) g12, arg13.view.read (Elt F) g13, arg14.view.read (Elt F) g14, arg15.view.read (Elt F) g15, arg16.view.read (Elt F) g16, arg17.view.read (Elt F) f17, arg18.view.read (Elt F) g18, arg19.view.read (Elt F) f19, arg20.view.read (Elt F) f20, arg21.view.read (Elt F) f21
  isplitr
  · ipureintro; exact ⟨fun _ => ⟨e10, e11, e12, e16, e13, e18⟩, fun h => by omega, fun h => by omega, fun h => by omega, fun h => by omega, fun h => by omega, fun h => by omega, fun h => by omega, fun h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists g10; isplitr; · ipureintro; rfl
    iexact H10
  isplitl [H11]
  · iexists g11; isplitr; · ipureintro; rfl
    iexact H11
  isplitl [H12]
  · iexists g12; isplitr; · ipureintro; rfl
    iexact H12
  isplitl [H13]
  · iexists g13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists f17; isplitr; · ipureintro; rfl
    iexact H17
  isplitl [H18]
  · iexists g18; isplitr; · ipureintro; rfl
    iexact H18
  isplitl [H19]
  · iexists f19; isplitr; · ipureintro; rfl
    iexact H19
  isplitl [H20]
  · iexists f20; isplitr; · ipureintro; rfl
    iexact H20
  iexists f21; isplitr; · ipureintro; rfl
  iexact H21

/-- The even step. -/
theorem step_h2 (c : Dev nD) (i : grid0.Coords) (hn : 0 < (i 0).val ∧ (i 0).val < 49 ∧ (i 0).val % 2 = 0) (h1 : ¬ (Scalar.cmpi .ne (Scalar.extui (Scalar.cmpi .eq (BitVec.ofNat 32 (i 0).val) 0#32)) 0#32 = 1#1)) (h2 : k0_cond2 i = 1#1) (h3 : ¬ (k0_cond3 i = 1#1)) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X6 X7 X10 X11 X12 X13 X14 X15 X16 X17 X18 X19 Z8 Z9 Z10 Z11 Z12 Z13 Z14 Z15 Z16 Z17 Z18 Z19⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h2 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, H9, H10, H11, H12, H13, ⟨%g14, H14, %e14⟩, ⟨%g15, H15, %e15⟩, ⟨%g16, H16, %e16⟩, ⟨%g17, H17⟩, ⟨%g18, H18, %e18⟩, H19, ⟨%g20, H20⟩, ⟨%g21, H21⟩⟩
  iapply Hk
  iexists arg8.view.read (Elt F) g8, arg9.view.read (Elt F) f9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) g17, arg18.view.read (Elt F) g18, arg19.view.read (Elt F) f19, arg20.view.read (Elt F) g20, arg21.view.read (Elt F) g21
  isplitr
  · ipureintro; exact ⟨fun h => by omega, fun _ => ⟨rfl, rfl, rfl, rfl⟩, fun _ h => by omega, fun _ _ => e8, fun _ _ _ => ⟨e16, e18⟩, fun _ _ h => by omega, fun _ _ h => by omega, fun _ _ _ => ⟨e14, e15⟩, fun h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists g17; isplitr; · ipureintro; rfl
    iexact H17
  isplitl [H18]
  · iexists g18; isplitr; · ipureintro; rfl
    iexact H18
  isplitl [H19]
  · iexists f19; isplitr; · ipureintro; rfl
    iexact H19
  isplitl [H20]
  · iexists g20; isplitr; · ipureintro; rfl
    iexact H20
  iexists g21; isplitr; · ipureintro; rfl
  iexact H21

/-- The odd step. -/
theorem step_h3 (c : Dev nD) (i : grid0.Coords) (hn : 0 < (i 0).val ∧ (i 0).val < 49 ∧ (i 0).val % 2 = 1) (h1 : ¬ (Scalar.cmpi .ne (Scalar.extui (Scalar.cmpi .eq (BitVec.ofNat 32 (i 0).val) 0#32)) 0#32 = 1#1)) (h2 : ¬ (k0_cond2 i = 1#1)) (h3 : k0_cond3 i = 1#1) (h4 : ¬ (k0_cond4 i = 1#1)) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X6 X7 X10 X11 X12 X13 X14 X15 X16 X17 X18 X19 Z8 Z9 Z10 Z11 Z12 Z13 Z14 Z15 Z16 Z17 Z18 Z19⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h3 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, H9, H10, H11, H12, H13, ⟨%g14, H14, %e14⟩, ⟨%g15, H15, %e15⟩, ⟨%g16, H16⟩, ⟨%g17, H17, %e17⟩, H18, ⟨%g19, H19, %e19⟩, ⟨%g20, H20⟩, ⟨%g21, H21⟩⟩
  iapply Hk
  iexists arg8.view.read (Elt F) g8, arg9.view.read (Elt F) f9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) g17, arg18.view.read (Elt F) f18, arg19.view.read (Elt F) g19, arg20.view.read (Elt F) g20, arg21.view.read (Elt F) g21
  isplitr
  · ipureintro; exact ⟨fun h => by omega, fun _ => ⟨rfl, rfl, rfl, rfl⟩, fun _ _ => e8, fun _ h => by omega, fun _ _ h => by omega, fun _ _ _ => ⟨e17, e19⟩, fun _ _ _ => ⟨e14, e15⟩, fun _ _ h => by omega, fun h => by omega⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists g17; isplitr; · ipureintro; rfl
    iexact H17
  isplitl [H18]
  · iexists f18; isplitr; · ipureintro; rfl
    iexact H18
  isplitl [H19]
  · iexists g19; isplitr; · ipureintro; rfl
    iexact H19
  isplitl [H20]
  · iexists g20; isplitr; · ipureintro; rfl
    iexact H20
  iexists g21; isplitr; · ipureintro; rfl
  iexact H21

/-- The last step. -/
theorem step_h4 (c : Dev nD) (i : grid0.Coords) (hn : (i 0).val = 49) (h1 : ¬ (Scalar.cmpi .ne (Scalar.extui (Scalar.cmpi .eq (BitVec.ofNat 32 (i 0).val) 0#32)) 0#32 = 1#1)) (h2 : ¬ (k0_cond2 i = 1#1)) (h3 : ¬ (k0_cond3 i = 1#1)) (h4 : k0_cond4 i = 1#1) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X6 X7 X10 X11 X12 X13 X14 X15 X16 X17 X18 X19 Z8 Z9 Z10 Z11 Z12 Z13 Z14 Z15 Z16 Z17 Z18 Z19⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  subst e1 e2 e3 e4 e5 e6 e7 e8 e9 e10 e11 e12 e13 e14 e15 e16 e17 e18 e19 e20 e21
  iapply (run_h4 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H7, ⟨%g8, H8, %e8⟩, ⟨%g9, H9, %e9⟩, H10, H11, H12, H13, ⟨%g14, H14⟩, ⟨%g15, H15⟩, ⟨%g16, H16⟩, H17, H18, H19, ⟨%g20, H20⟩, ⟨%g21, H21⟩⟩
  iapply Hk
  iexists arg8.view.read (Elt F) g8, arg9.view.read (Elt F) g9, arg10.view.read (Elt F) f10, arg11.view.read (Elt F) f11, arg12.view.read (Elt F) f12, arg13.view.read (Elt F) f13, arg14.view.read (Elt F) g14, arg15.view.read (Elt F) g15, arg16.view.read (Elt F) g16, arg17.view.read (Elt F) f17, arg18.view.read (Elt F) f18, arg19.view.read (Elt F) f19, arg20.view.read (Elt F) g20, arg21.view.read (Elt F) g21
  isplitr
  · ipureintro; exact ⟨fun h => by omega, fun _ => ⟨rfl, rfl, rfl, rfl⟩, fun _ _ => e8, fun _ h => by omega, fun _ h => by omega, fun _ h => by omega, fun _ h => by omega, fun _ h => by omega, fun _ => e9⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; rfl
    iexact H8
  isplitl [H9]
  · iexists g9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists g14; isplitr; · ipureintro; rfl
    iexact H14
  isplitl [H15]
  · iexists g15; isplitr; · ipureintro; rfl
    iexact H15
  isplitl [H16]
  · iexists g16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists g20; isplitr; · ipureintro; rfl
    iexact H20
  iexists g21; isplitr; · ipureintro; rfl
  iexact H21

/-- Any step of the grid. -/
theorem step_all (c : Dev nD) (i : grid0.Coords) (arg1 : Memref sig .tc .vmem S2x960x128 .bf16) (harg1 : arg1.IsWhole) (arg2 : Memref sig .tc .vmem S1x960 .f32) (harg2 : arg2.IsWhole) (arg3 : Memref sig .tc .vmem S960x1024 .i8) (harg3 : arg3.IsWhole) (arg4 : Memref sig .tc .vmem S2048 .f32) (harg4 : arg4.IsWhole) (arg5 : Memref sig .tc .vmem S2048 .f32) (harg5 : arg5.IsWhole) (arg6 : Memref sig .tc .vmem S960x2048 .i8) (harg6 : arg6.IsWhole) (arg7 : Memref sig .tc .vmem S2x120x128 .i32) (harg7 : arg7.IsWhole) (arg8 : Memref sig .tc .vmem S2x2048x128 .f32) (harg8 : arg8.IsWhole) (arg9 : Memref sig .tc .vmem S2x120x128 .f32) (harg9 : arg9.IsWhole) (arg10 : Memref sig .tc .vmem S256x960 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S5x256x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S8x256x256 .f32) (harg16 : arg16.IsWhole) (arg17 : Memref sig .tc .vmem S8x256x256 .f32) (harg17 : arg17.IsWhole) (arg18 : Memref sig .tc .vmem S8x256x256 .f32) (harg18 : arg18.IsWhole) (arg19 : Memref sig .tc .vmem S8x256x256 .f32) (harg19 : arg19.IsWhole) (arg20 : Memref sig .tc .vmem S5x16x128 .f32) (harg20 : arg20.IsWhole) (arg21 : Memref sig .tc .vmem S4x8x128 .f32) (harg21 : arg21.IsWhole) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X8 : Vec F S2x2048x128 .f32) (X9 : Vec F S2x120x128 .f32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32) (X20 : Vec F S5x16x128 .f32) (X21 : Vec F S4x8x128 .f32) (K : PUnit → sProp 𝕄) :
    iprop(owns (c : Thread nD τ) arg1 fullShare X1
    ∗ owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ (iprop(∃ Z8, ∃ Z9, ∃ Z10, ∃ Z11, ∃ Z12, ∃ Z13, ∃ Z14, ∃ Z15, ∃ Z16, ∃ Z17, ∃ Z18, ∃ Z19, ∃ Z20, ∃ Z21, ⌜Step (i 0).val X1 X2 X3 X4 X5 X6 X7 X10 X11 X12 X13 X14 X15 X16 X17 X18 X19 Z8 Z9 Z10 Z11 Z12 Z13 Z14 Z15 Z16 Z17 Z18 Z19⌝
      ∗ owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare Z8
      ∗ owns (c : Thread nD τ) arg9 fullShare Z9
      ∗ owns (c : Thread nD τ) arg10 fullShare Z10
      ∗ owns (c : Thread nD τ) arg11 fullShare Z11
      ∗ owns (c : Thread nD τ) arg12 fullShare Z12
      ∗ owns (c : Thread nD τ) arg13 fullShare Z13
      ∗ owns (c : Thread nD τ) arg14 fullShare Z14
      ∗ owns (c : Thread nD τ) arg15 fullShare Z15
      ∗ owns (c : Thread nD τ) arg16 fullShare Z16
      ∗ owns (c : Thread nD τ) arg17 fullShare Z17
      ∗ owns (c : Thread nD τ) arg18 fullShare Z18
      ∗ owns (c : Thread nD τ) arg19 fullShare Z19
      ∗ owns (c : Thread nD τ) arg20 fullShare Z20
      ∗ owns (c : Thread nD τ) arg21 fullShare Z21) -∗ K ⟨⟩))
    ⊢ wp frame (wpE (defs₀ (F := F)) Variants.none c none) Set.univ (cc0_lvq_score i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have hi : i = gpt (i 0) := funext fun a => by rw [Fin.eq_zero a]; rfl
  rcases branches (i 0) with ⟨hn, h1, h2, h3, h4⟩ | ⟨hn, h1, h2, h3, h4⟩ | ⟨hn, h1, h2, h3, h4⟩ | ⟨hn, h1, h2, h3, h4⟩ <;> rw [← hi] at h2 h3 h4
  · exact step_h1 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h2 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h3 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K
  · exact step_h4 c i hn h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X4 X5 X6 X7 X8 X9 X10 X11 X12 X13 X14 X15 X16 X17 X18 X19 X20 X21 K

end Cert.KernelIdeal.Hand
-- ==== Proof.HitI.lean ====
module

public import proofs.«01_k».proof.Proof.FactDI
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which chunk a candidate's id names -/

/-- The number of chunk `k` of block `n`. -/
theorem cidW_eq (n k : ℕ) (hn : n < 49) (hk : k < 8) : cidW (BitVec.ofNat 32 n) k = BitVec.ofNat 32 (8 * n + k) := by
  unfold cidW
  refine BitVec.eq_of_toNat_eq ?_
  show (BitVec.ofNat 32 n * 8#32 + (0#32 + BitVec.ofNat 32 k * 1#32)).toNat = _
  simp only [BitVec.toNat_add, BitVec.toNat_mul, BitVec.toNat_ofNat]
  omega

/-- The block before step `n`. -/
theorem cur_eq (n : ℕ) (hn : 0 < n) (h : n < 50) : Scalar.subi (BitVec.ofNat 32 n) 1#32 = BitVec.ofNat 32 (n - 1) := by
  refine BitVec.eq_of_toNat_eq ?_
  show (BitVec.ofNat 32 n - 1#32).toNat = _
  simp only [BitVec.toNat_sub, BitVec.toNat_ofNat]
  omega

theorem ofNat_inj (a b : ℕ) (ha : a < 4294967296) (hb : b < 4294967296) : BitVec.ofNat 32 a = BitVec.ofNat 32 b ↔ a = b := by
  constructor
  · intro h
    have := congrArg BitVec.toNat h
    simp only [BitVec.toNat_ofNat] at this
    omega
  · rintro rfl; rfl

/-- A lane below 128 picks itself. -/
theorem tk_eq (l : ℕ) (hl : l < 128) : tk (BitVec.ofNat 32 l) = ⟨l, hl⟩ := by
  have h : IntOp.cmpi .slt (BitVec.ofNat 32 l) 0#32 = 0#1 := by
    show BitVec.ofBool ((BitVec.ofNat 32 l).slt 0#32) = _
    rw [BitVec.slt_eq_decide, BitVec.toInt_eq_toNat_of_lt (by simp only [BitVec.toNat_ofNat]; omega)]
    have : ¬ (((BitVec.ofNat 32 l).toNat : ℤ) < (0#32 : BitVec 32).toInt) := by
      rw [BitVec.toInt_zero]; omega
    rw [decide_eq_false this]; rfl
  refine Fin.ext ?_
  show (Scalar.select (IntOp.cmpi .slt (BitVec.ofNat 32 l) 0#32) (IntOp.addi (BitVec.ofNat 32 l) 128#32) (BitVec.ofNat 32 l)).toNat % 128 = l
  rw [h]
  show (BitVec.ofNat 32 l).toNat % 128 = l
  simp only [BitVec.toNat_ofNat]
  omega

/-- The words set up for a candidate's id `j`. -/
structure Words (j : ℕ) (w0 w1 w2 w3 w4 : BitVec 32) : Prop where
  e0 : w0 = BitVec.ofNat 32 (j / 2 % 128)
  e1 : w1 = if j % 2 = 1 then -1#32 else BitVec.ofNat 32 (j / 256)
  e2 : w2 = if j % 2 = 1 then BitVec.ofNat 32 (j / 256) else -1#32
  e3 : w3 = BitVec.ofNat 32 (j % 128)
  e4 : w4 = BitVec.ofNat 32 (j / 128)

theorem neg_ne (c : ℕ) (hc : c < 1000) : (-1#32 : BitVec 32) ≠ BitVec.ofNat 32 c := by
  intro h
  have := congrArg BitVec.toNat h
  rw [BitVec.toNat_ofNat] at this
  have e : (-1#32 : BitVec 32).toNat = 4294967295 := by decide
  omega

theorem pcN_skip (T : Vec F S8x256x256 .f32) (row : Fin 256) (w0 w1 w2 : BitVec 32) (p0 : F .f32) (n : ℕ) (hn : n < 49) (k : ℕ) (hk : k ≤ 8)
    (h1 : ∀ q, q < 8 → ¬ w1 = BitVec.ofNat 32 (8 * n + q)) (h2 : ∀ q, q < 8 → ¬ w2 = BitVec.ofNat 32 (8 * n + q)) :
    pcN T row w0 w1 w2 (BitVec.ofNat 32 n) p0 k = p0 := by
  induction k with
  | zero => rfl
  | succ k ih =>
    show (if w2 = cidW _ k then _ else if w1 = cidW _ k then _ else pcN T row w0 w1 w2 (BitVec.ofNat 32 n) p0 k) = p0
    rw [cidW_eq n k hn (by omega), if_neg (h2 k (by omega)), if_neg (h1 k (by omega))]
    exact ih (by omega)

/-- A candidate outside the block keeps what it had. -/
theorem pcN_miss (T : Vec F S8x256x256 .f32) (row : Fin 256) (w0 w1 w2 w3 w4 : BitVec 32) (p0 : F .f32) (j n : ℕ) (hj : j < 100000) (hn : n < 49)
    (W : Words j w0 w1 w2 w3 w4) (h : j / 2048 ≠ n) (k : ℕ) (hk : k ≤ 8) : pcN T row w0 w1 w2 (BitVec.ofNat 32 n) p0 k = p0 := by
  have g : ∀ q, q < 8 → ¬ (BitVec.ofNat 32 (j / 256) = BitVec.ofNat 32 (8 * n + q)) := fun q hq e => by
    have := (ofNat_inj _ _ (by omega) (by omega)).mp e
    omega
  have hneg : ∀ q, q < 8 → ¬ ((-1#32 : BitVec 32) = BitVec.ofNat 32 (8 * n + q)) := fun q hq => neg_ne _ (by omega)
  refine pcN_skip T row w0 w1 w2 p0 n hn k hk ?_ ?_
  · rw [W.e1]
    split
    · exact hneg
    · exact g
  · rw [W.e2]
    split
    · exact g
    · exact hneg

/-- A candidate inside the block picks its own cell of the table. -/
theorem pcN_hit (T : Vec F S8x256x256 .f32) (row : Fin 256) (w0 w1 w2 w3 w4 : BitVec 32) (p0 : F .f32) (j n : ℕ) (hj : j < 100000) (hn : n < 49)
    (W : Words j w0 w1 w2 w3 w4) (h : j / 2048 = n) (k : ℕ) (hk : k ≤ 8) (hc : j / 256 % 8 < k) :
    pcN T row w0 w1 w2 (BitVec.ofNat 32 n) p0 k
      = T (ix3 ⟨j / 256 % 8, Nat.mod_lt _ (by decide)⟩ row ⟨128 * (j % 2) + j / 2 % 128, by omega⟩) := by
  obtain ⟨rfl, rfl, rfl, rfl, rfl⟩ := W
  induction k with
  | zero => exact absurd hc (Nat.not_lt_zero _)
  | succ k ih =>
    show (if (if j % 2 = 1 then BitVec.ofNat 32 (j / 256) else -1#32) = cidW _ k then _ else if (if j % 2 = 1 then -1#32 else BitVec.ofNat 32 (j / 256)) = cidW _ k then _ else pcN T row (BitVec.ofNat 32 (j / 2 % 128)) (if j % 2 = 1 then -1#32 else BitVec.ofNat 32 (j / 256)) (if j % 2 = 1 then BitVec.ofNat 32 (j / 256) else -1#32) (BitVec.ofNat 32 n) p0 k) = _
    rw [cidW_eq n k hn (by omega)]
    have hneg : ¬ ((-1#32 : BitVec 32) = BitVec.ofNat 32 (8 * n + k)) := neg_ne _ (by omega)
    by_cases hk' : j / 256 % 8 = k
    · have g : BitVec.ofNat 32 (j / 256) = BitVec.ofNat 32 (8 * n + k) := congrArg _ (by omega)
      rcases Nat.mod_two_eq_zero_or_one j with o | o
      · rw [if_neg (show ¬ j % 2 = 1 by omega), if_neg (show ¬ j % 2 = 1 by omega), if_neg hneg, if_pos g]
        refine congrArg T (funext fun a => Fin.ext ?_)
        match a with
        | ⟨0, _⟩ => exact (show k % 8 = j / 256 % 8 by omega)
        | ⟨1, _⟩ => rfl
        | ⟨2, _⟩ => show (tk (BitVec.ofNat 32 (j / 2 % 128))).val = _; rw [tk_eq _ (Nat.mod_lt _ (by decide))]; show j / 2 % 128 = 128 * (j % 2) + j / 2 % 128; omega
      · rw [if_pos o, if_pos o, if_pos g]
        refine congrArg T (funext fun a => Fin.ext ?_)
        match a with
        | ⟨0, _⟩ => exact (show k % 8 = j / 256 % 8 by omega)
        | ⟨1, _⟩ => rfl
        | ⟨2, _⟩ => show 128 + (tk (BitVec.ofNat 32 (j / 2 % 128))).val = _; rw [tk_eq _ (Nat.mod_lt _ (by decide))]; show 128 + j / 2 % 128 = 128 * (j % 2) + j / 2 % 128; omega
    · have g : ¬ (BitVec.ofNat 32 (j / 256) = BitVec.ofNat 32 (8 * n + k)) := fun e => by
        have := (ofNat_inj _ _ (by omega) (by omega)).mp e
        omega
      rcases Nat.mod_two_eq_zero_or_one j with o | o
      · rw [if_neg (show ¬ j % 2 = 1 by omega), if_neg (show ¬ j % 2 = 1 by omega)] at ih ⊢
        rw [if_neg hneg, if_neg g]
        exact ih (by omega) (by omega)
      · rw [if_pos o, if_pos o] at ih ⊢
        rw [if_neg g, if_neg hneg]
        exact ih (by omega) (by omega)

theorem half_word (n k h : ℕ) (hn : n < 49) (hk : k < 8) (hh : h < 2) :
    Scalar.addi (Scalar.muli 2#32 (cidW (BitVec.ofNat 32 n) k)) (BitVec.ofNat 32 h) = BitVec.ofNat 32 (2 * (8 * n + k) + h) := by
  rw [cidW_eq n k hn hk]
  refine BitVec.eq_of_toNat_eq ?_
  show (2#32 * BitVec.ofNat 32 (8 * n + k) + BitVec.ofNat 32 h).toNat = _
  simp only [BitVec.toNat_add, BitVec.toNat_mul, BitVec.toNat_ofNat]
  omega

theorem tcN_miss (E : Fin 8 → Fin 2 → Fin 128 → F .f32) (w0 w1 w2 w3 w4 : BitVec 32) (p0 : F .f32) (j n : ℕ) (hj : j < 100000) (hn : n < 49)
    (W : Words j w0 w1 w2 w3 w4) (h : j / 2048 ≠ n) (k : ℕ) (hk : k ≤ 8) : tcN E w3 w4 (BitVec.ofNat 32 n) p0 k = p0 := by
  obtain ⟨rfl, rfl, rfl, rfl, rfl⟩ := W
  induction k with
  | zero => rfl
  | succ k ih =>
    show (if (BitVec.ofNat 32 (j / 128)) = Scalar.addi (Scalar.muli 2#32 (cidW _ k)) (BitVec.ofNat 32 1) then _ else if (BitVec.ofNat 32 (j / 128)) = Scalar.addi (Scalar.muli 2#32 (cidW _ k)) (BitVec.ofNat 32 0) then _ else tcN E (BitVec.ofNat 32 (j % 128)) (BitVec.ofNat 32 (j / 128)) (BitVec.ofNat 32 n) p0 k) = p0
    rw [half_word n k 1 hn (by omega) (by decide), half_word n k 0 hn (by omega) (by decide)]
    rw [if_neg (fun e => by have := (ofNat_inj _ _ (by omega) (by omega)).mp e; omega),
      if_neg (fun e => by have := (ofNat_inj _ _ (by omega) (by omega)).mp e; omega)]
    exact ih (by omega)

theorem tcN_hit (E : Fin 8 → Fin 2 → Fin 128 → F .f32) (w0 w1 w2 w3 w4 : BitVec 32) (p0 : F .f32) (j n : ℕ) (hj : j < 100000) (hn : n < 49)
    (W : Words j w0 w1 w2 w3 w4) (h : j / 2048 = n) (k : ℕ) (hk : k ≤ 8) (hc : j / 256 % 8 < k) :
    tcN E w3 w4 (BitVec.ofNat 32 n) p0 k
      = E ⟨j / 256 % 8, Nat.mod_lt _ (by decide)⟩ ⟨j / 128 % 2, Nat.mod_lt _ (by decide)⟩ ⟨j % 128, Nat.mod_lt _ (by decide)⟩ := by
  obtain ⟨rfl, rfl, rfl, rfl, rfl⟩ := W
  induction k with
  | zero => exact absurd hc (Nat.not_lt_zero _)
  | succ k ih =>
    show (if (BitVec.ofNat 32 (j / 128)) = Scalar.addi (Scalar.muli 2#32 (cidW _ k)) (BitVec.ofNat 32 1) then _ else if (BitVec.ofNat 32 (j / 128)) = Scalar.addi (Scalar.muli 2#32 (cidW _ k)) (BitVec.ofNat 32 0) then _ else tcN E (BitVec.ofNat 32 (j % 128)) (BitVec.ofNat 32 (j / 128)) (BitVec.ofNat 32 n) p0 k) = _
    rw [half_word n k 1 hn (by omega) (by decide), half_word n k 0 hn (by omega) (by decide)]
    by_cases hk' : j / 256 % 8 = k
    · rw [tk_eq _ (Nat.mod_lt _ (by decide))]
      have ek : (⟨k % 8, Nat.mod_lt _ (by decide)⟩ : Fin 8) = ⟨j / 256 % 8, Nat.mod_lt _ (by decide)⟩ := Fin.ext (show k % 8 = j / 256 % 8 by omega)
      rcases Nat.mod_two_eq_zero_or_one (j / 128) with o | o
      · rw [if_neg (fun e => by have := (ofNat_inj _ _ (by omega) (by omega)).mp e; omega), if_pos (congrArg _ (by omega)), ek]
        exact congrArg (fun z => E _ z _) (Fin.ext (show 0 = j / 128 % 2 by omega))
      · rw [if_pos (congrArg _ (by omega)), ek]
        exact congrArg (fun z => E _ z _) (Fin.ext (show 1 = j / 128 % 2 by omega))
    · rw [if_neg (fun e => by have := (ofNat_inj _ _ (by omega) (by omega)).mp e; omega),
        if_neg (fun e => by have := (ofNat_inj _ _ (by omega) (by omega)).mp e; omega)]
      exact ih (by omega) (by omega)

/-! ## The words of a candidate -/

/-- The ids of a batch beside eight lanes of zeros, transposed. -/
theorem pay9_at (v : Vec F S1x120x128 .i32) (s : Fin 128) (k : Fin 120) : k0_pay9 (F := F) v (ix2 s (⟨k.val, by omega⟩ : Fin 128)) = v (ix3 (0 : Fin 1) k s) := by
  unfold k0_pay9
  refine (transpose_ix2_apply _ _ s (⟨k.val, by omega⟩ : Fin 128)).trans ?_
  rw [concatenate_pair_apply_left 0 _ _ concatenates_S120x128_S8x128_S128x128_d0 (ix2 (⟨k.val, by omega⟩ : Fin 128) s) rfl (ix2 k s)
      (fun a => match a with | ⟨0, _⟩ => rfl | ⟨1, _⟩ => rfl)]
  exact shapeCast_1ab_ab_apply v shapeCasts_S1x120x128_S120x128 k s

theorem and_one (j : ℕ) (hj : j < 100000) : IntOp.andi (BitVec.ofNat 32 j) 1#32 = BitVec.ofNat 32 (j % 2) := by
  refine BitVec.eq_of_toNat_eq ?_
  show (BitVec.ofNat 32 j &&& 1#32).toNat = _
  rw [BitVec.toNat_and, BitVec.toNat_ofNat, BitVec.toNat_ofNat, BitVec.toNat_ofNat, Nat.mod_eq_of_lt (show j < 2 ^ 32 by omega), show 1 % 2 ^ 32 = 2 ^ 1 - 1 by decide,
    Nat.and_two_pow_sub_one_eq_mod]
  omega
theorem and_127 (a : ℕ) (ha : a < 100000) : IntOp.andi (BitVec.ofNat 32 a) 127#32 = BitVec.ofNat 32 (a % 128) := by
  refine BitVec.eq_of_toNat_eq ?_
  show (BitVec.ofNat 32 a &&& 127#32).toNat = _
  rw [BitVec.toNat_and, BitVec.toNat_ofNat, BitVec.toNat_ofNat, BitVec.toNat_ofNat, Nat.mod_eq_of_lt (show a < 2 ^ 32 by omega), show 127 % 2 ^ 32 = 2 ^ 7 - 1 by decide,
    Nat.and_two_pow_sub_one_eq_mod]
  omega
theorem shr_eq (j s : ℕ) (hj : j < 100000) (hs : s < 32) : IntOp.shrsi .vector (BitVec.ofNat 32 j) (BitVec.ofNat 32 s) = BitVec.ofNat 32 (j / 2 ^ s) := by
  have es : (BitVec.ofNat 32 s).toNat = s := by simp only [BitVec.toNat_ofNat]; omega
  have hle : j / 2 ^ s ≤ j := Nat.div_le_self _ _
  unfold IntOp.shrsi
  rw [if_pos (by rw [es]; exact hs)]
  show (BitVec.ofNat 32 j).sshiftRight (BitVec.ofNat 32 s).toNat = _
  rw [es, BitVec.sshiftRight_eq_of_msb_false (BitVec.msb_eq_false_iff_two_mul_lt.mpr (by simp only [BitVec.toNat_ofNat]; omega))]
  refine BitVec.eq_of_toNat_eq ?_
  rw [BitVec.toNat_ushiftRight, BitVec.toNat_ofNat, BitVec.toNat_ofNat, Nat.shiftRight_eq_div_pow, Nat.mod_eq_of_lt (show j < 2 ^ 32 by omega), Nat.mod_eq_of_lt (show j / 2 ^ s < 2 ^ 32 by omega)]

theorem odd_sel {α : Type} (j : ℕ) (hj : j < 100000) (x y : α) :
    (if IntOp.cmpi .eq (IntOp.andi (BitVec.ofNat 32 j) 1#32) 1#32 = 1#1 then x else y) = if j % 2 = 1 then x else y := by
  rw [sel_eq, and_one j hj]
  by_cases o : j % 2 = 1
  · rw [if_pos o, if_pos (by rw [o])]
  · rw [if_neg o, if_neg (fun e => o ((ofNat_inj _ _ (by omega) (by omega)).mp e))]

theorem words_cell (v : Vec F S1x120x128 .i32) (s : Fin 128) (k' : Fin 128) (j : ℕ) (hj : j < 100000) (h9 : k0_pay9 (F := F) v (ix2 s k') = BitVec.ofNat 32 j) :
    Words j (idxP (F := F) 0 v (ix3 (0 : Fin 1) s k')) (idxP (F := F) 1 v (ix3 (0 : Fin 1) s k'))
      (idxP (F := F) 2 v (ix3 (0 : Fin 1) s k')) (idxP (F := F) 3 v (ix3 (0 : Fin 1) s k'))
      (idxP (F := F) 4 v (ix3 (0 : Fin 1) s k')) := by
  refine ⟨?_, ?_, ?_, ?_, ?_⟩
  · refine (shapeCast_ab_1ab_apply (andi (k0_pay11 (F := F) v) (broadcast S128x128 127#32) : IVec S128x128 32) shapeCasts_S128x128_S1x128x128 0 s k').trans ?_
    show IntOp.andi (IntOp.shrsi .vector (k0_pay9 (F := F) v (ix2 s k')) (BitVec.ofNat 32 1)) 127#32 = _
    rw [h9, shr_eq j 1 hj (by decide), and_127 _ (by omega), show 2 ^ 1 = 2 from rfl]
  · refine (shapeCast_ab_1ab_apply (select (k0_pay10 (F := F) v) (broadcast S128x128 4294967295#32) (shrsi (k0_pay9 (F := F) v) (broadcast S128x128 8#32)) : IVec S128x128 32) shapeCasts_S128x128_S1x128x128 0 s k').trans ?_
    show (if IntOp.cmpi .eq (IntOp.andi (k0_pay9 (F := F) v (ix2 s k')) 1#32) 1#32 = 1#1 then 4294967295#32 else IntOp.shrsi .vector (k0_pay9 (F := F) v (ix2 s k')) (BitVec.ofNat 32 8)) = _
    rw [h9, shr_eq j 8 hj (by decide), odd_sel j hj]
    rfl
  · refine (shapeCast_ab_1ab_apply (select (k0_pay10 (F := F) v) (shrsi (k0_pay9 (F := F) v) (broadcast S128x128 8#32)) (broadcast S128x128 4294967295#32) : IVec S128x128 32) shapeCasts_S128x128_S1x128x128 0 s k').trans ?_
    show (if IntOp.cmpi .eq (IntOp.andi (k0_pay9 (F := F) v (ix2 s k')) 1#32) 1#32 = 1#1 then IntOp.shrsi .vector (k0_pay9 (F := F) v (ix2 s k')) (BitVec.ofNat 32 8) else 4294967295#32) = _
    rw [h9, shr_eq j 8 hj (by decide), odd_sel j hj]
    rfl
  · refine (shapeCast_ab_1ab_apply (andi (k0_pay9 (F := F) v) (broadcast S128x128 127#32) : IVec S128x128 32) shapeCasts_S128x128_S1x128x128 0 s k').trans ?_
    show IntOp.andi (k0_pay9 (F := F) v (ix2 s k')) 127#32 = _
    rw [h9, and_127 _ hj]
  · refine (shapeCast_ab_1ab_apply (shrsi (k0_pay9 (F := F) v) (broadcast S128x128 7#32) : IVec S128x128 32) shapeCasts_S128x128_S1x128x128 0 s k').trans ?_
    show IntOp.shrsi .vector (k0_pay9 (F := F) v (ix2 s k')) (BitVec.ofNat 32 7) = _
    rw [h9, shr_eq j 7 hj (by decide), show 2 ^ 7 = 128 from rfl]

/-- The row of query `s` of batch `b`. -/
def rowOf (b : Fin 2) (s : Fin 128) : Fin 256 := ⟨128 * b.val + s.val, by omega⟩
/-- Candidate `k`'s lane. -/
def laneOf (k : Fin 120) : Fin 128 := ⟨k.val, by omega⟩

theorem words_at (cand : Vec F S2x120x128 .i32) (b : Fin 2) (s : Fin 128) (k : Fin 120) (j : ℕ) (hj : j < 100000) (h : cand (ix3 b k s) = BitVec.ofNat 32 j) :
    Words j (IDXf (F := F) cand (ix3 (0 : Fin 5) (rowOf b s) (laneOf k))) (IDXf (F := F) cand (ix3 (1 : Fin 5) (rowOf b s) (laneOf k)))
      (IDXf (F := F) cand (ix3 (2 : Fin 5) (rowOf b s) (laneOf k))) (IDXf (F := F) cand (ix3 (3 : Fin 5) (rowOf b s) (laneOf k)))
      (IDXf (F := F) cand (ix3 (4 : Fin 5) (rowOf b s) (laneOf k))) := by
  have e : ∀ q : Fin 5, IDXf (F := F) cand (ix3 q (rowOf b s) (laneOf k)) = idxP (F := F) q (cb (F := F) cand b) (ix3 (0 : Fin 1) s (⟨k.val, by omega⟩ : Fin 128)) := fun q => by
    have eb : rb (rowOf b s) = b := Fin.ext (by show (128 * b.val + s.val) / 128 = b.val; omega)
    show idxP (F := F) q (cb (F := F) cand (rb (rowOf b s))) _ = _
    rw [eb]
    refine congrArg (idxP (F := F) q (cb (F := F) cand b)) (funext fun a => Fin.ext ?_)
    match a with
    | ⟨0, _⟩ => rfl
    | ⟨1, _⟩ => exact (show (128 * b.val + s.val) % 128 = s.val by omega)
    | ⟨2, _⟩ => rfl
  rw [e 0, e 1, e 2, e 3, e 4]
  exact words_cell (cb (F := F) cand b) s _ j hj ((pay9_at (cb (F := F) cand b) s k).trans h)

/-! ## A candidate's cell before and after a block -/

theorem pcT_miss (T : Vec F S8x256x256 .f32) (cand : Vec F S2x120x128 .i32) (P0 : Vec F S256x128 .f32) (b : Fin 2) (s : Fin 128) (k : Fin 120) (j n : ℕ) (hj : j < 100000) (hn : n < 49)
    (h : cand (ix3 b k s) = BitVec.ofNat 32 j) (hm : j / 2048 ≠ n) :
    pcT T (IDXf (F := F) cand) (BitVec.ofNat 32 n) P0 (ix2 (rowOf b s) (laneOf k)) = P0 (ix2 (rowOf b s) (laneOf k)) :=
  pcN_miss T _ _ _ _ _ _ _ j n hj hn (words_at cand b s k j hj h) hm 8 (Nat.le_refl _)
theorem pcT_hit (T : Vec F S8x256x256 .f32) (cand : Vec F S2x120x128 .i32) (P0 : Vec F S256x128 .f32) (b : Fin 2) (s : Fin 128) (k : Fin 120) (j n : ℕ) (hj : j < 100000) (hn : n < 49)
    (h : cand (ix3 b k s) = BitVec.ofNat 32 j) (hm : j / 2048 = n) :
    pcT T (IDXf (F := F) cand) (BitVec.ofNat 32 n) P0 (ix2 (rowOf b s) (laneOf k)) = T (pix (ix3 b (⟨j % 2048, Nat.mod_lt _ (by decide)⟩ : Fin 2048) s)) := by
  refine (pcN_hit T _ _ _ _ _ _ _ j n hj hn (words_at cand b s k j hj h) hm 8 (Nat.le_refl _) (Nat.mod_lt _ (by decide))).trans (congrArg T (funext fun a => Fin.ext ?_))
  match a with
  | ⟨0, _⟩ => exact (show j / 256 % 8 = j % 2048 / 256 by omega)
  | ⟨1, _⟩ => rfl
  | ⟨2, _⟩ => exact (show 128 * (j % 2) + j / 2 % 128 = 128 * (j % 2048 % 2) + j % 2048 % 256 / 2 by omega)
theorem tcT_miss (E : Fin 256 → Fin 8 → Fin 2 → Fin 128 → F .f32) (cand : Vec F S2x120x128 .i32) (P0 : Vec F S256x128 .f32) (b : Fin 2) (s : Fin 128) (k : Fin 120) (j n : ℕ) (hj : j < 100000) (hn : n < 49)
    (h : cand (ix3 b k s) = BitVec.ofNat 32 j) (hm : j / 2048 ≠ n) :
    tcT E (IDXf (F := F) cand) (BitVec.ofNat 32 n) P0 (ix2 (rowOf b s) (laneOf k)) = P0 (ix2 (rowOf b s) (laneOf k)) :=
  tcN_miss _ _ _ _ _ _ _ j n hj hn (words_at cand b s k j hj h) hm 8 (Nat.le_refl _)
theorem tcT_hit (st : Vec F S2048 .f32) (R : Vec F S8x256x256 .f32) (Q : Vec F S256x128 .f32) (cand : Vec F S2x120x128 .i32) (P0 : Vec F S256x128 .f32) (b : Fin 2) (s : Fin 128) (k : Fin 120) (j n : ℕ) (hj : j < 100000) (hn : n < 49)
    (h : cand (ix3 b k s) = BitVec.ofNat 32 j) (hm : j / 2048 = n) :
    tcT (EF (STf st) R Q) (IDXf (F := F) cand) (BitVec.ofNat 32 n) P0 (ix2 (rowOf b s) (laneOf k))
      = resT (st (ix1 (⟨j % 2048, Nat.mod_lt _ (by decide)⟩ : Fin 2048))) (R (ix3 (⟨j % 2048 / 256, by omega⟩ : Fin 8) (rowOf b s) (⟨j % 256, Nat.mod_lt _ (by decide)⟩ : Fin 256)))
          (Q (ix2 (rowOf b s) (⟨j % 128, Nat.mod_lt _ (by decide)⟩ : Fin 128))) := by
  refine (tcN_hit _ _ _ _ _ _ _ j n hj hn (words_at cand b s k j hj h) hm 8 (Nat.le_refl _) (Nat.mod_lt _ (by decide))).trans ?_
  refine congrArg₂ (fun x y => resT x y _) (congrArg st (funext fun a => Fin.ext ?_)) (congrArg R (funext fun a => Fin.ext ?_))
  · match a with
    | ⟨0, _⟩ => exact (show 128 * (2 * (j / 256 % 8) + j / 128 % 2) + j % 128 = j % 2048 by omega)
  · match a with
    | ⟨0, _⟩ => exact (show j / 256 % 8 = j % 2048 / 256 by omega)
    | ⟨1, _⟩ => rfl
    | ⟨2, _⟩ => exact (show 128 * (j / 128 % 2) + j % 128 = j % 256 by omega)

end Cert.KernelIdeal.Hand
-- ==== Proof.DatI.lean ====
module

public import proofs.«01_k».proof.Proof.StepI
public import proofs.«01_k».proof.Proof.HitI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.ValueLayout
public import Idealize.ShloMosaic.Lib.Pipeline.Value
public import Idealize.ShloMosaic.Lib.Pipeline.FrameBody
public import Idealize.ShloMosaic.Lib.Tactic
public import Idealize.ShloMosaic.Lib.WritesUnit
public import Idealize.ShloMosaic.Lib.Writes
public import Idealize.ShloMosaic.Lib.Pipeline.Frame
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them -/

/-- The query rows, transposed. -/
def xA (c : Dev nD) : Vec F S2x960x128 .bf16 := V m c main_v0
/-- The mean, as a row. -/
def muA (c : Dev nD) : Vec F S1x960 .f32 := V m c main_v1
/-- The primary codes, transposed. -/
def cpA (c : Dev nD) : Vec F S960x50000 .i8 := V m c main_v2
/-- The bounds. -/
def bdA (c : Dev nD) : Vec F S100000 .f32 := V m c main_v3
/-- The steps. -/
def stA (c : Dev nD) : Vec F S100000 .f32 := V m c main_v4
/-- The residual codes, transposed. -/
def crA (c : Dev nD) : Vec F S960x100000 .i8 := V m c main_v5
/-- The candidates' ids, transposed. -/
def candA (c : Dev nD) : Vec F S2x120x128 .i32 := V m c main_v6

/-- A block of codes agrees with block `n` of the array wherever that lies inside the array. -/
def CpOK (c : Dev nD) (n : ℕ) (Cp : Vec F S960x1024 .i8) : Prop :=
  ∀ (k : Fin 960) (j : Fin 1024) (h : 1024 * n + j.val < 50000), Cp (ix2 k j) = cpA m c (ix2 k ⟨1024 * n + j.val, h⟩)
/-- A block of residual codes agrees with block `n` of the array wherever that lies inside the array. -/
def CrOK (c : Dev nD) (n : ℕ) (Cr : Vec F S960x2048 .i8) : Prop :=
  ∀ (k : Fin 960) (j : Fin 2048) (h : 2048 * n + j.val < 100000), Cr (ix2 k j) = crA m c (ix2 k ⟨2048 * n + j.val, h⟩)
/-- A block of a vector agrees with block `n` of the array wherever that lies inside the array. -/
def RowOK (A : Vec F S100000 .f32) (n : ℕ) (v : Vec F S2048 .f32) : Prop :=
  ∀ (j : Fin 2048) (h : 2048 * n + j.val < 100000), v (ix1 j) = A (ix1 ⟨2048 * n + j.val, h⟩)

/-- What the result's block of block `n` holds. -/
def Res (c : Dev nD) (n : ℕ) (X : Vec F S2x2048x128 .f32) : Prop :=
  ∃ Cp bd st, CpOK m c n Cp ∧ RowOK (bdA m c) n bd ∧ RowOK (stA m c) n st
    ∧ X = fun y => upd (SQf (xA m c)) (QMf (xA m c) (muA m c)) (AFFf bd st) (PF (XQf (xA m c)) Cp) (pix y)

/-- `v` is what the first result holds for vector `j` and query `s` of batch `b`. -/
def PcIs (c : Dev nD) (j : ℕ) (b : Fin 2) (s : Fin 128) (v : F .f32) : Prop :=
  ∃ X : Vec F S2x2048x128 .f32, Res m c (j / 2048) X ∧ v = X (ix3 b (⟨j % 2048, Nat.mod_lt _ (by decide)⟩ : Fin 2048) s)

/-- `v` is the residual term, not yet divided, of vector `j` and query `s` of batch `b`. -/
def TcIs (c : Dev nD) (j : ℕ) (b : Fin 2) (s : Fin 128) (v : F .f32) : Prop :=
  ∃ Cr st, CrOK m c (j / 2048) Cr ∧ RowOK (stA m c) (j / 2048) st
    ∧ v = resT (st (ix1 (⟨j % 2048, Nat.mod_lt _ (by decide)⟩ : Fin 2048)))
        (RF (XQf (xA m c)) Cr (ix3 (⟨j % 2048 / 256, by omega⟩ : Fin 8) (rowOf b s) (⟨j % 256, Nat.mod_lt _ (by decide)⟩ : Fin 256)))
        (SQf (xA m c) (ix2 (rowOf b s) (⟨j % 128, Nat.mod_lt _ (by decide)⟩ : Fin 128)))

/-- The candidates' cells of the vectors before block `n` are filled. -/
def Cells (c : Dev nD) (n : ℕ) (Z14 : Vec F S256x128 .f32) (Z15 : Vec F S256x128 .f32) : Prop :=
  ∀ (b : Fin 2) (s : Fin 128) (k : Fin 120) (j : ℕ), j < 100000 → candA m c (ix3 b k s) = BitVec.ofNat 32 j → j < 2048 * n →
    PcIs m c j b s (Z14 (ix2 (rowOf b s) (laneOf k))) ∧ TcIs m c j b s (Z15 (ix2 (rowOf b s) (laneOf k)))

/-- What the second result holds at every candidate whose id lies inside the array. -/
def Out (c : Dev nD) (X : Vec F S2x120x128 .f32) : Prop :=
  ∀ (b : Fin 2) (s : Fin 128) (k : Fin 120) (j : ℕ), j < 100000 → candA m c (ix3 b k s) = BitVec.ofNat 32 j →
    ∃ p t, PcIs m c j b s p ∧ TcIs m c j b s t ∧ X (ix3 b k s) = FloatOps.addf p (FloatOps.mulf t (Scalar.ofBits .f32 0x3B800000#32))

/-- A block fills the cells of its own vectors and keeps the others. -/
theorem cells_next (c : Dev nD) (n : ℕ) (hp : 0 < n) (hn : n ≤ 49) (T : Vec F S8x256x256 .f32) (Cr : Vec F S960x2048 .i8) (X5 : Vec F S2048 .f32) (X14 : Vec F S256x128 .f32) (X15 : Vec F S256x128 .f32)
    (hT : Res m c (n - 1) (fun y => T (pix y))) (hC : CrOK m c (n - 1) Cr) (h5 : RowOK (stA m c) (n - 1) X5) (hI : Cells m c (n - 1) X14 X15) :
    Cells m c n (pcT T (IDXf (F := F) (candA m c)) (Scalar.subi (BitVec.ofNat 32 n) 1#32) X14)
      (tcT (EF (STf X5) (RF (XQf (xA m c)) Cr) (SQf (xA m c))) (IDXf (F := F) (candA m c)) (Scalar.subi (BitVec.ofNat 32 n) 1#32) X15) := by
  intro b s k j hj hc hlt
  rw [cur_eq n hp (by omega)]
  by_cases h : j / 2048 = n - 1
  · rw [pcT_hit T _ _ b s k j (n - 1) hj (by omega) hc h, tcT_hit X5 _ _ _ _ b s k j (n - 1) hj (by omega) hc h]
    refine ⟨⟨fun y => T (pix y), by rw [h]; exact hT, rfl⟩, ⟨Cr, X5, by rw [h]; exact hC, by rw [h]; exact h5, rfl⟩⟩
  · rw [pcT_miss T _ _ b s k j (n - 1) hj (by omega) hc h, tcT_miss _ _ _ b s k j (n - 1) hj (by omega) hc h]
    exact hI b s k j hj hc (by omega)

theorem out_of (c : Dev nD) (pc : Vec F S256x128 .f32) (tc : Vec F S256x128 .f32) (h : Cells m c 49 pc tc) : Out m c (OUTf pc tc) := fun b s k j hj hc =>
  have q := h b s k j hj hc (by omega)
  ⟨_, _, q.1, q.2, rfl⟩

/-- What the scratch buffers hold before step `n`, past the first: the query rows, their sums, their products with the
mean and the candidates' indices; up to the last step also the products of block `n - 1` in the tables of its parity, and the
candidates' cells of the blocks before that one. -/
def Inv (c : Dev nD) (n : ℕ) (Z10 : Vec F S256x960 .bf16) (Z11 : Vec F S256x128 .f32) (Z12 : Vec F S256x128 .f32) (Z13 : Vec F S5x256x128 .i32) (Z14 : Vec F S256x128 .f32) (Z15 : Vec F S256x128 .f32) (Z16 : Vec F S8x256x256 .f32) (Z17 : Vec F S8x256x256 .f32) (Z18 : Vec F S8x256x256 .f32) (Z19 : Vec F S8x256x256 .f32) : Prop :=
  Z10 = XQf (xA m c) ∧ Z11 = SQf (xA m c) ∧ Z12 = QMf (xA m c) (muA m c) ∧ Z13 = IDXf (F := F) (candA m c)
  ∧ (n ≤ 49 → ∃ Cp Cr, CpOK m c (n - 1) Cp ∧ CrOK m c (n - 1) Cr
      ∧ (n % 2 = 1 → Z16 = PF (XQf (xA m c)) Cp ∧ Z18 = RF (XQf (xA m c)) Cr) ∧ (n % 2 = 0 → Z17 = PF (XQf (xA m c)) Cp ∧ Z19 = RF (XQf (xA m c)) Cr))
  ∧ (n ≤ 49 → Cells m c (n - 1) Z14 Z15)

theorem inv_next (c : Dev nD) (n : ℕ) (hn : n < 50) (X1 : Vec F S2x960x128 .bf16) (X2 : Vec F S1x960 .f32) (X3 : Vec F S960x1024 .i8) (X4 : Vec F S2048 .f32) (X5 : Vec F S2048 .f32) (X6 : Vec F S960x2048 .i8) (X7 : Vec F S2x120x128 .i32) (X10 : Vec F S256x960 .bf16) (X11 : Vec F S256x128 .f32) (X12 : Vec F S256x128 .f32) (X13 : Vec F S5x256x128 .i32) (X14 : Vec F S256x128 .f32) (X15 : Vec F S256x128 .f32) (X16 : Vec F S8x256x256 .f32) (X17 : Vec F S8x256x256 .f32) (X18 : Vec F S8x256x256 .f32) (X19 : Vec F S8x256x256 .f32)
    (Z8 : Vec F S2x2048x128 .f32) (Z9 : Vec F S2x120x128 .f32) (Z10 : Vec F S256x960 .bf16) (Z11 : Vec F S256x128 .f32) (Z12 : Vec F S256x128 .f32) (Z13 : Vec F S5x256x128 .i32) (Z14 : Vec F S256x128 .f32) (Z15 : Vec F S256x128 .f32) (Z16 : Vec F S8x256x256 .f32) (Z17 : Vec F S8x256x256 .f32) (Z18 : Vec F S8x256x256 .f32) (Z19 : Vec F S8x256x256 .f32)
    (hI : 0 < n → Inv m c n X10 X11 X12 X13 X14 X15 X16 X17 X18 X19) (h1 : X1 = xA m c) (h2 : X2 = muA m c) (h3 : CpOK m c (min n 48) X3)
    (h4 : RowOK (bdA m c) (n - 1) X4) (h5 : RowOK (stA m c) (n - 1) X5) (h6 : CrOK m c (min n 48) X6) (h7 : X7 = candA m c) (hS : Step n X1 X2 X3 X4 X5 X6 X7 X10 X11 X12 X13 X14 X15 X16 X17 X18 X19 Z8 Z9 Z10 Z11 Z12 Z13 Z14 Z15 Z16 Z17 Z18 Z19) :
    Inv m c (n + 1) Z10 Z11 Z12 Z13 Z14 Z15 Z16 Z17 Z18 Z19 ∧ (0 < n → Res m c (n - 1) Z8) ∧ (n = 49 → Out m c Z9) := by
  subst h1 h2 h7
  obtain ⟨s0, s1, s2, s3, s4, s5, s6, s7, s8⟩ := hS
  rcases Nat.eq_zero_or_pos n with rfl | hp
  · obtain ⟨e10, e11, e12, e16, e13, e18⟩ := s0 rfl
    exact ⟨⟨e10, e11, e12, e13, fun _ => ⟨X3, X6, h3, h6, fun _ => ⟨e16, e18⟩, fun h => absurd h (by decide)⟩,
      fun _ b s k j hj hc hlt => absurd hlt (Nat.not_lt_zero j)⟩, fun h => absurd h (Nat.lt_irrefl 0), fun h => absurd h (by decide)⟩
  · obtain ⟨i10, i11, i12, i13, ip, ic⟩ := hI hp
    obtain ⟨e10, e11, e12, e13⟩ := s1 hp
    obtain ⟨Cp, Cr, hC, hR, ho, he⟩ := ip (by omega)
    have hcell := ic (by omega)
    subst i10 i11 i12 i13
    have hres : Res m c (n - 1) (fun y => upd (SQf (xA m c)) (QMf (xA m c) (muA m c)) (AFFf X4 X5) (PF (XQf (xA m c)) Cp) (pix y)) := ⟨Cp, X4, X5, hC, h4, h5, rfl⟩
    have hnext := cells_next m c n hp (by omega) _ Cr X5 X14 X15 hres hR h5 hcell
    have e48 : n < 49 → min n 48 = n + 1 - 1 := fun _ => by omega
    refine ⟨⟨e10, e11, e12, e13, fun h49 => ⟨X3, X6, by rw [← e48 (by omega)]; exact h3, by rw [← e48 (by omega)]; exact h6,
      fun h => s4 hp (by omega) (by omega), fun h => s5 hp (by omega) (by omega)⟩, fun h49 => ?_⟩, fun _ => ?_, fun h49 => ?_⟩
    · rw [show n + 1 - 1 = n from rfl]
      rcases Nat.mod_two_eq_zero_or_one n with h | h
      · obtain ⟨a, d⟩ := s7 hp (by omega) h
        rw [a, d, (he h).1, (he h).2]; exact hnext
      · obtain ⟨a, d⟩ := s6 hp (by omega) h
        rw [a, d, (ho h).1, (ho h).2]; exact hnext
    · rcases Nat.mod_two_eq_zero_or_one n with h | h
      · rw [s3 hp h, (he h).1]; exact hres
      · rw [s2 hp h, (ho h).1]; exact hres
    · have h : n % 2 = 1 := by omega
      rw [s8 h49, (ho h).1, (ho h).2]
      refine out_of m c _ _ ?_
      rw [← h49]; exact hnext

/-! ## The proof data -/

/-- A scratch buffer at given contents. -/
abbrev scr (c : Dev nD) (b : Ref sig .tc) (X : b.ty.Contents (Elt F)) : sProp 𝕄 := owns (c : Thread nD τ) (Memref.whole b) fullShare X

/-- What holds before step `n`. -/
def PhiT (c : Dev nD) (n : ℕ) : sProp 𝕄 :=
  iprop(∃ Z10 : Vec F S256x960 .bf16, ∃ Z11 : Vec F S256x128 .f32, ∃ Z12 : Vec F S256x128 .f32, ∃ Z13 : Vec F S5x256x128 .i32, ∃ Z14 : Vec F S256x128 .f32, ∃ Z15 : Vec F S256x128 .f32, ∃ Z16 : Vec F S8x256x256 .f32, ∃ Z17 : Vec F S8x256x256 .f32, ∃ Z18 : Vec F S8x256x256 .f32, ∃ Z19 : Vec F S8x256x256 .f32, ∃ Z20 : Vec F S5x16x128 .f32, ∃ Z21 : Vec F S4x8x128 .f32,
    ⌜0 < n → Inv m c n Z10 Z11 Z12 Z13 Z14 Z15 Z16 Z17 Z18 Z19⌝
    ∗ scr c cc0_scratch0 Z10 ∗ scr c cc0_scratch1 Z11 ∗ scr c cc0_scratch2 Z12 ∗ scr c cc0_scratch3 Z13 ∗ scr c cc0_scratch4 Z14 ∗ scr c cc0_scratch5 Z15 ∗ scr c cc0_scratch6 Z16 ∗ scr c cc0_scratch7 Z17 ∗ scr c cc0_scratch8 Z18 ∗ scr c cc0_scratch9 Z19 ∗ scr c cc0_scratch10 Z20 ∗ scr c cc0_scratch11 Z21 ∗ ∃ r, prngReg c r)

/-- The proof data: inputs are left as found, the result's block of every step past the first holds that of the block
before, and the last step leaves the candidates' values in the other result. -/
def rdat (c : Dev nD) : Pipeline.RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun t _ X => 0 < t.val → Res m c (t.val - 1) X
    | ⟨8, _⟩ => fun t _ X => t.val = 49 → Out m c X
  Φ t := PhiT m c t.val
  q _ := fullShare
  owed _ := 0

/-! ## What the inputs' blocks hold -/

theorem coords_val (t : Fin cfg0.N) : (grid0.coords t 0).val = t.val := by revert t; decide +kernel

theorem geo2 (t : Fin cfg0.N) : win0_2.index t = ![0, min t.val 48] ∧ win0_2.xsize (grid0.coords t) = ![960, if t.val < 48 then 1024 else 848] := by
  revert t; decide +kernel
theorem geo3 (t : Fin cfg0.N) : win0_3.index t = ![t.val - 1] ∧ win0_3.xsize (grid0.coords t) = ![if t.val < 49 then 2048 else 1696] := by
  revert t; decide +kernel
theorem geo4 (t : Fin cfg0.N) : win0_4.index t = ![t.val - 1] ∧ win0_4.xsize (grid0.coords t) = ![if t.val < 49 then 2048 else 1696] := by
  revert t; decide +kernel

theorem geo5 (t : Fin cfg0.N) : win0_5.index t = ![0, min t.val 48] ∧ win0_5.xsize (grid0.coords t) = ![960, if t.val < 48 then 2048 else 1696] := by
  revert t; decide +kernel

theorem fetched_at {c : Dev nD} (w : Fin cfg0.W) (t : Fin cfg0.N) (d) (y : (cfg0.win w).block.Idx) (h : ∀ a, (y a).val < (cfg0.win w).xsize (grid0.coords t) a) :
    (rdat m c).fetched w t d y = (rdat m c).blockOf w t (fun a => ⟨(y a).val, h a⟩) := by
  unfold Pipeline.RDat.fetched Pipeline.Window.fill
  rw [dif_pos (((cfg0.win w).moved_iff _ _).mpr h)]

theorem finds0 (c : Dev nD) (t : Fin cfg0.N) (Y) (h : (rdat m c).Finds 0 t Y) : Y = xA m c := by
  obtain ⟨d, rfl⟩ := (rdat m c).finds_in_eq_fetched 0 rfl (fun _ _ _ => rfl) (fun _ _ _ h => h) t Y h
  funext y
  refine (fetched_at m 0 t d y fun a => (y a).isLt).trans ?_
  refine congrArg (V m c main_v0) (funext fun a => Fin.ext ?_)
  match a with
  | ⟨0, _⟩ => show 0 * 2 + 1 * (y 0).val = (y 0).val; omega
  | ⟨1, _⟩ => show 0 * 960 + 1 * (y 1).val = (y 1).val; omega
  | ⟨2, _⟩ => show 0 * 128 + 1 * (y 2).val = (y 2).val; omega

theorem finds1 (c : Dev nD) (t : Fin cfg0.N) (Y) (h : (rdat m c).Finds 1 t Y) : Y = muA m c := by
  obtain ⟨d, rfl⟩ := (rdat m c).finds_in_eq_fetched 1 rfl (fun _ _ _ => rfl) (fun _ _ _ h => h) t Y h
  funext y
  refine (fetched_at m 1 t d y fun a => (y a).isLt).trans ?_
  refine congrArg (V m c main_v1) (funext fun a => Fin.ext ?_)
  match a with
  | ⟨0, _⟩ => show 0 * 1 + 1 * (y 0).val = (y 0).val; omega
  | ⟨1, _⟩ => show 0 * 960 + 1 * (y 1).val = (y 1).val; omega

theorem finds2 (c : Dev nD) (t : Fin cfg0.N) (Y) (h : (rdat m c).Finds 2 t Y) : CpOK m c (min t.val 48) Y := by
  obtain ⟨d, rfl⟩ := (rdat m c).finds_in_eq_fetched 2 rfl (fun t t' e => funext fun a => congrArg (fun i => Pipeline.Clip.of (i a) _ _) e) (fun _ _ _ h => h) t Y h
  intro k j hj
  obtain ⟨gi, gx⟩ := geo2 t
  refine (fetched_at m 2 t d (ix2 k j) fun a => ?_).trans ?_
  · show _ < win0_2.xsize (grid0.coords t) a
    rw [gx]
    match a with
    | ⟨0, _⟩ => exact k.isLt
    | ⟨1, _⟩ =>
      show j.val < if t.val < 48 then 1024 else 848
      have := j.isLt
      split <;> omega
  · refine congrArg (V m c main_v2) (funext fun a => Fin.ext ?_)
    match a with
    | ⟨0, _⟩ => show win0_2.index t 0 * 960 + 1 * k.val = k.val; rw [gi]; show 0 * 960 + 1 * k.val = k.val; omega
    | ⟨1, _⟩ => show win0_2.index t 1 * 1024 + 1 * j.val = 1024 * min t.val 48 + j.val; rw [gi]; show min t.val 48 * 1024 + 1 * j.val = _; omega

theorem finds5 (c : Dev nD) (t : Fin cfg0.N) (Y) (h : (rdat m c).Finds 5 t Y) : CrOK m c (min t.val 48) Y := by
  obtain ⟨d, rfl⟩ := (rdat m c).finds_in_eq_fetched 5 rfl (fun t t' e => funext fun a => congrArg (fun i => Pipeline.Clip.of (i a) _ _) e) (fun _ _ _ h => h) t Y h
  intro k j hj
  obtain ⟨gi, gx⟩ := geo5 t
  refine (fetched_at m 5 t d (ix2 k j) fun a => ?_).trans ?_
  · show _ < win0_5.xsize (grid0.coords t) a
    rw [gx]
    match a with
    | ⟨0, _⟩ => exact k.isLt
    | ⟨1, _⟩ =>
      show j.val < if t.val < 48 then 2048 else 1696
      have := j.isLt
      split <;> omega
  · refine congrArg (V m c main_v5) (funext fun a => Fin.ext ?_)
    match a with
    | ⟨0, _⟩ => show win0_5.index t 0 * 960 + 1 * k.val = k.val; rw [gi]; show 0 * 960 + 1 * k.val = k.val; omega
    | ⟨1, _⟩ => show win0_5.index t 1 * 2048 + 1 * j.val = 2048 * min t.val 48 + j.val; rw [gi]; show min t.val 48 * 2048 + 1 * j.val = _; omega

theorem finds6 (c : Dev nD) (t : Fin cfg0.N) (Y) (h : (rdat m c).Finds 6 t Y) : Y = candA m c := by
  obtain ⟨d, rfl⟩ := (rdat m c).finds_in_eq_fetched 6 rfl (fun _ _ _ => rfl) (fun _ _ _ h => h) t Y h
  funext y
  refine (fetched_at m 6 t d y fun a => (y a).isLt).trans ?_
  refine congrArg (V m c main_v6) (funext fun a => Fin.ext ?_)
  match a with
  | ⟨0, _⟩ => show 0 * 2 + 1 * (y 0).val = (y 0).val; omega
  | ⟨1, _⟩ => show 0 * 120 + 1 * (y 1).val = (y 1).val; omega
  | ⟨2, _⟩ => show 0 * 128 + 1 * (y 2).val = (y 2).val; omega

theorem finds3 (c : Dev nD) (t : Fin cfg0.N) (Y) (h : (rdat m c).Finds 3 t Y) : RowOK (bdA m c) (t.val - 1) Y := by
  obtain ⟨d, rfl⟩ := (rdat m c).finds_in_eq_fetched 3 rfl (fun t t' e => funext fun a => congrArg (fun i => Pipeline.Clip.of (i a) _ _) e) (fun _ _ _ h => h) t Y h
  intro j hj
  obtain ⟨gi, gx⟩ := geo3 t
  refine (fetched_at m 3 t d (ix1 j) fun a => ?_).trans ?_
  · show _ < win0_3.xsize (grid0.coords t) a
    rw [gx]
    match a with
    | ⟨0, _⟩ =>
      show j.val < if t.val < 49 then 2048 else 1696
      have := j.isLt
      split <;> omega
  · refine congrArg (V m c main_v3) (funext fun a => Fin.ext ?_)
    match a with
    | ⟨0, _⟩ => show win0_3.index t 0 * 2048 + 1 * j.val = 2048 * (t.val - 1) + j.val; rw [gi]; show (t.val - 1) * 2048 + 1 * j.val = _; omega

theorem finds4 (c : Dev nD) (t : Fin cfg0.N) (Y) (h : (rdat m c).Finds 4 t Y) : RowOK (stA m c) (t.val - 1) Y := by
  obtain ⟨d, rfl⟩ := (rdat m c).finds_in_eq_fetched 4 rfl (fun t t' e => funext fun a => congrArg (fun i => Pipeline.Clip.of (i a) _ _) e) (fun _ _ _ h => h) t Y h
  intro j hj
  obtain ⟨gi, gx⟩ := geo4 t
  refine (fetched_at m 4 t d (ix1 j) fun a => ?_).trans ?_
  · show _ < win0_4.xsize (grid0.coords t) a
    rw [gx]
    match a with
    | ⟨0, _⟩ =>
      show j.val < if t.val < 49 then 2048 else 1696
      have := j.isLt
      split <;> omega
  · refine congrArg (V m c main_v4) (funext fun a => Fin.ext ?_)
    match a with
    | ⟨0, _⟩ => show win0_4.index t 0 * 2048 + 1 * j.val = 2048 * (t.val - 1) + j.val; rw [gi]; show (t.val - 1) * 2048 + 1 * j.val = _; omega

/-! ## The body's obligation -/

theorem sound_body (c : Dev nD) (t : Fin cfg0.N) (Y : (w : Fin cfg0.W) → (cfg0.win w).block.Idx → Elt F (cfg0.win w).elt) (hY : ∀ w, (rdat m c).Finds w t (Y w)) :
    iprop(PhiT m c t.val ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
    ⊢ wp frame (wpE (defs₀ (F := F)) Variants.none c none) Set.univ (bodyAt0 t) fun _ =>
      iprop(PhiT m c (t.val + 1) ∗ (rdat m c).owesAt () t.castSucc ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X)) := by
  unfold PhiT
  iintro ⟨⟨%Z10, %Z11, %Z12, %Z13, %Z14, %Z15, %Z16, %Z17, %Z18, %Z19, %Z20, %Z21, %hinv, S0, S1, S2, S3, S4, S5, S6, S7, S8, S9, S10, S11, ⟨%r, Hr⟩⟩, Ho, H0, H1, H2, H3, H4, H5, H6, H7, H8⟩
  iapply (step_all c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Y 0) (Y 1) (Y 2) (Y 3) (Y 4) (Y 5) (Y 6) (Y 7) (Y 8) Z10 Z11 Z12 Z13 Z14 Z15 Z16 Z17 Z18 Z19 Z20 Z21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨%W8, %W9, %W10, %W11, %W12, %W13, %W14, %W15, %W16, %W17, %W18, %W19, %W20, %W21, %hs, H0, H1, H2, H3, H4, H5, H6, H7, H8, S0, S1, S2, S3, S4, S5, S6, S7, S8, S9, S10, S11⟩
  rw [coords_val t] at hs
  obtain ⟨hI, hR, hO⟩ := inv_next m c t.val t.isLt (Y 0) (Y 1) (Y 2) (Y 3) (Y 4) (Y 5) (Y 6) Z10 Z11 Z12 Z13 Z14 Z15 Z16 Z17 Z18 Z19 W8 W9 W10 W11 W12 W13 W14 W15 W16 W17 W18 W19 hinv
    (finds0 m c t _ (hY 0)) (finds1 m c t _ (hY 1)) (finds2 m c t _ (hY 2)) (finds3 m c t _ (hY 3)) (finds4 m c t _ (hY 4)) (finds5 m c t _ (hY 5)) (finds6 m c t _ (hY 6)) hs
  isplitl [S0 S1 S2 S3 S4 S5 S6 S7 S8 S9 S10 S11 Hr]
  · iexists W10, W11, W12, W13, W14, W15, W16, W17, W18, W19, W20, W21
    isplitr; · ipureintro; exact fun _ => hI
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexists r; iexact Hr
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists W8; isplitr; · ipureintro; exact hR
    iexact H7
  iexists W9; isplitr; · ipureintro; exact hO
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  exact triple_restated (sound_body m c t Y hY) rfl .rfl fun _ => .rfl

/-! ## The launch -/

theorem phi_in (c : Dev nD) : Pipeline.ΦA (U := UR sig nD τ) (Val := Elt F) spec0 c ⊢ PhiT m c 0 := by
  unfold Pipeline.ΦA PhiT
  rw [scopedRest0_eq]
  iintro ⟨⟨⟨%Z10, S0⟩, ⟨%Z11, S1⟩, ⟨%Z12, S2⟩, ⟨%Z13, S3⟩, ⟨%Z14, S4⟩, ⟨%Z15, S5⟩, ⟨%Z16, S6⟩, ⟨%Z17, S7⟩, ⟨%Z18, S8⟩, ⟨%Z19, S9⟩, ⟨%Z20, S10⟩, ⟨%Z21, S11⟩⟩, Hr⟩
  iexists Z10, Z11, Z12, Z13, Z14, Z15, Z16, Z17, Z18, Z19, Z20, Z21
  isplitr; · ipureintro; exact fun h => absurd h (Nat.lt_irrefl 0)
  simp only [scr, owns_whole]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact Hr

theorem phi_out (c : Dev nD) (n : ℕ) : PhiT m c n ⊢ Pipeline.ΦA (U := UR sig nD τ) (Val := Elt F) spec0 c := by
  unfold Pipeline.ΦA PhiT
  rw [scopedRest0_eq]
  simp only [scr, owns_whole]
  iintro ⟨%Z10, %Z11, %Z12, %Z13, %Z14, %Z15, %Z16, %Z17, %Z18, %Z19, %Z20, %Z21, -, S0, S1, S2, S3, S4, S5, S6, S7, S8, S9, S10, S11, Hr⟩
  isplitr [Hr]
  · isplitl [S0]; · iexists Z10; iexact S0
    isplitl [S1]; · iexists Z11; iexact S1
    isplitl [S2]; · iexists Z12; iexact S2
    isplitl [S3]; · iexists Z13; iexact S3
    isplitl [S4]; · iexists Z14; iexact S4
    isplitl [S5]; · iexists Z15; iexact S5
    isplitl [S6]; · iexists Z16; iexact S6
    isplitl [S7]; · iexists Z17; iexact S7
    isplitl [S8]; · iexists Z18; iexact S8
    isplitl [S9]; · iexists Z19; iexact S9
    isplitl [S10]; · iexists Z20; iexact S10
    iexists Z21; iexact S11
  iexact Hr

set_option backward.isDefEq.respectTransparency.types false in
/-- The run: every execution ends, the arrays hold what the proof data say, every counter is back at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold Pipeline.RDat.share; split <;> rfl)
    (howed := fun _ _ => rfl) (V := V m) (hmain := hmain m Variants.none) (hA := fun _ _ => rfl)
    (hin := fun c => phi_in m c) (hout := fun c => phi_out m c _)

end Cert.KernelIdeal.Hand
-- ==== Proof.FrmI.lean ====
module

public import proofs.«01_k».proof.Proof.DatI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs, its arguments end unchanged and every counter is back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (fun h => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩ :
      Pipeline.RDat.FramePost (cfgs 0) (fun c => rdat m c) (V m) _ → _) h.1, h.2⟩) (run_main m ρ)

/-- What the first result's array holds: every element lies in some block, which holds what its step leaves there. -/
def PV (c : Dev nD) (G : Vec F S2x100000x128 .f32) : Prop :=
  ∀ i : S2x100000x128.Idx, ∃ n : ℕ, n < 49 ∧ ∃ X : Vec F S2x2048x128 .f32, ∃ y : S2x2048x128.Idx, Res m c n X
    ∧ (i 0).val = (y 0).val ∧ (i 1).val = 2048 * n + (y 1).val ∧ (i 2).val = (y 2).val ∧ G i = X y

theorem geo7 (t : Fin cfg0.N) : win0_7.index t = ![0, t.val - 1, 0] := by
  revert t; decide +kernel
theorem flush7 (t : Fin cfg0.N) : (cfg0.win 7).flush t = true → 0 < t.val := by
  revert t; decide +kernel

theorem value_of (r : PUnit × MemSt nD τ sig (Elt F)) (h : Pipeline.RDat.FramePost (cfgs 0) (fun c => rdat m c) (V m) r) (c : Dev nD) :
    PV m c (r.2.mem ((c.tc : Thread nD τ).loc main_v7_0)) := by
  obtain ⟨after, hL, hA⟩ := Pipeline.RDat.FramePost.exists_exact h c
  intro i
  have e : r.2.mem ((c.tc : Thread nD τ).loc main_v7_0) = ((rdat m c).withAfter after).arrAt 7 cfg0.N := hA 7
  rw [e]
  refine Pipeline.Dat.arrAt_forall_of_covers ((rdat m c).withAfter after) 7 (fun i v => ∃ n : ℕ, n < 49 ∧ ∃ X : Vec F S2x2048x128 .f32, ∃ y : S2x2048x128.Idx, Res m c n X
    ∧ (i 0).val = (y 0).val ∧ (i 1).val = 2048 * n + (y 1).val ∧ (i 2).val = (y 2).val ∧ v = X y) (by decide +kernel) (fun t hf y => ?_) i
  obtain ⟨Y, -, hR⟩ := hL 7 t hf
  have ht := flush7 t hf
  have hlt : t.val < 50 := t.isLt
  refine ⟨t.val - 1, by omega, after 7 t, (cfg0.win 7).xinj (grid0.coords t) y, hR ht, ?_, ?_, ?_, rfl⟩
  · show win0_7.index t 0 * 2 + 1 * (y 0).val = (y 0).val; rw [geo7]; show 0 * 2 + 1 * (y 0).val = _; omega
  · show win0_7.index t 1 * 2048 + 1 * (y 1).val = 2048 * (t.val - 1) + (y 1).val; rw [geo7]; show (t.val - 1) * 2048 + 1 * (y 1).val = _; omega
  · show win0_7.index t 2 * 128 + 1 * (y 2).val = (y 2).val; rw [geo7]; show 0 * 128 + 1 * (y 2).val = _; omega

theorem flush8 (t : Fin cfg0.N) : (cfg0.win 8).flush t = true → t.val = 49 := by
  revert t; decide +kernel

/-- What the second result's array holds. -/
theorem value2_of (r : PUnit × MemSt nD τ sig (Elt F)) (h : Pipeline.RDat.FramePost (cfgs 0) (fun c => rdat m c) (V m) r) (c : Dev nD) :
    Out m c (r.2.mem ((c.tc : Thread nD τ).loc main_v7_1)) := by
  obtain ⟨after, hL, hA⟩ := Pipeline.RDat.FramePost.exists_exact h c
  have e : r.2.mem ((c.tc : Thread nD τ).loc main_v7_1) = ((rdat m c).withAfter after).arrAt 8 cfg0.N := hA 8
  rw [e]
  have key := Pipeline.Dat.arrAt_forall_of_covers ((rdat m c).withAfter after) 8 (fun i v => ∀ (b : Fin 2) (s : Fin 128) (k : Fin 120) (j : ℕ), i = ix3 b k s → j < 100000 →
    candA m c (ix3 b k s) = BitVec.ofNat 32 j → ∃ p q, PcIs m c j b s p ∧ TcIs m c j b s q ∧ v = FloatOps.addf p (FloatOps.mulf q (Scalar.ofBits .f32 0x3B800000#32))) (by decide +kernel) (fun t hf y => ?_)
  · exact fun b s k j hj hc => key (ix3 b k s) b s k j rfl hj hc
  · intro b s k j ei hj hc
    obtain ⟨Y, -, hR⟩ := hL 8 t hf
    have hO : Out m c (after 8 t) := hR (flush8 t hf)
    have ey : (cfg0.win 8).xinj (grid0.coords t) y = ix3 b k s := funext fun a => Fin.ext (by
      have q := congrArg Fin.val (congrFun ei a)
      match a with
      | ⟨0, _⟩ => exact (show (y 0).val = b.val by have q' : 0 * 2 + 1 * (y 0).val = b.val := q; omega)
      | ⟨1, _⟩ => exact (show (y 1).val = k.val by have q' : 0 * 120 + 1 * (y 1).val = k.val := q; omega)
      | ⟨2, _⟩ => exact (show (y 2).val = s.val by have q' : 0 * 128 + 1 * (y 2).val = s.val := q; omega))
    show ∃ p q, PcIs m c j b s p ∧ TcIs m c j b s q ∧ after 8 t ((cfg0.win 8).xinj (grid0.coords t) y) = _
    rw [ey]
    exact hO b s k j hj hc

/-- The run, with what the results' arrays hold. -/
theorem run_val : θ_run defs (onTc (τ := τ) (main (F := F))) ⟨m, fun _ => 0, ρ⟩ (fun r => ∀ c : Dev nD,
      PV m c (r.2.mem ((c.tc : Thread nD τ).loc main_v7_0))
      ∧ Out m c (r.2.mem ((c.tc : Thread nD τ).loc main_v7_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨value_of m _ h.1 c, value2_of m _ h.1 c, (fun h => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩ :
      Pipeline.RDat.FramePost (cfgs 0) (fun c => rdat m c) (V m) _ → _) h.1⟩) (run_main m ρ)

end Cert.KernelIdeal.Hand
-- ==== Proof.Spec.lean ====
/- The scores as one formula, and the facts about bytes and sums that both programs' values rest on. -/
module

public import Idealize.ShloMosaic.Lib.Tactic
public import Idealize.ShloMosaic.Lib.IdealHost
public import Idealize.ShloMosaic.PureOps.Ideal
public import Idealize.ShloMosaic.Lib.ValueIdx

@[expose] public section

noncomputable section

namespace Cert.Scores

open Idealize.ShloMosaic Idealize.ShloMosaic.ValueIdx

/-- The number a half of a byte stands for: the low half (`q = 0`) or the high half. -/
def half (w : BitVec 8) (q : ℕ) : EReal := if q = 0 then (((w &&& 15#8).toNat : ℝ) : EReal) else (((w >>> 4).toNat : ℝ) : EReal)

/-- The score of query `s` of batch `b` with vector `j`. -/
def spec (x : (⟨3, ![2, 128, 960]⟩ : Shape).Idx → EReal) (mu : (⟨1, ![960]⟩ : Shape).Idx → EReal) (cp : (⟨2, ![50000, 960]⟩ : Shape).Idx → BitVec 8)
    (bd st : (⟨1, ![100000]⟩ : Shape).Idx → EReal) (b : Fin 2) (j : Fin 100000) (s : Fin 128) : EReal :=
  ((∑ d : Fin 960, x (ix3 b s d) * mu (ix1 d)) + bd (ix1 j) * ∑ d : Fin 960, x (ix3 b s d))
    + st (ix1 j) * ∑ d : Fin 960, x (ix3 b s d) * half (cp (ix2 ⟨j.val / 2, by omega⟩ d)) (j.val % 2)

/-- The refined score of query `s` of batch `b` with vector `j`: the score, corrected by the residual codes. -/
def refspec (x : (⟨3, ![2, 128, 960]⟩ : Shape).Idx → EReal) (mu : (⟨1, ![960]⟩ : Shape).Idx → EReal) (cp : (⟨2, ![50000, 960]⟩ : Shape).Idx → BitVec 8)
    (bd st : (⟨1, ![100000]⟩ : Shape).Idx → EReal) (cr : (⟨2, ![100000, 960]⟩ : Shape).Idx → BitVec 8) (b : Fin 2) (j : Fin 100000) (s : Fin 128) : EReal :=
  spec x mu cp bd st b j s
    + st (ix1 j) * (((1 : ℝ) / 256 : ℝ) : EReal)
      * ((∑ d : Fin 960, x (ix3 b s d) * (((cr (ix2 j d)).toNat : ℝ) : EReal)) - ((128 : ℝ) : EReal) * ∑ d : Fin 960, x (ix3 b s d))

/-- A statement about bytes, from its 256 cases. -/
theorem byte_cases (P : BitVec 8 → Prop) (h : ∀ k : Fin 256, P (BitVec.ofFin k)) (w : BitVec 8) : P w := h w.toFin

theorem byte_lo (w : BitVec 8) : ((w.setWidth 32) &&& 15#32).toInt = ((w &&& 15#8).toNat : ℤ) :=
  byte_cases (fun w => ((w.setWidth 32) &&& 15#32).toInt = ((w &&& 15#8).toNat : ℤ)) (by decide) w
theorem byte_hi (w : BitVec 8) : ((w.setWidth 32).sshiftRight' 4#32).toInt = ((w >>> 4).toNat : ℤ) :=
  byte_cases (fun w => ((w.setWidth 32).sshiftRight' 4#32).toInt = ((w >>> 4).toNat : ℤ)) (by decide) w
theorem byte_hi16 (w : BitVec 8) : (w &&& 240#8).toNat = 16 * (w >>> 4).toNat :=
  byte_cases (fun w => (w &&& 240#8).toNat = 16 * (w >>> 4).toNat) (by decide) w

/-- The low half as the host reads it. -/
theorem half_lo_host (w : BitVec 8) : ((((w.setWidth 32) &&& 15#32).toInt : ℝ) : EReal) = half w 0 := by
  rw [byte_lo]; simp [half]
/-- The high half as the host reads it. -/
theorem half_hi_host (w : BitVec 8) : ((((w.setWidth 32).sshiftRight' 4#32).toInt : ℝ) : EReal) = half w 1 := by
  rw [byte_hi, half, if_neg (by decide), Int.cast_natCast]
/-- The high half as the kernel reads it: sixteen times too large. -/
theorem half_hi_kernel (w : BitVec 8) : (((w &&& 240#8).toNat : ℝ) : EReal) = ((16 : ℝ) : EReal) * half w 1 := by
  rw [byte_hi16]; simp [half]

/-- A sum of products with a finite factor, the factor taken out. -/
theorem sum_factor {ι : Type} (t : Finset ι) (c : ℝ) (hc : 0 ≤ c) (f g : ι → EReal) :
    ∑ d ∈ t, f d * ((c : EReal) * g d) = (c : EReal) * ∑ d ∈ t, f d * g d := by
  classical
  induction t using Finset.induction_on with
  | empty => simp
  | insert a t ha ih =>
    rw [Finset.sum_insert ha, Finset.sum_insert ha, ih,
      EReal.left_distrib_of_nonneg_of_ne_top (by exact_mod_cast hc) (EReal.coe_ne_top c), mul_left_comm]

/-- The f32 pattern `0x3D800000` is one sixteenth. -/
theorem ofBits_sixteenth : Ideal.ofBits .f32 0x3D800000#32 = (((1 : ℝ) / 16 : ℝ) : EReal) := by
  simp [Ideal.ofBits, Ideal.ieee, -EReal.coe_mul]; norm_num

/-- The step's sixteenth undoes the sixteen of the high halves. -/
theorem sixteenth_sum (a : EReal) (f : Fin 960 → EReal) (w : Fin 960 → BitVec 8) :
    (a * Ideal.ofBits .f32 0x3D800000#32) * ∑ d : Fin 960, f d * (((w d &&& 240#8).toNat : ℝ) : EReal) = a * ∑ d : Fin 960, f d * half (w d) 1 := by
  simp only [half_hi_kernel]
  rw [sum_factor _ 16 (by norm_num), ofBits_sixteenth, mul_assoc, ← mul_assoc (((1 : ℝ) / 16 : ℝ) : EReal), ← EReal.coe_mul]
  norm_num

theorem byte_wide (w : BitVec 8) : (w.setWidth 32).toInt = (w.toNat : ℤ) :=
  byte_cases (fun w => (w.setWidth 32).toInt = (w.toNat : ℤ)) (by decide) w
/-- A byte as the host reads it. -/
theorem byte_host (w : BitVec 8) : (((w.setWidth 32).toInt : ℝ) : EReal) = ((w.toNat : ℝ) : EReal) := by
  rw [byte_wide, Int.cast_natCast]

/-- The f32 pattern `0x43000000` is 128. -/
theorem ofBits_128 : Ideal.ofBits .f32 0x43000000#32 = ((128 : ℝ) : EReal) := by
  simp [Ideal.ofBits, Ideal.ieee, -EReal.coe_mul]; norm_num
/-- The f32 pattern `0x43800000` is 256. -/
theorem ofBits_256 : Ideal.ofBits .f32 0x43800000#32 = ((256 : ℝ) : EReal) := by
  simp [Ideal.ofBits, Ideal.ieee, -EReal.coe_mul]; norm_num
/-- The f32 pattern `0x3B800000` is one part in 256. -/
theorem ofBits_256th : Ideal.ofBits .f32 0x3B800000#32 = (((1 : ℝ) / 256 : ℝ) : EReal) := by
  simp [Ideal.ofBits, Ideal.ieee, -EReal.coe_mul]; norm_num

/-- Division by 256 is multiplication with one part in 256. -/
theorem div_256 (a : EReal) : Ideal.div a (Ideal.ofBits .f32 0x43800000#32) = a * (((1 : ℝ) / 256 : ℝ) : EReal) := by
  rw [ofBits_256]
  unfold Ideal.div
  rw [if_neg (by exact_mod_cast (by norm_num : (256 : ℝ) ≠ 0)), ← EReal.coe_inv, one_div]

end Cert.Scores

end
-- ==== Proof.ValI.lean ====
/- The value of the kernel over the extended reals. -/
module

public import proofs.«01_k».proof.Proof.FrmI
public import proofs.«01_k».proof.Proof.Spec
public import Idealize.ShloMosaic.PureOps.Ideal.Laws
public import Idealize.ShloMosaic.Lib.Pointwise.Contract
public import Idealize.ShloMosaic.Lib.Pointwise.Reduce
public import Idealize.ShloMosaic.Lib.ValueLayoutCasts
public import Idealize.ShloMosaic.Lib.Claim

@[expose] public section

set_option maxRecDepth 16384

noncomputable section

namespace Cert.KernelIdeal.Hand

open Cert.KernelIdeal Cert.KernelIdeal.Gen Cert.Scores
open Idealize.ShloMosaic hiding ix1 ix2 ix3 ix4
open Idealize.ShloMosaic.TcCoe Idealize.ShloMosaic.Tactic Idealize.ShloMosaic.ValueIdx

/-- A block of queries, transposed. -/
theorem pay5_at (x : Vec Ideal S1x960x128 .bf16) (s : Fin 128) (d : Fin 960) : k0_pay5 (F := Ideal) x (ix2 s d) = x (ix3 (0 : Fin 1) d s) := by
  unfold k0_pay5
  refine (transpose_ix2_apply _ transposes_S960x128_p1_0_S128x960 s d).trans ?_
  exact shapeCast_1ab_ab_apply x shapeCasts_S1x960x128_S960x128 d s

theorem pay6_at (x : Vec Ideal S1x960x128 .bf16) (s : Fin 128) (d : Fin 960) : k0_pay6 (F := Ideal) x (ix2 s d) = x (ix3 (0 : Fin 1) d s) := by
  unfold k0_pay6
  rw [shapeCast_self]
  exact pay5_at x s d

/-- The sums of the rows of a matrix, on every lane. -/
theorem rowsum_at (v : FVec Ideal S128x960 .f32) (s l : Fin 128) :
    shapeCast S128x128 (broadcastTo S128x128 (shapeCast S128x1 (shapeCast S128x1
      (multiReduction .add [1] S128 v 0x00000000#32 reduces_S128x960_S128 (.inl rfl) rfl) shapeCasts_S128_S128x1) shapeCasts_S128x1_S128x1)
      broadcasts_S128x1_S128x128) shapeCasts_S128x128_S128x128 (ix2 s l) = ∑ d : Fin 960, v (ix2 s d) := by
  rw [shapeCast_self, shapeCast_self]
  rw [broadcastTo_apply _ broadcasts_S128x1_S128x128 (ix2 s l) (ix2 s (0 : Fin 1)) (fun a => match a with | ⟨0, _⟩ => rfl | ⟨1, _⟩ => rfl)]
  rw [shapeCast_a_a1_apply _ shapeCasts_S128_S128x1 s 0]
  exact Ideal.reduceAdd_r2_a1 reduces_S128x960_S128 v (ix1 s)

theorem pay7_at (x : Vec Ideal S1x960x128 .bf16) (s l : Fin 128) : k0_pay7 (F := Ideal) x (ix2 s l) = ∑ d : Fin 960, x (ix3 (0 : Fin 1) d s) := by
  refine (rowsum_at _ s l).trans ?_
  exact Finset.sum_congr rfl fun d _ => pay5_at x s d

theorem pay8_at (x : Vec Ideal S1x960x128 .bf16) (mu : Vec Ideal S1x960 .f32) (s l : Fin 128) :
    k0_pay8 (F := Ideal) x mu (ix2 s l) = ∑ d : Fin 960, (x (ix3 (0 : Fin 1) d s) * mu (ix2 (0 : Fin 1) d) : EReal) := by
  refine (rowsum_at _ s l).trans ?_
  refine Finset.sum_congr rfl fun d _ => congrArg₂ (· * ·) (pay5_at x s d) ?_
  refine (broadcastTo_1b_ab_apply _ broadcasts_S1x960_S128x960 s d).trans ?_
  exact congrFun (shapeCast_self mu _) _

/-- The low halves beside the high halves. -/
theorem cat_at (w : Vec Ideal S960x128 .i8) (d : Fin 960) (q : Fin 2) (l : Fin 128) :
    concatenate S960x256 1 [⟨S960x128, uitofp (F := Ideal) .bf16 (andi w (broadcast S960x128 15#8))⟩, ⟨S960x128, uitofp (F := Ideal) .bf16 (andi w (broadcast S960x128 240#8))⟩]
      concatenates_S960x128_S960x128_S960x256_d1 (ix2 d (⟨128 * q.val + l.val, by omega⟩ : Fin 256))
      = (((w (ix2 d l) &&& (if q.val = 0 then 15#8 else 240#8)).toNat : ℝ) : EReal) := by
  rcases (show q.val = 0 ∨ q.val = 1 by omega) with h | h
  · rw [concatenate_pair_apply_left 1 _ _ concatenates_S960x128_S960x128_S960x256_d1 (ix2 d (⟨128 * q.val + l.val, by omega⟩ : Fin 256)) rfl (ix2 d l)
      (fun a => match a with | ⟨0, _⟩ => rfl | ⟨1, _⟩ => show l.val = 128 * q.val + l.val by omega), if_pos h]
    rfl
  · rw [concatenate_pair_apply_right 1 _ _ concatenates_S960x128_S960x128_S960x256_d1 (ix2 d (⟨128 * q.val + l.val, by omega⟩ : Fin 256)) rfl rfl (ix2 d l)
      (fun a => match a with | ⟨0, _⟩ => fun _ => rfl | ⟨1, _⟩ => fun h => absurd rfl h) (show l.val + 128 = 128 * q.val + l.val by omega), if_neg (by omega)]
    rfl

/-- A column of the products: its low or its high halves' sum. -/
theorem pay31_at (xq : Vec Ideal S256x960 .bf16) (w : Vec Ideal S960x128 .i8) (r : Fin 256) (q : Fin 2) (l : Fin 128) :
    k0_pay31 (F := Ideal) xq w (ix3 (0 : Fin 1) r (⟨128 * q.val + l.val, by omega⟩ : Fin 256))
      = ∑ d : Fin 960, (xq (ix2 r d) * (((w (ix2 d l) &&& (if q.val = 0 then 15#8 else 240#8)).toNat : ℝ) : EReal) : EReal) := by
  unfold k0_pay31
  refine (shapeCast_ab_1ab_apply _ shapeCasts_S256x256_S1x256x256 0 r _).trans ?_
  rw [shapeCast_self]
  refine (Ideal.matmul_constant_zero_apply (φ₁ := .bf16) (φ₂ := .bf16) dot_S256x960_S960x256_S256x256_1_0_0_1_n_n none xq _ (ix2 r (⟨128 * q.val + l.val, by omega⟩ : Fin 256))).trans ?_
  rw [DotDims.sum_contr₁ _ (a := 1) rfl (K := 960) rfl]
  refine Finset.sum_congr rfl fun d _ => congrArg₂ (· * ·) (congrArg xq (funext fun a => Fin.ext ?_))
    ((congrArg (concatenate S960x256 1 _ _) (funext fun a => Fin.ext ?_)).trans (cat_at w d q l))
  · match a with | ⟨0, _⟩ => rfl | ⟨1, _⟩ => rfl
  · match a with | ⟨0, _⟩ => rfl | ⟨1, _⟩ => rfl

/-- A column of the residual products. -/
theorem pay67_at (xq : Vec Ideal S256x960 .bf16) (w : Vec Ideal S960x256 .i8) (r l : Fin 256) :
    k0_pay67 (F := Ideal) xq w (ix3 (0 : Fin 1) r l) = ∑ d : Fin 960, (xq (ix2 r d) * (((w (ix2 d l)).toNat : ℝ) : EReal) : EReal) := by
  unfold k0_pay67
  refine (shapeCast_ab_1ab_apply _ shapeCasts_S256x256_S1x256x256 0 r l).trans ?_
  rw [shapeCast_self]
  refine (Ideal.matmul_constant_zero_apply (φ₁ := .bf16) (φ₂ := .bf16) dot_S256x960_S960x256_S256x256_1_0_0_1_n_n none xq _ (ix2 r l)).trans ?_
  rw [DotDims.sum_contr₁ _ (a := 1) rfl (K := 960) rfl]
  refine Finset.sum_congr rfl fun d _ => congrArg₂ (· * ·) (congrArg xq (funext fun a => Fin.ext ?_))
    (congrArg (fun z : BitVec 8 => ((z.toNat : ℝ) : EReal)) (congrArg w (funext fun a => Fin.ext ?_)))
  · match a with | ⟨0, _⟩ => rfl | ⟨1, _⟩ => rfl
  · match a with | ⟨0, _⟩ => rfl | ⟨1, _⟩ => rfl

variable (m : (ℓ : Loc nD τ sig) → Buf (Elt Ideal) ℓ)

/-- The five arguments the scores are formed from. -/
abbrev gX (c : Dev nD) : Vec Ideal S2x128x960 .bf16 := m ((c.tc : Thread nD τ).loc main_arg0)
abbrev gM (c : Dev nD) : Vec Ideal S960 .f32 := m ((c.tc : Thread nD τ).loc main_arg1)
abbrev gC (c : Dev nD) : Vec Ideal S50000x960 .i8 := m ((c.tc : Thread nD τ).loc main_arg2)
abbrev gB (c : Dev nD) : Vec Ideal S100000 .bf16 := m ((c.tc : Thread nD τ).loc main_arg3)
abbrev gS (c : Dev nD) : Vec Ideal S100000 .bf16 := m ((c.tc : Thread nD τ).loc main_arg4)
/-- The residual codes and the candidates' ids. -/
abbrev gR (c : Dev nD) : Vec Ideal S100000x960 .i8 := m ((c.tc : Thread nD τ).loc main_arg5)
abbrev gI (c : Dev nD) : Vec Ideal S2x128x120 .i32 := m ((c.tc : Thread nD τ).loc main_arg6)

theorem crA_at (c : Dev nD) (d : Fin 960) (j : Fin 100000) : crA m c (ix2 d j) = gR m c (ix2 j d) := by
  unfold crA
  entry_read
  exact transpose_ix2_apply _ _ d j
theorem candA_at (c : Dev nD) (b : Fin 2) (k : Fin 120) (s : Fin 128) : candA m c (ix3 b k s) = gI m c (ix3 b s k) := by
  unfold candA
  entry_read
  exact transpose_ix3_021_apply _ _ b k s

theorem xA_at (c : Dev nD) (b : Fin 2) (d : Fin 960) (s : Fin 128) : xA m c (ix3 b d s) = gX m c (ix3 b s d) := by
  unfold xA
  entry_read
  exact transpose_ix3_021_apply _ _ b d s
theorem muA_at (c : Dev nD) (d : Fin 960) : muA m c (ix2 (0 : Fin 1) d) = gM m c (ix1 d) := by
  unfold muA
  entry_read
  exact shapeCast_a_1a_apply _ _ 0 d
theorem cpA_at (c : Dev nD) (d : Fin 960) (k : Fin 50000) : cpA m c (ix2 d k) = gC m c (ix2 k d) := by
  unfold cpA
  entry_read
  exact transpose_ix2_apply _ _ d k
theorem bdA_at (c : Dev nD) (j : Fin 100000) : bdA m c (ix1 j) = gB m c (ix1 j) := by
  unfold bdA
  entry_read
  rfl
theorem stA_at (c : Dev nD) (j : Fin 100000) : stA m c (ix1 j) = gS m c (ix1 j) := by
  unfold stA
  entry_read
  rfl

theorem xb_at (x : Vec Ideal S2x960x128 .bf16) (b : Fin 2) (s : Fin 128) (d : Fin 960) (t : Fin 128) (ht : t.val = (rowOf b s).val % 128) :
    xb x (rb (rowOf b s)) (ix3 (0 : Fin 1) d t) = x (ix3 b d s) := by
  refine congrArg x (funext fun a => Fin.ext ?_)
  match a with
  | ⟨0, _⟩ => exact (show (128 * b.val + s.val) / 128 = b.val by omega)
  | ⟨1, _⟩ => rfl
  | ⟨2, _⟩ => exact ht.trans (show (128 * b.val + s.val) % 128 = s.val by omega)

theorem XQ_at (x : Vec Ideal S2x960x128 .bf16) (b : Fin 2) (s : Fin 128) (d : Fin 960) : XQf x (ix2 (rowOf b s) d) = x (ix3 b d s) :=
  (pay6_at _ _ _).trans (xb_at x b s d _ rfl)
theorem SQ_at (x : Vec Ideal S2x960x128 .bf16) (b : Fin 2) (s l : Fin 128) : SQf x (ix2 (rowOf b s) l) = ∑ d : Fin 960, x (ix3 b d s) :=
  (pay7_at _ _ _).trans (Finset.sum_congr rfl fun d _ => xb_at x b s d _ rfl)
theorem QM_at (x : Vec Ideal S2x960x128 .bf16) (mu : Vec Ideal S1x960 .f32) (b : Fin 2) (s l : Fin 128) :
    QMf x mu (ix2 (rowOf b s) l) = ∑ d : Fin 960, (x (ix3 b d s) * mu (ix2 (0 : Fin 1) d) : EReal) :=
  (pay8_at _ _ _ _).trans (Finset.sum_congr rfl fun d _ => congrArg₂ (· * ·) (xb_at x b s d _ rfl) rfl)

/-- The cell of the table a score is formed in. -/
theorem pix_eq (b : Fin 2) (s : Fin 128) (k : Fin 8) (l : Fin 128) (q : Fin 2) :
    pix (ix3 b (⟨256 * k.val + 2 * l.val + q.val, by omega⟩ : Fin 2048) s) = ix3 k (rowOf b s) (⟨128 * q.val + l.val, by omega⟩ : Fin 256) := by
  refine funext fun a => Fin.ext ?_
  match a with
  | ⟨0, _⟩ => exact (show (256 * k.val + 2 * l.val + q.val) / 256 = k.val by omega)
  | ⟨1, _⟩ => rfl
  | ⟨2, _⟩ => exact (show 128 * ((256 * k.val + 2 * l.val + q.val) % 2) + (256 * k.val + 2 * l.val + q.val) % 256 / 2 = 128 * q.val + l.val by omega)

/-- A cell of the table, updated. -/
theorem upd_at (Q U : Vec Ideal S256x128 .f32) (bd st : Vec Ideal S2048 .f32) (G : Vec Ideal S8x256x256 .f32) (k : Fin 8) (r : Fin 256) (q : Fin 2) (l : Fin 128) :
    upd Q U (AFFf bd st) G (ix3 k r (⟨128 * q.val + l.val, by omega⟩ : Fin 256))
      = score (Q (ix2 r l)) (U (ix2 r l)) (bd (jx q k l)) (stepq st q k l) (G (ix3 k r (⟨128 * q.val + l.val, by omega⟩ : Fin 256))) := by
  have e0 : rl (ix3 k r (⟨128 * q.val + l.val, by omega⟩ : Fin 256)) = ix2 r l := funext fun a => Fin.ext (match a with
    | ⟨0, _⟩ => rfl
    | ⟨1, _⟩ => show (128 * q.val + l.val) % 128 = l.val by omega)
  have e1 : aix 0 (ix3 k r (⟨128 * q.val + l.val, by omega⟩ : Fin 256)) = ix3 (⟨q.val, by omega⟩ : Fin 4) k l := funext fun a => Fin.ext (match a with
    | ⟨0, _⟩ => show 2 * 0 + (128 * q.val + l.val) / 128 = q.val by omega
    | ⟨1, _⟩ => rfl
    | ⟨2, _⟩ => show (128 * q.val + l.val) % 128 = l.val by omega)
  have e2 : aix 1 (ix3 k r (⟨128 * q.val + l.val, by omega⟩ : Fin 256)) = ix3 (⟨2 + q.val, by omega⟩ : Fin 4) k l := funext fun a => Fin.ext (match a with
    | ⟨0, _⟩ => show 2 * 1 + (128 * q.val + l.val) / 128 = 2 + q.val by omega
    | ⟨1, _⟩ => rfl
    | ⟨2, _⟩ => show (128 * q.val + l.val) % 128 = l.val by omega)
  unfold upd
  rw [e0, e1, e2, AFFf_bd, AFFf_st]

/-- A block written by the kernel holds the scores. -/
theorem res_val (c : Dev nD) (n : ℕ) (X : Vec Ideal S2x2048x128 .f32) (hX : Res m c n X) (b : Fin 2) (k : Fin 8) (l : Fin 128) (q : Fin 2) (s : Fin 128)
    (h : 2048 * n + (256 * k.val + 2 * l.val + q.val) < 100000) :
    X (ix3 b (⟨256 * k.val + 2 * l.val + q.val, by omega⟩ : Fin 2048) s)
      = spec (gX m c) (gM m c) (gC m c)
          (gB m c) (gS m c) b ⟨2048 * n + (256 * k.val + 2 * l.val + q.val), h⟩ s := by
  obtain ⟨Cp, bd, st, hC, hb, hs, rfl⟩ := hX
  have hbd : bd (jx q k l) = gB m c (ix1 ⟨2048 * n + (256 * k.val + 2 * l.val + q.val), h⟩) :=
    (hb ⟨256 * k.val + 2 * l.val + q.val, by omega⟩ h).trans (bdA_at m c _)
  have hst : st (jx q k l) = gS m c (ix1 ⟨2048 * n + (256 * k.val + 2 * l.val + q.val), h⟩) :=
    (hs ⟨256 * k.val + 2 * l.val + q.val, by omega⟩ h).trans (stA_at m c _)
  have hcp : ∀ d : Fin 960, wcol Cp k.val k.isLt (ix2 d l)
      = gC m c (ix2 (⟨(2048 * n + (256 * k.val + 2 * l.val + q.val)) / 2, by omega⟩ : Fin 50000) d) := fun d =>
    (hC d ⟨128 * k.val + l.val, by omega⟩ (show 1024 * n + (128 * k.val + l.val) < 50000 by omega)).trans ((cpA_at m c d _).trans
      (congrArg (fun z => gC m c (ix2 z d)) (Fin.ext (show 1024 * n + (128 * k.val + l.val) = (2048 * n + (256 * k.val + 2 * l.val + q.val)) / 2 by omega))))
  show upd _ _ _ _ (pix (ix3 b (⟨256 * k.val + 2 * l.val + q.val, by omega⟩ : Fin 2048) s)) = _
  rw [pix_eq, upd_at]
  have hP : PF (XQf (xA m c)) Cp (ix3 k (rowOf b s) (⟨128 * q.val + l.val, by omega⟩ : Fin 256))
      = ∑ d : Fin 960, (gX m c (ix3 b s d)
          * (((gC m c (ix2 (⟨(2048 * n + (256 * k.val + 2 * l.val + q.val)) / 2, by omega⟩ : Fin 50000) d)
              &&& (if q.val = 0 then 15#8 else 240#8)).toNat : ℝ) : EReal) : EReal) :=
    (pay31_at _ _ _ q l).trans (Finset.sum_congr rfl fun d _ => congrArg₂ (· * ·) ((XQ_at _ b s d).trans (xA_at m c b d s)) (congrArg (fun z : BitVec 8 => (((z &&& (if q.val = 0 then 15#8 else 240#8)).toNat : ℝ) : EReal)) (hcp d)))
  rw [SQ_at, QM_at, hP, hbd]
  have hq : (2048 * n + (256 * k.val + 2 * l.val + q.val)) % 2 = q.val := by omega
  refine congrArg₂ (· + ·) (congrArg₂ (· + ·) ?_ (congrArg (_ * ·) ?_)) ?_
  · exact Finset.sum_congr rfl fun d _ => congrArg₂ (· * ·) (xA_at m c b d s) (muA_at m c d)
  · exact Finset.sum_congr rfl fun d _ => xA_at m c b d s
  · show (stepq st q k l : EReal) * _ = _
    unfold stepq
    rcases (show q.val = 0 ∨ q.val = 1 by omega) with h0 | h0
    · rw [if_pos h0, if_pos h0, hst]
      refine congrArg _ (Finset.sum_congr rfl fun d _ => congrArg _ ?_)
      exact ((congrArg (half _) (hq.trans h0)).trans (if_pos rfl)).symm
    · rw [if_neg (by omega), if_neg (by omega), hst]
      refine (sixteenth_sum _ _ _).trans (congrArg _ (Finset.sum_congr rfl fun d _ => congrArg _ ?_))
      exact (congrArg (half _) (hq.trans h0)).symm

/-- The whole result holds the scores. -/
theorem pv_val (c : Dev nD) (G : Vec Ideal S2x100000x128 .f32) (hG : PV m c G) (b : Fin 2) (j : Fin 100000) (s : Fin 128) :
    G (ix3 b j s) = spec (gX m c) (gM m c) (gC m c)
          (gB m c) (gS m c) b j s := by
  obtain ⟨n, hn, X, y, hX, h0, h1, h2, e⟩ := hG (ix3 b j s)
  have hy : (y 1).val < 2048 := (y 1).isLt
  have h1' : j.val = 2048 * n + (y 1).val := h1
  have hj := j.isLt
  have ey : y = ix3 b (⟨256 * ((y 1).val / 256) + 2 * ((y 1).val % 256 / 2) + (y 1).val % 2, by omega⟩ : Fin 2048) s := funext fun a => Fin.ext (match a with
    | ⟨0, _⟩ => h0.symm
    | ⟨1, _⟩ => show (y 1).val = 256 * ((y 1).val / 256) + 2 * ((y 1).val % 256 / 2) + (y 1).val % 2 by omega
    | ⟨2, _⟩ => h2.symm)
  rw [e, ey]
  refine (res_val m c n X hX b ⟨(y 1).val / 256, by omega⟩ ⟨(y 1).val % 256 / 2, by omega⟩ ⟨(y 1).val % 2, Nat.mod_lt _ (by decide)⟩ s (by show 2048 * n + (256 * ((y 1).val / 256) + 2 * ((y 1).val % 256 / 2) + (y 1).val % 2) < 100000; omega)).trans ?_
  exact congrArg (fun z => spec _ _ _ _ _ b z s) (Fin.ext (show 2048 * n + (256 * ((y 1).val / 256) + 2 * ((y 1).val % 256 / 2) + (y 1).val % 2) = j.val by omega))

/-- The first result's value at any vector of a block. -/
theorem pc_val (c : Dev nD) (j : Fin 100000) (b : Fin 2) (s : Fin 128) (v : Ideal .f32) (h : PcIs m c j.val b s v) :
    v = spec (gX m c) (gM m c) (gC m c) (gB m c) (gS m c) b j s := by
  obtain ⟨X, hX, rfl⟩ := h
  have hj := j.isLt
  refine (congrArg X (congrArg (fun z : Fin 2048 => ix3 b z s) (Fin.ext (show j.val % 2048 = 256 * (j.val % 2048 / 256) + 2 * (j.val % 256 / 2) + j.val % 2 by omega)))).trans
    ((res_val m c (j.val / 2048) X hX b (⟨j.val % 2048 / 256, by omega⟩ : Fin 8) (⟨j.val % 256 / 2, by omega⟩ : Fin 128) (⟨j.val % 2, Nat.mod_lt _ (by decide)⟩ : Fin 2) s
      (by show 2048 * (j.val / 2048) + (256 * (j.val % 2048 / 256) + 2 * (j.val % 256 / 2) + j.val % 2) < 100000; omega)).trans ?_)
  exact congrArg (fun z => spec _ _ _ _ _ b z s) (Fin.ext (show 2048 * (j.val / 2048) + (256 * (j.val % 2048 / 256) + 2 * (j.val % 256 / 2) + j.val % 2) = j.val by omega))

/-- The residual term of a candidate. -/
theorem tc_val (c : Dev nD) (j : Fin 100000) (b : Fin 2) (s : Fin 128) (v : Ideal .f32) (h : TcIs m c j.val b s v) :
    v = (gS m c (ix1 j) * ((∑ d : Fin 960, gX m c (ix3 b s d) * (((gR m c (ix2 j d)).toNat : ℝ) : EReal)) - ((128 : ℝ) : EReal) * ∑ d : Fin 960, gX m c (ix3 b s d)) : EReal) := by
  obtain ⟨Cr, st, hC, hs, rfl⟩ := h
  have hj := j.isLt
  have ej : 2048 * (j.val / 2048) + j.val % 2048 = j.val := by omega
  have hst : st (ix1 (⟨j.val % 2048, Nat.mod_lt _ (by decide)⟩ : Fin 2048)) = gS m c (ix1 j) :=
    (hs ⟨j.val % 2048, Nat.mod_lt _ (by decide)⟩ (by show 2048 * (j.val / 2048) + j.val % 2048 < 100000; omega)).trans ((stA_at m c _).trans
      (congrArg (fun z => gS m c (ix1 z)) (Fin.ext ej)))
  have hcr : ∀ d : Fin 960, wcr Cr (j.val % 2048 / 256) (by omega) (ix2 d (⟨j.val % 256, Nat.mod_lt _ (by decide)⟩ : Fin 256)) = gR m c (ix2 j d) := fun d =>
    (congrArg Cr (congrArg (ix2 d) (Fin.ext (show 256 * (j.val % 2048 / 256) + j.val % 256 = j.val % 2048 by omega)))).trans
    ((hC d ⟨j.val % 2048, Nat.mod_lt _ (by decide)⟩ (by show 2048 * (j.val / 2048) + j.val % 2048 < 100000; omega)).trans ((crA_at m c d _).trans
      (congrArg (fun z => gR m c (ix2 z d)) (Fin.ext ej))))
  have hR : RF (XQf (xA m c)) Cr (ix3 (⟨j.val % 2048 / 256, by omega⟩ : Fin 8) (rowOf b s) (⟨j.val % 256, Nat.mod_lt _ (by decide)⟩ : Fin 256))
      = ∑ d : Fin 960, (gX m c (ix3 b s d) * (((gR m c (ix2 j d)).toNat : ℝ) : EReal) : EReal) :=
    (pay67_at _ _ (rowOf b s) _).trans (Finset.sum_congr rfl fun d _ => congrArg₂ (· * ·) ((XQ_at _ b s d).trans (xA_at m c b d s))
      (congrArg (fun z : BitVec 8 => ((z.toNat : ℝ) : EReal)) (hcr d)))
  have hQ : SQf (xA m c) (ix2 (rowOf b s) (⟨j.val % 128, Nat.mod_lt _ (by decide)⟩ : Fin 128)) = ∑ d : Fin 960, gX m c (ix3 b s d) :=
    (SQ_at _ b s _).trans (Finset.sum_congr rfl fun d _ => xA_at m c b d s)
  rw [hst, hR, hQ]
  show (_ * (_ - Ideal.ofBits .f32 0x43000000#32 * _) : EReal) = _
  rw [ofBits_128]

/-- The second result holds the refined scores wherever the candidate's id lies inside the array. -/
theorem out_val (c : Dev nD) (G : Vec Ideal S2x120x128 .f32) (hG : Out m c G) (b : Fin 2) (k : Fin 120) (s : Fin 128) (j : Fin 100000)
    (h : gI m c (ix3 b s k) = BitVec.ofNat 32 j.val) :
    G (ix3 b k s) = refspec (gX m c) (gM m c) (gC m c) (gB m c) (gS m c) (gR m c) b j s := by
  obtain ⟨p, t, hp, ht, e⟩ := hG b s k j.val j.isLt ((candA_at m c b k s).trans h)
  rw [e, pc_val m c j b s p hp, tc_val m c j b s t ht]
  show (_ + _ * Ideal.ofBits .f32 0x3B800000#32 : EReal) = _
  rw [ofBits_256th, mul_right_comm]
  rfl

end Cert.KernelIdeal.Hand

end
-- ==== Proof.RefR.lean ====
/- The run of the reference: a straight line of host operations. -/
module

public import proofs.«01_k».proof.Proof.Gen.ReferenceIdeal
public import Idealize.ShloMosaic.Lib.StableHlo.Run
public import Idealize.ShloMosaic.Lib.Claim
public import Idealize.ShloMosaic.PureOps.Ideal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ StableHlo.unary main_arg0 main_v0 ((extf .f32 · bitsLt_bf16_f32) : (⟨S2x128x960, .bf16⟩ : BufTy).Contents (Elt F) → (⟨S2x128x960, .f32⟩ : BufTy).Contents (Elt F)),
    StableHlo.nullary main_cst (constant S_ .f32 0x00000000#32),
    StableHlo.binary main_v0 main_cst main_v1 ((fun x v => Host.reduceAdd x v reducesTo_S2x128x960_S2x128_d2 h_S_) : (⟨S2x128x960, .f32⟩ : BufTy).Contents (Elt F) → (⟨S_, .f32⟩ : BufTy).Contents (Elt F) → (⟨S2x128, .f32⟩ : BufTy).Contents (Elt F)),
    StableHlo.binary main_v0 main_arg1 main_v2 ((fun l r => Host.dotGeneral dot_S2x128x960_S960_S2x128_2_0_01_n_n_n (some .fp32) l r) : (⟨S2x128x960, .f32⟩ : BufTy).Contents (Elt F) → (⟨S960, .f32⟩ : BufTy).Contents (Elt F) → (⟨S2x128, .f32⟩ : BufTy).Contents (Elt F)),
    StableHlo.unary main_arg2 main_v3 ((extui 32 · natLt_8_32) : (⟨S50000x960, .i8⟩ : BufTy).Contents (Elt F) → (⟨S50000x960, .i32⟩ : BufTy).Contents (Elt F)),
    StableHlo.nullary main_c (constantI S_ 32 15#32),
    StableHlo.unary main_c main_v4 (broadcastInDim S50000x960 ![] bcast_S_S50000x960 : (⟨S_, .i32⟩ : BufTy).Contents (Elt F) → (⟨S50000x960, .i32⟩ : BufTy).Contents (Elt F)),
    StableHlo.binary main_v3 main_v4 main_v5 (andi : (⟨S50000x960, .i32⟩ : BufTy).Contents (Elt F) → (⟨S50000x960, .i32⟩ : BufTy).Contents (Elt F) → (⟨S50000x960, .i32⟩ : BufTy).Contents (Elt F)),
    StableHlo.unary main_v5 main_v6 (sitofp .bf16 : (⟨S50000x960, .i32⟩ : BufTy).Contents (Elt F) → (⟨S50000x960, .bf16⟩ : BufTy).Contents (Elt F)),
    StableHlo.nullary main_c_0 (constantI S_ 32 4#32),
    StableHlo.unary main_c_0 main_v7 (broadcastInDim S50000x960 ![] bcast_S_S50000x960 : (⟨S_, .i32⟩ : BufTy).Contents (Elt F) → (⟨S50000x960, .i32⟩ : BufTy).Contents (Elt F)),
    StableHlo.binary main_v3 main_v7 main_v8 (Host.shrsi : (⟨S50000x960, .i32⟩ : BufTy).Contents (Elt F) → (⟨S50000x960, .i32⟩ : BufTy).Contents (Elt F) → (⟨S50000x960, .i32⟩ : BufTy).Contents (Elt F)),
    StableHlo.unary main_v8 main_v9 (sitofp .bf16 : (⟨S50000x960, .i32⟩ : BufTy).Contents (Elt F) → (⟨S50000x960, .bf16⟩ : BufTy).Contents (Elt F)),
    StableHlo.binary main_arg0 main_v6 main_v10 ((fun l r => Host.dotGeneral dot_S2x128x960_S50000x960_S2x128x50000_2_1_01_0_n_n none l r) : (⟨S2x128x960, .bf16⟩ : BufTy).Contents (Elt F) → (⟨S50000x960, .bf16⟩ : BufTy).Contents (Elt F) → (⟨S2x128x50000, .f32⟩ : BufTy).Contents (Elt F)),
    StableHlo.binary main_arg0 main_v9 main_v11 ((fun l r => Host.dotGeneral dot_S2x128x960_S50000x960_S2x128x50000_2_1_01_0_n_n none l r) : (⟨S2x128x960, .bf16⟩ : BufTy).Contents (Elt F) → (⟨S50000x960, .bf16⟩ : BufTy).Contents (Elt F) → (⟨S2x128x50000, .f32⟩ : BufTy).Contents (Elt F)),
    StableHlo.unary main_v10 main_v12 (broadcastInDim S2x128x50000x1 ![0, 1, 2] bcast_S2x128x50000_S2x128x50000x1_0_1_2 : (⟨S2x128x50000, .f32⟩ : BufTy).Contents (Elt F) → (⟨S2x128x50000x1, .f32⟩ : BufTy).Contents (Elt F)),
    StableHlo.unary main_v11 main_v13 (broadcastInDim S2x128x50000x1 ![0, 1, 2] bcast_S2x128x50000_S2x128x50000x1_0_1_2 : (⟨S2x128x50000, .f32⟩ : BufTy).Contents (Elt F) → (⟨S2x128x50000x1, .f32⟩ : BufTy).Contents (Elt F)),
    StableHlo.binary main_v12 main_v13 main_v14 ((fun a b => concatenate S2x128x50000x2 3 [⟨S2x128x50000x1, a⟩, ⟨S2x128x50000x1, b⟩] concatenates_S2x128x50000x1_S2x128x50000x1_S2x128x50000x2_d3) : (⟨S2x128x50000x1, .f32⟩ : BufTy).Contents (Elt F) → (⟨S2x128x50000x1, .f32⟩ : BufTy).Contents (Elt F) → (⟨S2x128x50000x2, .f32⟩ : BufTy).Contents (Elt F)),
    StableHlo.reshape main_v14 main_v15 (rfl : (.f32 : EltTy) = .f32) shapeCasts_S2x128x50000x2_S2x128x100000,
    StableHlo.unary main_arg4 main_v16 ((extf .f32 · bitsLt_bf16_f32) : (⟨S100000, .bf16⟩ : BufTy).Contents (Elt F) → (⟨S100000, .f32⟩ : BufTy).Contents (Elt F)),
    StableHlo.unary main_v2 main_v17 (broadcastInDim S2x128x1 ![0, 1] bcast_S2x128_S2x128x1_0_1 : (⟨S2x128, .f32⟩ : BufTy).Contents (Elt F) → (⟨S2x128x1, .f32⟩ : BufTy).Contents (Elt F)),
    StableHlo.unary main_arg3 main_v18 ((extf .f32 · bitsLt_bf16_f32) : (⟨S100000, .bf16⟩ : BufTy).Contents (Elt F) → (⟨S100000, .f32⟩ : BufTy).Contents (Elt F)),
    StableHlo.unary main_v1 main_v19 (broadcastInDim S2x128x1 ![0, 1] bcast_S2x128_S2x128x1_0_1 : (⟨S2x128, .f32⟩ : BufTy).Contents (Elt F) → (⟨S2x128x1, .f32⟩ : BufTy).Contents (Elt F)),
    StableHlo.unary main_v18 main_v20 (broadcastInDim S1x1x100000 ![2] bcast_S100000_S1x1x100000_2 : (⟨S100000, .f32⟩ : BufTy).Contents (Elt F) → (⟨S1x1x100000, .f32⟩ : BufTy).Contents (Elt F)),
    StableHlo.unary main_v20 main_v21 (broadcastInDim S2x128x100000 ![0, 1, 2] bcast_S1x1x100000_S2x128x100000_0_1_2 : (⟨S1x1x100000, .f32⟩ : BufTy).Contents (Elt F) → (⟨S2x128x100000, .f32⟩ : BufTy).Contents (Elt F)),
    StableHlo.unary main_v19 main_v22 (broadcastInDim S2x128x100000 ![0, 1, 2] bcast_S2x128x1_S2x128x100000_0_1_2 : (⟨S2x128x1, .f32⟩ : BufTy).Contents (Elt F) → (⟨S2x128x100000, .f32⟩ : BufTy).Contents (Elt F)),
    StableHlo.binary main_v21 main_v22 main_v23 (mulf : (⟨S2x128x100000, .f32⟩ : BufTy).Contents (Elt F) → (⟨S2x128x100000, .f32⟩ : BufTy).Contents (Elt F) → (⟨S2x128x100000, .f32⟩ : BufTy).Contents (Elt F)),
    StableHlo.unary main_v17 main_v24 (broadcastInDim S2x128x100000 ![0, 1, 2] bcast_S2x128x1_S2x128x100000_0_1_2 : (⟨S2x128x1, .f32⟩ : BufTy).Contents (Elt F) → (⟨S2x128x100000, .f32⟩ : BufTy).Contents (Elt F)),
    StableHlo.binary main_v24 main_v23 main_v25 (addf : (⟨S2x128x100000, .f32⟩ : BufTy).Contents (Elt F) → (⟨S2x128x100000, .f32⟩ : BufTy).Contents (Elt F) → (⟨S2x128x100000, .f32⟩ : BufTy).Contents (Elt F)),
    StableHlo.unary main_v16 main_v26 (broadcastInDim S1x1x100000 ![2] bcast_S100000_S1x1x100000_2 : (⟨S100000, .f32⟩ : BufTy).Contents (Elt F) → (⟨S1x1x100000, .f32⟩ : BufTy).Contents (Elt F)),
    StableHlo.unary main_v26 main_v27 (broadcastInDim S2x128x100000 ![0, 1, 2] bcast_S1x1x100000_S2x128x100000_0_1_2 : (⟨S1x1x100000, .f32⟩ : BufTy).Contents (Elt F) → (⟨S2x128x100000, .f32⟩ : BufTy).Contents (Elt F)),
    StableHlo.binary main_v27 main_v15 main_v28 (mulf : (⟨S2x128x100000, .f32⟩ : BufTy).Contents (Elt F) → (⟨S2x128x100000, .f32⟩ : BufTy).Contents (Elt F) → (⟨S2x128x100000, .f32⟩ : BufTy).Contents (Elt F)),
    StableHlo.binary main_v25 main_v28 main_v29 (addf : (⟨S2x128x100000, .f32⟩ : BufTy).Contents (Elt F) → (⟨S2x128x100000, .f32⟩ : BufTy).Contents (Elt F) → (⟨S2x128x100000, .f32⟩ : BufTy).Contents (Elt F)),
    StableHlo.TRef.nullary main_call0.c (constantI S_ 32 0#32),
    StableHlo.TRef.unary main_call0.c main_call0.v0 (broadcastInDim S2x128x120 ![] bcast_S_S2x128x120),
    StableHlo.TRef.binary (.of main_arg6) main_call0.v0 main_call0.v1 (cmpi .slt),
    StableHlo.TRef.nullary main_call0.c_0 (constantI S_ 32 100000#32),
    StableHlo.TRef.unary main_call0.c_0 main_call0.v2 (broadcastInDim S2x128x120 ![] bcast_S_S2x128x120),
    StableHlo.TRef.binary (.of main_arg6) main_call0.v2 main_call0.v3 addi,
    StableHlo.TRef.ternary main_call0.v1 main_call0.v3 (.of main_arg6) main_call0.v4 select,
    StableHlo.TRef.reshape main_call0.v4 main_call0.v5 (rfl : (.i32 : EltTy) = .i32) shapeCasts_S2x128x120_S2x128x120x1,
    StableHlo.TRef.nullary main_call0.c_1 (constantI S1 32 99999#32),
    StableHlo.TRef.nullary main_call0.c_2 (constantI S_ 32 0#32),
    StableHlo.TRef.unary main_call0.c_2 main_call0.v6 (broadcastInDim S2x128x120x1 ![] bcast_S_S2x128x120x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S2x128x120x1 ![0, 1, 2, 3] bcast_S1x1x1x1_S2x128x120x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2x128x120x1_S2x128x120_d3 h_S_),
    StableHlo.TRef.binary (.of main_v29) main_call0.v5 main_call0.v13 (fun x i => Host.gather gather_S2x128x100000_S2x128x120x1_S2x128x120_n_2_01_01_2_3_111 x i),
    StableHlo.TRef.nullary main_call0.cst (constant S_ .f32 0x7FC00000#32),
    StableHlo.TRef.unary main_call0.cst main_call0.v14 (broadcastInDim S2x128x120 ![] bcast_S_S2x128x120),
    StableHlo.TRef.ternary main_call0.v12 main_call0.v13 main_call0.v14 main_call0.v15 select,
    StableHlo.nullary main_c_1 (constantI S_ 32 0#32),
    StableHlo.unary main_c_1 main_v31 (broadcastInDim S2x128x120 ![] bcast_S_S2x128x120 : (⟨S_, .i32⟩ : BufTy).Contents (Elt F) → (⟨S2x128x120, .i32⟩ : BufTy).Contents (Elt F)),
    StableHlo.binary main_arg6 main_v31 main_v32 (cmpi .slt : (⟨S2x128x120, .i32⟩ : BufTy).Contents (Elt F) → (⟨S2x128x120, .i32⟩ : BufTy).Contents (Elt F) → (⟨S2x128x120, .i1⟩ : BufTy).Contents (Elt F)),
    StableHlo.nullary main_c_2 (constantI S_ 32 100000#32),
    StableHlo.unary main_c_2 main_v33 (broadcastInDim S2x128x120 ![] bcast_S_S2x128x120 : (⟨S_, .i32⟩ : BufTy).Contents (Elt F) → (⟨S2x128x120, .i32⟩ : BufTy).Contents (Elt F)),
    StableHlo.binary main_arg6 main_v33 main_v34 (addi : (⟨S2x128x120, .i32⟩ : BufTy).Contents (Elt F) → (⟨S2x128x120, .i32⟩ : BufTy).Contents (Elt F) → (⟨S2x128x120, .i32⟩ : BufTy).Contents (Elt F)),
    StableHlo.ternary main_v32 main_v34 main_arg6 main_v35 (select : (⟨S2x128x120, .i1⟩ : BufTy).Contents (Elt F) → (⟨S2x128x120, .i32⟩ : BufTy).Contents (Elt F) → (⟨S2x128x120, .i32⟩ : BufTy).Contents (Elt F) → (⟨S2x128x120, .i32⟩ : BufTy).Contents (Elt F)),
    StableHlo.unary main_v35 main_v36 (broadcastInDim S2x128x120x1 ![0, 1, 2] bcast_S2x128x120_S2x128x120x1_0_1_2 : (⟨S2x128x120, .i32⟩ : BufTy).Contents (Elt F) → (⟨S2x128x120x1, .i32⟩ : BufTy).Contents (Elt F)),
    StableHlo.binary main_arg5 main_v36 main_v37 ((fun x i => Host.gather gather_S100000x960_S2x128x120x1_S2x128x120x960_3_0_n_n_0_3_1960 x i) : (⟨S100000x960, .i8⟩ : BufTy).Contents (Elt F) → (⟨S2x128x120x1, .i32⟩ : BufTy).Contents (Elt F) → (⟨S2x128x120x960, .i8⟩ : BufTy).Contents (Elt F)),
    StableHlo.unary main_v37 main_v38 ((extui 32 · natLt_8_32) : (⟨S2x128x120x960, .i8⟩ : BufTy).Contents (Elt F) → (⟨S2x128x120x960, .i32⟩ : BufTy).Contents (Elt F)),
    StableHlo.unary main_v38 main_v39 (sitofp .bf16 : (⟨S2x128x120x960, .i32⟩ : BufTy).Contents (Elt F) → (⟨S2x128x120x960, .bf16⟩ : BufTy).Contents (Elt F)),
    StableHlo.binary main_arg0 main_v39 main_v40 ((fun l r => Host.dotGeneral dot_S2x128x960_S2x128x120x960_S2x128x120_2_3_n_2_01_01 none l r) : (⟨S2x128x960, .bf16⟩ : BufTy).Contents (Elt F) → (⟨S2x128x120x960, .bf16⟩ : BufTy).Contents (Elt F) → (⟨S2x128x120, .f32⟩ : BufTy).Contents (Elt F)),
    StableHlo.nullary main_c_3 (constantI S_ 32 0#32),
    StableHlo.unary main_c_3 main_v41 (broadcastInDim S2x128x120 ![] bcast_S_S2x128x120 : (⟨S_, .i32⟩ : BufTy).Contents (Elt F) → (⟨S2x128x120, .i32⟩ : BufTy).Contents (Elt F)),
    StableHlo.binary main_arg6 main_v41 main_v42 (cmpi .slt : (⟨S2x128x120, .i32⟩ : BufTy).Contents (Elt F) → (⟨S2x128x120, .i32⟩ : BufTy).Contents (Elt F) → (⟨S2x128x120, .i1⟩ : BufTy).Contents (Elt F)),
    StableHlo.nullary main_c_4 (constantI S_ 32 100000#32),
    StableHlo.unary main_c_4 main_v43 (broadcastInDim S2x128x120 ![] bcast_S_S2x128x120 : (⟨S_, .i32⟩ : BufTy).Contents (Elt F) → (⟨S2x128x120, .i32⟩ : BufTy).Contents (Elt F)),
    StableHlo.binary main_arg6 main_v43 main_v44 (addi : (⟨S2x128x120, .i32⟩ : BufTy).Contents (Elt F) → (⟨S2x128x120, .i32⟩ : BufTy).Contents (Elt F) → (⟨S2x128x120, .i32⟩ : BufTy).Contents (Elt F)),
    StableHlo.ternary main_v42 main_v44 main_arg6 main_v45 (select : (⟨S2x128x120, .i1⟩ : BufTy).Contents (Elt F) → (⟨S2x128x120, .i32⟩ : BufTy).Contents (Elt F) → (⟨S2x128x120, .i32⟩ : BufTy).Contents (Elt F) → (⟨S2x128x120, .i32⟩ : BufTy).Contents (Elt F)),
    StableHlo.unary main_v45 main_v46 (broadcastInDim S2x128x120x1 ![0, 1, 2] bcast_S2x128x120_S2x128x120x1_0_1_2 : (⟨S2x128x120, .i32⟩ : BufTy).Contents (Elt F) → (⟨S2x128x120x1, .i32⟩ : BufTy).Contents (Elt F)),
    StableHlo.binary main_v16 main_v46 main_v47 ((fun x i => Host.gather gather_S100000_S2x128x120x1_S2x128x120_n_0_n_n_0_3_1 x i) : (⟨S100000, .f32⟩ : BufTy).Contents (Elt F) → (⟨S2x128x120x1, .i32⟩ : BufTy).Contents (Elt F) → (⟨S2x128x120, .f32⟩ : BufTy).Contents (Elt F)),
    StableHlo.nullary main_cst_5 (constant S_ .f32 0x43800000#32),
    StableHlo.unary main_cst_5 main_v48 (broadcastInDim S2x128x120 ![] bcast_S_S2x128x120 : (⟨S_, .f32⟩ : BufTy).Contents (Elt F) → (⟨S2x128x120, .f32⟩ : BufTy).Contents (Elt F)),
    StableHlo.binary main_v47 main_v48 main_v49 (Host.divf : (⟨S2x128x120, .f32⟩ : BufTy).Contents (Elt F) → (⟨S2x128x120, .f32⟩ : BufTy).Contents (Elt F) → (⟨S2x128x120, .f32⟩ : BufTy).Contents (Elt F)),
    StableHlo.unary main_v1 main_v50 (broadcastInDim S2x128x1 ![0, 1] bcast_S2x128_S2x128x1_0_1 : (⟨S2x128, .f32⟩ : BufTy).Contents (Elt F) → (⟨S2x128x1, .f32⟩ : BufTy).Contents (Elt F)),
    StableHlo.nullary main_cst_6 (constant S_ .f32 0x43000000#32),
    StableHlo.unary main_cst_6 main_v51 (broadcastInDim S2x128x1 ![] bcast_S_S2x128x1 : (⟨S_, .f32⟩ : BufTy).Contents (Elt F) → (⟨S2x128x1, .f32⟩ : BufTy).Contents (Elt F)),
    StableHlo.binary main_v51 main_v50 main_v52 (mulf : (⟨S2x128x1, .f32⟩ : BufTy).Contents (Elt F) → (⟨S2x128x1, .f32⟩ : BufTy).Contents (Elt F) → (⟨S2x128x1, .f32⟩ : BufTy).Contents (Elt F)),
    StableHlo.unary main_v52 main_v53 (broadcastInDim S2x128x120 ![0, 1, 2] bcast_S2x128x1_S2x128x120_0_1_2 : (⟨S2x128x1, .f32⟩ : BufTy).Contents (Elt F) → (⟨S2x128x120, .f32⟩ : BufTy).Contents (Elt F)),
    StableHlo.binary main_v40 main_v53 main_v54 (subf : (⟨S2x128x120, .f32⟩ : BufTy).Contents (Elt F) → (⟨S2x128x120, .f32⟩ : BufTy).Contents (Elt F) → (⟨S2x128x120, .f32⟩ : BufTy).Contents (Elt F)),
    StableHlo.binary main_v49 main_v54 main_v55 (mulf : (⟨S2x128x120, .f32⟩ : BufTy).Contents (Elt F) → (⟨S2x128x120, .f32⟩ : BufTy).Contents (Elt F) → (⟨S2x128x120, .f32⟩ : BufTy).Contents (Elt F)),
    StableHlo.binary main_v30 main_v55 main_v56 (addf : (⟨S2x128x120, .f32⟩ : BufTy).Contents (Elt F) → (⟨S2x128x120, .f32⟩ : BufTy).Contents (Elt F) → (⟨S2x128x120, .f32⟩ : BufTy).Contents (Elt F)),
    StableHlo.unary main_v29 main_v57 ((transpose S2x100000x128 [0, 2, 1] · transposes_S2x128x100000_S2x100000x128_0_2_1) : (⟨S2x128x100000, .f32⟩ : BufTy).Contents (Elt F) → (⟨S2x100000x128, .f32⟩ : BufTy).Contents (Elt F)),
    StableHlo.unary main_v56 main_v58 ((transpose S2x120x128 [0, 2, 1] · transposes_S2x128x120_S2x120x128_0_2_1) : (⟨S2x128x120, .f32⟩ : BufTy).Contents (Elt F) → (⟨S2x120x128, .f32⟩ : BufTy).Contents (Elt F)) ]

set_option maxRecDepth 8192 in
set_option maxHeartbeats 8000000 in
theorem main_eq (c : Dev nD) : main (F := F) c = seq ops := by
  simp only [main, main_part0, main_part1, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., reshape_bufs_sub .., unary_bufs_sub .., unary_bufs_sub .., unary_bufs_sub .., unary_bufs_sub .., unary_bufs_sub .., unary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., binary_bufs_sub .., unary_bufs_sub .., unary_bufs_sub ..⟩

variable (m : (ℓ : Loc nD τ sig) → Buf (Elt F) ℓ) (ρ : Dev nD → PrngReg)

theorem run_after :
    θ_run defs (onTc (τ := τ) (main (F := F))) ⟨m, fun _ => 0, ρ⟩ (fun r => ∀ c : Dev nD, ∀ b : Ref sig .tc,
      r.2.mem ((c.tc : Thread nD τ).loc b) = after ops (fun b => m (c, b)) b) :=
  run_seq scopedRefs_eq scopedSems_eq defs main (fun _ => ops) main_eq (fun _ => ops_sub) m ρ

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results

end Cert.ReferenceIdeal.Hand

end
-- ==== Proof.RefV.lean ====
/- The value of the reference. -/
module

public import proofs.«01_k».proof.Proof.RefR
public import proofs.«01_k».proof.Proof.Spec
public import Idealize.ShloMosaic.PureOps.Ideal.Laws
public import Idealize.ShloMosaic.Lib.Pointwise.Contract
public import Idealize.ShloMosaic.Lib.Pointwise.Reduce
public import Idealize.ShloMosaic.Lib.Pipeline.Value
public import Idealize.ShloMosaic.Lib.ValueLayout
public import Idealize.ShloMosaic.Lib.ValueIdxCore
public import Idealize.ShloMosaic.Lib.ReduceAll
public import Idealize.ShloMosaic.Lib.WordCmp

@[expose] public section

set_option maxRecDepth 16384

noncomputable section

namespace Cert.ReferenceIdeal.Hand

open Cert.ReferenceIdeal Cert.ReferenceIdeal.Gen Cert.Scores
open Idealize.ShloMosaic hiding ix1 ix2 ix3 ix4
open Idealize.ShloMosaic.TcCoe Idealize.ShloMosaic.StableHlo Idealize.ShloMosaic.ValueIdx Idealize.SL.Sem

theorem sum_at (x : S2x128x960.Idx → EReal) (b : Fin 2) (s : Fin 128) :
    Host.reduceAdd (F := Ideal) (φ := .f32) x (constant S_ .f32 0x00000000#32) reducesTo_S2x128x960_S2x128_d2 h_S_ (ix2 b s) = ∑ d : Fin 960, x (ix3 b s d) := by
  show Ideal.hostReduceAdd reducesTo_S2x128x960_S2x128_d2 x (Ideal.ofBits .f32 0x00000000#32) (ix2 b s) = _
  rw [Ideal.hostReduceAdd_r3_a2, Ideal.ofBits_zero_f32, zero_add]
  rfl

theorem mu_at (x : S2x128x960.Idx → EReal) (mu : S960.Idx → EReal) (b : Fin 2) (s : Fin 128) :
    Host.dotGeneral (F := Ideal) (φ₁ := .f32) (φ₂ := .f32) dot_S2x128x960_S960_S2x128_2_0_01_n_n_n (some .fp32) x mu (ix2 b s)
      = ∑ d : Fin 960, x (ix3 b s d) * mu (ix1 d) := by
  refine (Ideal.dotGeneral_apply _ _ _ _ _ _).trans ?_
  rw [DotDims.sum_contr₁ _ (a := 2) rfl (K := 960) rfl]
  refine Finset.sum_congr rfl fun d _ => ?_
  refine congrArg₂ (· * ·) (congrArg x (funext fun a => Fin.ext ?_)) (congrArg mu (funext fun a => Fin.ext ?_))
  · match a with | ⟨0, _⟩ => rfl | ⟨1, _⟩ => rfl | ⟨2, _⟩ => rfl
  · match a with | ⟨0, _⟩ => rfl

theorem dot_at (x : S2x128x960.Idx → EReal) (w : S50000x960.Idx → EReal) (b : Fin 2) (s : Fin 128) (k : Fin 50000) :
    Host.dotGeneral (F := Ideal) (φ₁ := .bf16) (φ₂ := .bf16) dot_S2x128x960_S50000x960_S2x128x50000_2_1_01_0_n_n none x w (ix3 b s k)
      = ∑ d : Fin 960, x (ix3 b s d) * w (ix2 k d) := by
  refine (Ideal.dotGeneral_apply (φ₁ := .bf16) (φ₂ := .bf16) dot_S2x128x960_S50000x960_S2x128x50000_2_1_01_0_n_n none _ x w (ix3 b s k)).trans ?_
  rw [DotDims.sum_contr₁ _ (a := 2) rfl (K := 960) rfl]
  refine Finset.sum_congr rfl fun d _ => ?_
  refine congrArg₂ (· * ·) (congrArg x (funext fun a => Fin.ext ?_)) (congrArg w (funext fun a => Fin.ext ?_))
  · match a with | ⟨0, _⟩ => rfl | ⟨1, _⟩ => rfl | ⟨2, _⟩ => rfl
  · match a with | ⟨0, _⟩ => rfl | ⟨1, _⟩ => rfl

/-- The two tables of products interleaved. -/
theorem inter_at (u v : S2x128x50000.Idx → EReal) (b : Fin 2) (s : Fin 128) (j : Fin 100000) :
    shapeCast S2x128x100000 (concatenate S2x128x50000x2 3
        [⟨S2x128x50000x1, broadcastInDim S2x128x50000x1 ![0, 1, 2] bcast_S2x128x50000_S2x128x50000x1_0_1_2 u⟩,
         ⟨S2x128x50000x1, broadcastInDim S2x128x50000x1 ![0, 1, 2] bcast_S2x128x50000_S2x128x50000x1_0_1_2 v⟩]
        concatenates_S2x128x50000x1_S2x128x50000x1_S2x128x50000x2_d3) shapeCasts_S2x128x50000x2_S2x128x100000 (ix3 b s j)
      = if j.val % 2 = 0 then u (ix3 b s ⟨j.val / 2, by omega⟩) else v (ix3 b s ⟨j.val / 2, by omega⟩) := by
  rw [shapeCast_apply _ shapeCasts_S2x128x50000x2_S2x128x100000 (ix3 b s j) (ix4 b s (⟨j.val / 2, by omega⟩ : Fin 50000) (⟨j.val % 2, Nat.mod_lt _ (by decide)⟩ : Fin 2)) (by
    rw [Shape.rowMajor_val_four, Shape.rowMajor_val_three]
    show ((b.val * 128 + s.val) * 50000 + j.val / 2) * 2 + j.val % 2 = (b.val * 128 + s.val) * 100000 + j.val
    omega)]
  split
  · rename_i h
    rw [concatenate_pair_apply_left 3 _ _ concatenates_S2x128x50000x1_S2x128x50000x1_S2x128x50000x2_d3 (ix4 b s (⟨j.val / 2, by omega⟩ : Fin 50000) (⟨j.val % 2, Nat.mod_lt _ (by decide)⟩ : Fin 2)) rfl (ix4 b s (⟨j.val / 2, by omega⟩ : Fin 50000) (0 : Fin 1))
      (fun a => match a with | ⟨0, _⟩ => rfl | ⟨1, _⟩ => rfl | ⟨2, _⟩ => rfl | ⟨3, _⟩ => h.symm)]
    exact broadcastInDim_apply _ _ _ _ _ (fun a => match a with | ⟨0, _⟩ => rfl | ⟨1, _⟩ => rfl | ⟨2, _⟩ => rfl)
  · rename_i h
    rw [concatenate_pair_apply_right 3 _ _ concatenates_S2x128x50000x1_S2x128x50000x1_S2x128x50000x2_d3 (ix4 b s (⟨j.val / 2, by omega⟩ : Fin 50000) (⟨j.val % 2, Nat.mod_lt _ (by decide)⟩ : Fin 2)) rfl rfl (ix4 b s (⟨j.val / 2, by omega⟩ : Fin 50000) (0 : Fin 1))
      (fun a => match a with | ⟨0, _⟩ => fun _ => rfl | ⟨1, _⟩ => fun _ => rfl | ⟨2, _⟩ => fun _ => rfl | ⟨3, _⟩ => fun h => absurd rfl h)
      (show 0 + 1 = j.val % 2 by omega)]
    exact broadcastInDim_apply _ _ _ _ _ (fun a => match a with | ⟨0, _⟩ => rfl | ⟨1, _⟩ => rfl | ⟨2, _⟩ => rfl)

/-- A number per query, given to every vector. -/
theorem row_at (u : S2x128.Idx → EReal) (b : Fin 2) (s : Fin 128) (j : Fin 100000) :
    broadcastInDim S2x128x100000 ![0, 1, 2] bcast_S2x128x1_S2x128x100000_0_1_2 (broadcastInDim S2x128x1 ![0, 1] bcast_S2x128_S2x128x1_0_1 u) (ix3 b s j) = u (ix2 b s) := by
  rw [broadcastInDim_apply _ _ _ _ (ix3 b s (0 : Fin 1)) (fun a => match a with | ⟨0, _⟩ => rfl | ⟨1, _⟩ => rfl | ⟨2, _⟩ => rfl)]
  exact broadcastInDim_apply _ _ _ _ _ (fun a => match a with | ⟨0, _⟩ => rfl | ⟨1, _⟩ => rfl)

/-- A number per vector, given to every query. -/
theorem col_at (u : S100000.Idx → EReal) (b : Fin 2) (s : Fin 128) (j : Fin 100000) :
    broadcastInDim S2x128x100000 ![0, 1, 2] bcast_S1x1x100000_S2x128x100000_0_1_2 (broadcastInDim S1x1x100000 ![2] bcast_S100000_S1x1x100000_2 u) (ix3 b s j) = u (ix1 j) := by
  rw [broadcastInDim_apply _ _ _ _ (ix3 (0 : Fin 1) (0 : Fin 1) j) (fun a => match a with | ⟨0, _⟩ => rfl | ⟨1, _⟩ => rfl | ⟨2, _⟩ => rfl)]
  exact broadcastInDim_apply _ _ _ _ _ (fun a => match a with | ⟨0, _⟩ => rfl)

/-- The scores before they are transposed. -/
theorem scores_at (V : Valuation τ sig (Elt Ideal)) (b : Fin 2) (s : Fin 128) (j : Fin 100000) :
    after ops V (main_v29 : DevRef τ sig) (ix3 b s j)
      = spec (V (main_arg0 : DevRef τ sig)) (V (main_arg1 : DevRef τ sig)) (V (main_arg2 : DevRef τ sig)) (V (main_arg3 : DevRef τ sig)) (V (main_arg4 : DevRef τ sig)) b j s := by
  after_results
  refine congrArg₂ (· + ·) (congrArg₂ (· + ·) ?_ (congrArg₂ (· * ·) ?_ ?_)) (congrArg₂ (· * ·) ?_ ?_)
  · exact (row_at _ b s j).trans (mu_at _ _ b s)
  · exact col_at _ b s j
  · exact (row_at _ b s j).trans (sum_at _ b s)
  · exact col_at _ b s j
  · refine (inter_at _ _ b s j).trans ?_
    rcases Nat.mod_two_eq_zero_or_one j.val with h | h
    · rw [if_pos h, dot_at, h]
      exact Finset.sum_congr rfl fun d _ => congrArg _ (half_lo_host _)
    · rw [if_neg (by omega), dot_at, h]
      exact Finset.sum_congr rfl fun d _ => congrArg _ (half_hi_host _)

/-- The reference's result at an index. -/
theorem value_at (V : Valuation τ sig (Elt Ideal)) (b : Fin 2) (j : Fin 100000) (s : Fin 128) :
    after ops V (main_v57 : DevRef τ sig) (ix3 b j s)
      = spec (V (main_arg0 : DevRef τ sig)) (V (main_arg1 : DevRef τ sig)) (V (main_arg2 : DevRef τ sig)) (V (main_arg3 : DevRef τ sig)) (V (main_arg4 : DevRef τ sig)) b j s := by
  have h := scores_at V b s j
  revert h
  after_results
  intro h
  exact (transpose_ix3_021_apply _ transposes_S2x128x100000_S2x100000x128_0_2_1 b j s).trans h

/-! ## The candidates -/

/-- Ids counted from the end are wrapped. -/
abbrev wrap (ids : IVec S2x128x120 32) : IVec S2x128x120 32 :=
  select (cmpi .slt ids (broadcastInDim S2x128x120 ![] bcast_S_S2x128x120 (constantI S_ 32 0#32)))
    (addi ids (broadcastInDim S2x128x120 ![] bcast_S_S2x128x120 (constantI S_ 32 100000#32))) ids

/-- An id inside the array is kept. -/
theorem wrap_at (ids : IVec S2x128x120 32) (i : S2x128x120.Idx) (j : ℕ) (hj : j < 100000) (h : ids i = BitVec.ofNat 32 j) : wrap ids i = BitVec.ofNat 32 j := by
  show Scalar.select (IntOp.cmpi .slt (ids i) (BitVec.ofNat 32 0)) (IntOp.addi (ids i) 100000#32) (ids i) = _
  rw [h, WordCmp.cmpi_slt_ofNat (by omega) (by omega), decide_eq_false (Nat.not_lt_zero j)]
  rfl

theorem toInt_id (j : ℕ) (hj : j < 100000) : min (BitVec.ofNat 32 j).toInt.toNat 99999 = j := by
  rw [BitVec.toInt_eq_toNat_of_lt (by simp only [BitVec.toNat_ofNat]; omega), Int.toNat_natCast, BitVec.toNat_ofNat]
  omega

/-- The table's gather, at a candidate. -/
theorem gatherT_at (x : S2x128x100000.Idx → EReal) (idx : IVec S2x128x120x1 32) (b : Fin 2) (s : Fin 128) (k : Fin 120) (j : Fin 100000)
    (h : idx (ix4 b s k (0 : Fin 1)) = BitVec.ofNat 32 j.val) :
    Host.gather gather_S2x128x100000_S2x128x120x1_S2x128x120_n_2_01_01_2_3_111 x idx (ix3 b s k) = x (ix3 b s j) := by
  unfold Host.gather
  refine congrArg x (funext fun a => Fin.ext ?_)
  let D := gather_S2x128x100000_S2x128x120x1_S2x128x120_n_2_01_01_2_3_111
  show D.start (ix3 b s k) idx a + D.batchCoord (ix3 b s k) a + D.offCoord (ix3 b s k) a = _
  match a with
  | ⟨0, _⟩ =>
    show D.start (ix3 b s k) idx (0 : Fin 3) + D.batchCoord (ix3 b s k) (0 : Fin 3) + D.offCoord (ix3 b s k) (0 : Fin 3) = _
    rw [GatherDims.start_batching _ _ _ _ (show (0 : Fin 3) ∈ D.operandBatchingDims by decide),
      GatherDims.offCoord_eq_zero _ _ _ (fun h => ((GatherDims.mem_sKept _ _).mp h).2 (show (0 : Fin 3) ∈ D.operandBatchingDims by decide))]
    simp only [Nat.zero_add, Nat.add_zero]
    unfold GatherDims.batchCoord
    rw [dif_pos (show (0 : Fin 3) ∈ D.operandBatchingDims by decide)]
    rfl
  | ⟨1, _⟩ =>
    show D.start (ix3 b s k) idx (1 : Fin 3) + D.batchCoord (ix3 b s k) (1 : Fin 3) + D.offCoord (ix3 b s k) (1 : Fin 3) = _
    rw [GatherDims.start_batching _ _ _ _ (show (1 : Fin 3) ∈ D.operandBatchingDims by decide),
      GatherDims.offCoord_eq_zero _ _ _ (fun h => ((GatherDims.mem_sKept _ _).mp h).2 (show (1 : Fin 3) ∈ D.operandBatchingDims by decide))]
    simp only [Nat.zero_add, Nat.add_zero]
    unfold GatherDims.batchCoord
    rw [dif_pos (show (1 : Fin 3) ∈ D.operandBatchingDims by decide)]
    rfl
  | ⟨2, _⟩ =>
    show D.start (ix3 b s k) idx (2 : Fin 3) + D.batchCoord (ix3 b s k) (2 : Fin 3) + D.offCoord (ix3 b s k) (2 : Fin 3) = _
    rw [GatherDims.batchCoord_eq_zero _ _ _ (show (2 : Fin 3) ∉ D.operandBatchingDims by decide),
      GatherDims.offCoord_eq_zero _ _ _ (fun h => ((GatherDims.mem_sKept _ _).mp h).1 (show (2 : Fin 3) ∈ D.collapsedSliceDims by decide))]
    simp only [Nat.add_zero]
    unfold GatherDims.start
    rw [dif_pos (show (2 : Fin 3) ∈ D.startIndexMap by decide)]
    have hsi : D.siIdx (ix3 b s k) ⟨List.idxOf (2 : Fin 3) D.startIndexMap, List.idxOf_lt_length_iff.2 (show (2 : Fin 3) ∈ D.startIndexMap by decide)⟩ = ix4 b s k (0 : Fin 1) := by
      funext c; refine Fin.ext ?_
      match c with
      | ⟨0, _⟩ => rfl
      | ⟨1, _⟩ => rfl
      | ⟨2, _⟩ => rfl
      | ⟨3, _⟩ => rfl
    rw [hsi, h]
    exact toInt_id j.val j.isLt

/-- The codes' gather, at a candidate. -/
theorem gatherC_at (x : S100000x960.Idx → BitVec 8) (idx : IVec S2x128x120x1 32) (b : Fin 2) (s : Fin 128) (k : Fin 120) (d : Fin 960) (j : Fin 100000)
    (h : idx (ix4 b s k (0 : Fin 1)) = BitVec.ofNat 32 j.val) :
    Host.gather gather_S100000x960_S2x128x120x1_S2x128x120x960_3_0_n_n_0_3_1960 x idx (ix4 b s k d) = x (ix2 j d) := by
  unfold Host.gather
  refine congrArg x (funext fun a => Fin.ext ?_)
  let D := gather_S100000x960_S2x128x120x1_S2x128x120x960_3_0_n_n_0_3_1960
  show D.start (ix4 b s k d) idx a + D.batchCoord (ix4 b s k d) a + D.offCoord (ix4 b s k d) a = _
  match a with
  | ⟨0, _⟩ =>
    show D.start (ix4 b s k d) idx (0 : Fin 2) + D.batchCoord (ix4 b s k d) (0 : Fin 2) + D.offCoord (ix4 b s k d) (0 : Fin 2) = _
    rw [GatherDims.batchCoord_eq_zero _ _ _ (show (0 : Fin 2) ∉ D.operandBatchingDims by decide),
      GatherDims.offCoord_eq_zero _ _ _ (fun h => ((GatherDims.mem_sKept _ _).mp h).1 (show (0 : Fin 2) ∈ D.collapsedSliceDims by decide))]
    simp only [Nat.add_zero]
    unfold GatherDims.start
    rw [dif_pos (show (0 : Fin 2) ∈ D.startIndexMap by decide)]
    have hsi : D.siIdx (ix4 b s k d) ⟨List.idxOf (0 : Fin 2) D.startIndexMap, List.idxOf_lt_length_iff.2 (show (0 : Fin 2) ∈ D.startIndexMap by decide)⟩ = ix4 b s k (0 : Fin 1) := by
      funext c; refine Fin.ext ?_
      match c with
      | ⟨0, _⟩ => rfl
      | ⟨1, _⟩ => rfl
      | ⟨2, _⟩ => rfl
      | ⟨3, _⟩ => rfl
    rw [hsi, h]
    exact toInt_id j.val j.isLt
  | ⟨1, _⟩ =>
    show D.start (ix4 b s k d) idx (1 : Fin 2) + D.batchCoord (ix4 b s k d) (1 : Fin 2) + D.offCoord (ix4 b s k d) (1 : Fin 2) = _
    rw [GatherDims.batchCoord_eq_zero _ _ _ (show (1 : Fin 2) ∉ D.operandBatchingDims by decide)]
    unfold GatherDims.start GatherDims.offCoord
    rw [dif_neg (show (1 : Fin 2) ∉ D.startIndexMap by decide), dif_pos (show (1 : Fin 2) ∈ D.sKept by decide)]
    exact (Nat.zero_add _).trans rfl

/-- The steps' gather, at a candidate. -/
theorem gatherS_at (x : S100000.Idx → EReal) (idx : IVec S2x128x120x1 32) (b : Fin 2) (s : Fin 128) (k : Fin 120) (j : Fin 100000)
    (h : idx (ix4 b s k (0 : Fin 1)) = BitVec.ofNat 32 j.val) :
    Host.gather gather_S100000_S2x128x120x1_S2x128x120_n_0_n_n_0_3_1 x idx (ix3 b s k) = x (ix1 j) := by
  unfold Host.gather
  refine congrArg x (funext fun a => Fin.ext ?_)
  let D := gather_S100000_S2x128x120x1_S2x128x120_n_0_n_n_0_3_1
  show D.start (ix3 b s k) idx a + D.batchCoord (ix3 b s k) a + D.offCoord (ix3 b s k) a = _
  match a with
  | ⟨0, _⟩ =>
    show D.start (ix3 b s k) idx (0 : Fin 1) + D.batchCoord (ix3 b s k) (0 : Fin 1) + D.offCoord (ix3 b s k) (0 : Fin 1) = _
    rw [GatherDims.batchCoord_eq_zero _ _ _ (show (0 : Fin 1) ∉ D.operandBatchingDims by decide),
      GatherDims.offCoord_eq_zero _ _ _ (fun h => ((GatherDims.mem_sKept _ _).mp h).1 (show (0 : Fin 1) ∈ D.collapsedSliceDims by decide))]
    simp only [Nat.add_zero]
    unfold GatherDims.start
    rw [dif_pos (show (0 : Fin 1) ∈ D.startIndexMap by decide)]
    have hsi : D.siIdx (ix3 b s k) ⟨List.idxOf (0 : Fin 1) D.startIndexMap, List.idxOf_lt_length_iff.2 (show (0 : Fin 1) ∈ D.startIndexMap by decide)⟩ = ix4 b s k (0 : Fin 1) := by
      funext c; refine Fin.ext ?_
      match c with
      | ⟨0, _⟩ => rfl
      | ⟨1, _⟩ => rfl
      | ⟨2, _⟩ => rfl
      | ⟨3, _⟩ => rfl
    rw [hsi, h]
    exact toInt_id j.val j.isLt

/-- The products of the queries with their candidates' codes. -/
theorem rdot_at (x : S2x128x960.Idx → EReal) (w : S2x128x120x960.Idx → EReal) (b : Fin 2) (s : Fin 128) (k : Fin 120) :
    Host.dotGeneral (F := Ideal) (φ₁ := .bf16) (φ₂ := .bf16) dot_S2x128x960_S2x128x120x960_S2x128x120_2_3_n_2_01_01 none x w (ix3 b s k)
      = ∑ d : Fin 960, x (ix3 b s d) * w (ix4 b s k d) := by
  refine (Ideal.dotGeneral_apply (φ₁ := .bf16) (φ₂ := .bf16) dot_S2x128x960_S2x128x120x960_S2x128x120_2_3_n_2_01_01 none _ x w (ix3 b s k)).trans ?_
  rw [DotDims.sum_contr₁ _ (a := 2) rfl (K := 960) rfl]
  refine Finset.sum_congr rfl fun d _ => ?_
  refine congrArg₂ (· * ·) (congrArg x (funext fun a => Fin.ext ?_)) (congrArg w (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl | ⟨3, _⟩ => rfl

/-- A reduction by `and` along an axis of one element. -/
theorem and_at (p : IVec S2x128x120x1 1) (b : Fin 2) (s : Fin 128) (k : Fin 120) (h : p (ix4 b s k (0 : Fin 1)) = 1#1) :
    Host.reduce IntOp.andi p (constantI S_ 1 1#1) reducesTo_S2x128x120x1_S2x128x120_d3 h_S_ (ix3 b s k) = 1#1 := by
  rw [Host.reduce_eq_foldl]
  refine IntOp.foldl_andi_one p _ _ rfl fun n hn => ?_
  rw [List.mem_filter] at hn
  have hd : reducesTo_S2x128x120x1_S2x128x120_d3.drop n = ix3 b s k := of_decide_eq_true hn.2
  have e : n = ix4 b s k (0 : Fin 1) := funext fun a => Fin.ext (match a with
    | ⟨0, _⟩ => congrArg Fin.val (congrFun hd 0)
    | ⟨1, _⟩ => congrArg Fin.val (congrFun hd 1)
    | ⟨2, _⟩ => congrArg Fin.val (congrFun hd 2)
    | ⟨3, _⟩ => by show (n 3).val = 0; have q : (n 3).val < 1 := (n 3).isLt; omega)
  rw [e]; exact h

/-- The ids with an axis appended, by either route. -/
theorem ids_cast_at (v : IVec S2x128x120 32) (b : Fin 2) (s : Fin 128) (k : Fin 120) :
    shapeCast S2x128x120x1 v shapeCasts_S2x128x120_S2x128x120x1 (ix4 b s k (0 : Fin 1)) = v (ix3 b s k) :=
  shapeCast_apply _ shapeCasts_S2x128x120_S2x128x120x1 (ix4 b s k (0 : Fin 1)) (ix3 b s k) (by
    rw [Shape.rowMajor_val_four, Shape.rowMajor_val_three]
    show (b.val * 128 + s.val) * 120 + k.val = ((b.val * 128 + s.val) * 120 + k.val) * 1 + 0
    omega)
theorem ids_bcast_at (v : IVec S2x128x120 32) (b : Fin 2) (s : Fin 128) (k : Fin 120) :
    broadcastInDim S2x128x120x1 ![0, 1, 2] bcast_S2x128x120_S2x128x120x1_0_1_2 v (ix4 b s k (0 : Fin 1)) = v (ix3 b s k) :=
  broadcastInDim_apply _ _ _ _ _ (fun a => match a with | ⟨0, _⟩ => rfl | ⟨1, _⟩ => rfl | ⟨2, _⟩ => rfl)

/-- The scores taken at the candidates: an id inside the array is found. -/
theorem take_at (x : S2x128x100000.Idx → EReal) (nan : S2x128x120.Idx → EReal) (ids : IVec S2x128x120 32) (b : Fin 2) (s : Fin 128) (k : Fin 120) (j : Fin 100000)
    (h : ids (ix3 b s k) = BitVec.ofNat 32 j.val) :
    select (Host.reduce IntOp.andi (andi
        (cmpi .sge (shapeCast S2x128x120x1 (wrap ids) shapeCasts_S2x128x120_S2x128x120x1) (broadcastInDim S2x128x120x1 ![] bcast_S_S2x128x120x1 (constantI S_ 32 0#32)))
        (cmpi .sle (shapeCast S2x128x120x1 (wrap ids) shapeCasts_S2x128x120_S2x128x120x1)
          (broadcastInDim S2x128x120x1 ![0, 1, 2, 3] bcast_S1x1x1x1_S2x128x120x1_0_1_2_3 (broadcastInDim S1x1x1x1 ![3] bcast_S1_S1x1x1x1_3 (constantI S1 32 99999#32)))))
        (constantI S_ 1 1#1) reducesTo_S2x128x120x1_S2x128x120_d3 h_S_)
      (Host.gather gather_S2x128x100000_S2x128x120x1_S2x128x120_n_2_01_01_2_3_111 x (shapeCast S2x128x120x1 (wrap ids) shapeCasts_S2x128x120_S2x128x120x1)) nan (ix3 b s k)
      = x (ix3 b s j) := by
  have hj := j.isLt
  have hw : shapeCast S2x128x120x1 (wrap ids) shapeCasts_S2x128x120_S2x128x120x1 (ix4 b s k (0 : Fin 1)) = BitVec.ofNat 32 j.val :=
    (ids_cast_at _ b s k).trans (wrap_at ids _ j.val hj h)
  have hr := and_at (andi
        (cmpi .sge (shapeCast S2x128x120x1 (wrap ids) shapeCasts_S2x128x120_S2x128x120x1) (broadcastInDim S2x128x120x1 ![] bcast_S_S2x128x120x1 (constantI S_ 32 0#32)))
        (cmpi .sle (shapeCast S2x128x120x1 (wrap ids) shapeCasts_S2x128x120_S2x128x120x1)
          (broadcastInDim S2x128x120x1 ![0, 1, 2, 3] bcast_S1x1x1x1_S2x128x120x1_0_1_2_3 (broadcastInDim S1x1x1x1 ![3] bcast_S1_S1x1x1x1_3 (constantI S1 32 99999#32))))) b s k (by
    show IntOp.andi (IntOp.cmpi .sge (shapeCast S2x128x120x1 (wrap ids) shapeCasts_S2x128x120_S2x128x120x1 (ix4 b s k (0 : Fin 1))) (BitVec.ofNat 32 0))
      (IntOp.cmpi .sle (shapeCast S2x128x120x1 (wrap ids) shapeCasts_S2x128x120_S2x128x120x1 (ix4 b s k (0 : Fin 1))) (BitVec.ofNat 32 99999)) = 1#1
    rw [hw, WordCmp.cmpi_sge_ofNat (by omega) (by omega), WordCmp.cmpi_sle_ofNat (by omega) (by omega), decide_eq_true (Nat.zero_le _), decide_eq_true (by omega)]
    rfl)
  show Scalar.select (Host.reduce IntOp.andi _ _ _ _ (ix3 b s k)) _ _ = _
  rw [hr]
  exact gatherT_at x _ b s k j hw

/-- A number per query, given to every candidate. -/
theorem rowc_at (u : S2x128x1.Idx → EReal) (b : Fin 2) (s : Fin 128) (k : Fin 120) :
    broadcastInDim S2x128x120 ![0, 1, 2] bcast_S2x128x1_S2x128x120_0_1_2 u (ix3 b s k) = u (ix3 b s (0 : Fin 1)) :=
  broadcastInDim_apply _ _ _ _ _ (fun a => match a with | ⟨0, _⟩ => rfl | ⟨1, _⟩ => rfl | ⟨2, _⟩ => rfl)

/-- The candidates' scores, taken out of the scores. -/
theorem taken_eq (V : Valuation τ sig (Elt Ideal)) :
    (after ops V (main_v30 : DevRef τ sig) : S2x128x120.Idx → EReal) = select (Host.reduce IntOp.andi (andi
        (cmpi .sge (shapeCast S2x128x120x1 (wrap (V (main_arg6 : DevRef τ sig))) shapeCasts_S2x128x120_S2x128x120x1) (broadcastInDim S2x128x120x1 ![] bcast_S_S2x128x120x1 (constantI S_ 32 0#32)))
        (cmpi .sle (shapeCast S2x128x120x1 (wrap (V (main_arg6 : DevRef τ sig))) shapeCasts_S2x128x120_S2x128x120x1)
          (broadcastInDim S2x128x120x1 ![0, 1, 2, 3] bcast_S1x1x1x1_S2x128x120x1_0_1_2_3 (broadcastInDim S1x1x1x1 ![3] bcast_S1_S1x1x1x1_3 (constantI S1 32 99999#32)))))
        (constantI S_ 1 1#1) reducesTo_S2x128x120x1_S2x128x120_d3 h_S_)
      (Host.gather gather_S2x128x100000_S2x128x120x1_S2x128x120_n_2_01_01_2_3_111 (after ops V (main_v29 : DevRef τ sig) : S2x128x100000.Idx → EReal) (shapeCast S2x128x120x1 (wrap (V (main_arg6 : DevRef τ sig))) shapeCasts_S2x128x120_S2x128x120x1)) (broadcastInDim S2x128x120 ![] bcast_S_S2x128x120 (constant (F := Ideal) S_ .f32 0x7FC00000#32)) := by
  after_results_simp
  simp -implicitDefEqProofs only [TRef.ofBuf, TRef.toBuf, cast_cast, cast_eq]
  rfl

/-- The second result: the taken scores and the refinement added, turned over. -/
theorem out_eq (V : Valuation τ sig (Elt Ideal)) :
    (after ops V (main_v58 : DevRef τ sig) : S2x120x128.Idx → EReal) = transpose S2x120x128 [0, 2, 1] (addf (F := Ideal) (φ := .f32) (after ops V (main_v30 : DevRef τ sig)) (after ops V (main_v55 : DevRef τ sig)))
      transposes_S2x128x120_S2x120x128_0_2_1 := by
  after_results_simp

/-- The reference's second result at a candidate whose id lies inside the array. -/
theorem value2_at (V : Valuation τ sig (Elt Ideal)) (b : Fin 2) (k : Fin 120) (s : Fin 128) (j : Fin 100000)
    (h : (V (main_arg6 : DevRef τ sig) : IVec S2x128x120 32) (ix3 b s k) = BitVec.ofNat 32 j.val) :
    after ops V (main_v58 : DevRef τ sig) (ix3 b k s)
      = refspec (V (main_arg0 : DevRef τ sig)) (V (main_arg1 : DevRef τ sig)) (V (main_arg2 : DevRef τ sig)) (V (main_arg3 : DevRef τ sig)) (V (main_arg4 : DevRef τ sig)) (V (main_arg5 : DevRef τ sig)) b j s := by
  have e30 := (congrFun (taken_eq V) (ix3 b s k)).trans ((take_at _ _ (V (main_arg6 : DevRef τ sig)) b s k j h).trans (scores_at V b s j))
  have hb := (ids_bcast_at (wrap (V (main_arg6 : DevRef τ sig))) b s k).trans (wrap_at _ _ j.val j.isLt h)
  refine (congrFun (out_eq V) (ix3 b k s)).trans ((transpose_ix3_021_apply _ transposes_S2x128x120_S2x120x128_0_2_1 b k s).trans ?_)
  refine congrArg₂ (· + ·) e30 ?_
  after_results
  refine congrArg₂ (· * ·) ?_ (congrArg₂ (· - ·) ?_ ?_)
  · refine (div_256 _).trans (congrArg (· * _) ?_)
    exact gatherS_at _ _ b s k j hb
  · refine (rdot_at _ _ b s k).trans (Finset.sum_congr rfl fun d _ => congrArg _ ?_)
    exact (congrArg (fun z : BitVec 8 => (((z.setWidth 32).toInt : ℝ) : EReal)) (gatherC_at _ _ b s k d j hb)).trans (byte_host _)
  · refine (rowc_at _ b s k).trans (congrArg₂ (· * ·) ofBits_128 ?_)
    exact (broadcastInDim_apply _ _ _ _ (ix2 b s) (fun a => match a with | ⟨0, _⟩ => rfl | ⟨1, _⟩ => rfl)).trans (sum_at _ b s)

end Cert.ReferenceIdeal.Hand

end
-- ==== Proof.lean ====
/- The proof of the claims. -/
module

public import proofs.«01_k».proof.Defs
public import proofs.«01_k».proof.Proof.FrmK
public import proofs.«01_k».proof.Proof.ValI
public import proofs.«01_k».proof.Proof.RefV
public import Idealize.ShloMosaic.Lib.Quiescent
public import Idealize.ShloMosaic.Lib.WordCmp
public import Idealize.ShloMosaic.Lib.ReduceAll

@[expose] public section

noncomputable section

namespace Cert.Proof

open Idealize.ShloMosaic Idealize.SL.Sem

/-- An index from its coordinates. -/
theorem ix3_eta (i : (⟨3, ![2, 100000, 128]⟩ : Shape).Idx) : ValueIdx.ix3 (i 0 : Fin 2) (i 1 : Fin 100000) (i 2 : Fin 128) = i :=
  funext fun a => match a with | ⟨0, _⟩ => rfl | ⟨1, _⟩ => rfl | ⟨2, _⟩ => rfl

/-- An index of the second result from its coordinates. -/
theorem ix3_eta' (i : (⟨3, ![2, 120, 128]⟩ : Shape).Idx) : ValueIdx.ix3 (i 0 : Fin 2) (i 1 : Fin 120) (i 2 : Fin 128) = i :=
  funext fun a => match a with | ⟨0, _⟩ => rfl | ⟨1, _⟩ => rfl | ⟨2, _⟩ => rfl

/-- The mask's shape relations. -/
theorem facts_ids : Cert.On_ids_of_vectors.Facts := ⟨by decide, by decide, by decide⟩

/-- A word that is at least 0 and below 100000 is the word of a number below 100000. -/
theorem word_inside (x : BitVec 32) (h0 : IntOp.cmpi .sge x 0#32 = 1#1) (h1 : IntOp.cmpi .slt x 100000#32 = 1#1) : x.toNat < 100000 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (100000#32 : BitVec 32).toInt = 100000 := by decide
  rw [e0] at h0
  rw [e1] at h1
  rw [BitVec.toInt_eq_toNat_cond] at h0 h1
  have := x.isLt
  split at h0 <;> omega

/-- Where the mask of the second result is set, the candidate's id is inside the array. -/
theorem mask_inside [Cert.On_ids_of_vectors.Facts] (a0 : FVec Ideal Cert.On_ids_of_vectors.S2x128x960 .bf16) (a1 : FVec Ideal Cert.On_ids_of_vectors.S960 .f32)
    (a2 : IVec Cert.On_ids_of_vectors.S50000x960 8) (a3 a4 : FVec Ideal Cert.On_ids_of_vectors.S100000 .bf16) (a5 : IVec Cert.On_ids_of_vectors.S100000x960 8)
    (a6 : IVec Cert.On_ids_of_vectors.S2x128x120 32) (b : Fin 2) (k : Fin 120) (s : Fin 128)
    (h : (Cert.On_ids_of_vectors.fn (F := Ideal) a0 a1 a2 a3 a4 a5 a6).2 (ValueIdx.ix3 b k s) = 1#1) : (a6 (ValueIdx.ix3 b s k)).toNat < 100000 := by
  have h' : transpose Cert.On_ids_of_vectors.S2x120x128 [0, 2, 1] (andi
      (cmpi .sge a6 (broadcastInDim Cert.On_ids_of_vectors.S2x128x120 ![] Cert.On_ids_of_vectors.Facts.bcast_S_S2x128x120 (constantI Cert.On_ids_of_vectors.S_ 32 0#32)))
      (cmpi .slt a6 (broadcastInDim Cert.On_ids_of_vectors.S2x128x120 ![] Cert.On_ids_of_vectors.Facts.bcast_S_S2x128x120 (constantI Cert.On_ids_of_vectors.S_ 32 100000#32))))
      Cert.On_ids_of_vectors.Facts.transposes_S2x128x120_S2x120x128_0_2_1 (ValueIdx.ix3 b k s) = 1#1 := h
  have h'' : IntOp.andi (IntOp.cmpi .sge (a6 (ValueIdx.ix3 b s k)) 0#32) (IntOp.cmpi .slt (a6 (ValueIdx.ix3 b s k)) 100000#32) = 1#1 :=
    (ValueIdx.transpose_ix3_021_apply _ Cert.On_ids_of_vectors.Facts.transposes_S2x128x120_S2x120x128_0_2_1 b k s).symm.trans h'
  exact word_inside _ (IntOp.andi_eq_one.1 h'').1 (IntOp.andi_eq_one.1 h'').2

theorem frame_kernel : Cert.quiescent_Kernel := fun m g _ => Cert.Kernel.Hand.frame_main m g

theorem frame_ideal : Cert.quiescent_KernelIdeal := fun m g _ => Cert.KernelIdeal.Hand.frame_main m g

theorem frame_reference : Cert.quiescent_ReferenceIdeal := fun m g _ =>
  (θ_run _ _ _).mono (fun r h => ⟨fun c => ⟨(h c _).trans (Cert.ReferenceIdeal.Hand.arg0_eq _), (h c _).trans (Cert.ReferenceIdeal.Hand.arg1_eq _),
    (h c _).trans (Cert.ReferenceIdeal.Hand.arg2_eq _), (h c _).trans (Cert.ReferenceIdeal.Hand.arg3_eq _), (h c _).trans (Cert.ReferenceIdeal.Hand.arg4_eq _),
    (h c _).trans (Cert.ReferenceIdeal.Hand.arg5_eq _), (h c _).trans (Cert.ReferenceIdeal.Hand.arg6_eq _)⟩, sem_eq_zero_of_no_sems rfl r.2⟩)
    (Cert.ReferenceIdeal.Hand.run_after m g)

/-- The second result at an index: the refined score of the candidate's vector. -/
def refined (m : (ℓ : Loc Cert.KernelIdeal.nD Cert.KernelIdeal.τ Cert.KernelIdeal.sig) → Buf (Elt Ideal) ℓ) (c : Dev Cert.KernelIdeal.nD) (b : Fin 2) (k : Fin 120) (s : Fin 128) : EReal :=
  Cert.Scores.refspec (Cert.KernelIdeal.Hand.gX m c) (Cert.KernelIdeal.Hand.gM m c) (Cert.KernelIdeal.Hand.gC m c) (Cert.KernelIdeal.Hand.gB m c)
    (Cert.KernelIdeal.Hand.gS m c) (Cert.KernelIdeal.Hand.gR m c) b
    ⟨(Cert.KernelIdeal.Hand.gI m c (ValueIdx.ix3 b s k)).toNat % 100000, Nat.mod_lt _ (by omega)⟩ s

/-- A word of a number below 100000 is the word of its remainder. -/
theorem word_mod (x : BitVec 32) (h : x.toNat < 100000) : x = BitVec.ofNat 32 (x.toNat % 100000) := by
  rw [Nat.mod_eq_of_lt h, BitVec.ofNat_toNat, BitVec.setWidth_eq]

set_option maxHeartbeats 4000000 in
/-- The kernel and the reference compute the same scores, and the same refined scores of the candidates inside the array. -/
theorem algebraic [hOn : Cert.On_ids_of_vectors.Facts] : Cert.algebraic_KernelIdeal_ReferenceIdeal_on_ids_of_vectors := fun m g m' g' _ hargs =>
  ⟨fun c i => Cert.Scores.spec (Cert.KernelIdeal.Hand.gX m c) (Cert.KernelIdeal.Hand.gM m c) (Cert.KernelIdeal.Hand.gC m c) (Cert.KernelIdeal.Hand.gB m c)
      (Cert.KernelIdeal.Hand.gS m c) (i 0) (i 1) (i 2),
    fun c i => refined m c (i 0) (i 1) (i 2),
    (θ_run _ _ _).mono (fun r h c => ⟨fun i _ => (congrArg _ (ix3_eta i).symm).trans (Cert.KernelIdeal.Hand.pv_val m c _ (h c).1 (i 0) (i 1) (i 2)),
        fun i hi => (congrArg _ (ix3_eta' i).symm).trans (Cert.KernelIdeal.Hand.out_val m c _ (h c).2.1 (i 0) (i 1) (i 2) _
          (word_mod _ (mask_inside _ _ _ _ _ _ _ (i 0) (i 1) (i 2) ((congrArg _ (ix3_eta' i)).trans hi)))), (h c).2.2⟩)
      (Cert.KernelIdeal.Hand.run_val m g),
    (θ_run _ _ _).mono (fun r h c => by
      obtain ⟨a0, a1, a2, a3, a4, a5, a6⟩ := hargs c
      refine ⟨fun i _ => ?_, fun i hi => ?_, (h c _).trans (Cert.ReferenceIdeal.Hand.arg0_eq _), (h c _).trans (Cert.ReferenceIdeal.Hand.arg1_eq _),
        (h c _).trans (Cert.ReferenceIdeal.Hand.arg2_eq _), (h c _).trans (Cert.ReferenceIdeal.Hand.arg3_eq _), (h c _).trans (Cert.ReferenceIdeal.Hand.arg4_eq _),
        (h c _).trans (Cert.ReferenceIdeal.Hand.arg5_eq _), (h c _).trans (Cert.ReferenceIdeal.Hand.arg6_eq _)⟩
      · refine (congrFun (h c Cert.ReferenceIdeal.main_v57) i).trans ((congrArg _ (ix3_eta i).symm).trans ((Cert.ReferenceIdeal.Hand.value_at _ (i 0) (i 1) (i 2)).trans ?_))
        show Cert.Scores.spec (m' (c.tc.loc Cert.ReferenceIdeal.main_arg0)) (m' (c.tc.loc Cert.ReferenceIdeal.main_arg1)) (m' (c.tc.loc Cert.ReferenceIdeal.main_arg2))
          (m' (c.tc.loc Cert.ReferenceIdeal.main_arg3)) (m' (c.tc.loc Cert.ReferenceIdeal.main_arg4)) (i 0) (i 1) (i 2) = _
        rw [a0, a1, a2, a3, a4]
      · have hin := mask_inside _ _ _ _ _ _ _ (i 0) (i 1) (i 2) ((congrArg _ (ix3_eta' i)).trans hi)
        have hw := (congrFun a6 (ValueIdx.ix3 (i 0 : Fin 2) (i 2 : Fin 128) (i 1 : Fin 120))).trans (word_mod _ hin)
        refine (congrFun (h c Cert.ReferenceIdeal.main_v58) i).trans ((congrArg _ (ix3_eta' i).symm).trans ((Cert.ReferenceIdeal.Hand.value2_at _ (i 0) (i 1) (i 2)
          ⟨(Cert.KernelIdeal.Hand.gI m c (ValueIdx.ix3 (i 0 : Fin 2) (i 2 : Fin 128) (i 1 : Fin 120))).toNat % 100000, Nat.mod_lt _ (by omega)⟩ hw).trans ?_))
        show Cert.Scores.refspec (m' (c.tc.loc Cert.ReferenceIdeal.main_arg0)) (m' (c.tc.loc Cert.ReferenceIdeal.main_arg1)) (m' (c.tc.loc Cert.ReferenceIdeal.main_arg2))
          (m' (c.tc.loc Cert.ReferenceIdeal.main_arg3)) (m' (c.tc.loc Cert.ReferenceIdeal.main_arg4)) (m' (c.tc.loc Cert.ReferenceIdeal.main_arg5)) (i 0) _ (i 2) = _
        rw [a0, a1, a2, a3, a4, a5]
        rfl)
      (Cert.ReferenceIdeal.Hand.run_after m' g')⟩

theorem claim : Cert.Claim :=
  ⟨Cert.Kernel.Gen.facts, Cert.KernelIdeal.Gen.facts, Cert.ReferenceIdeal.Gen.facts, facts_ids, frame_kernel, frame_ideal, frame_reference, trivial,
    algebraic (hOn := facts_ids)⟩

end Cert.Proof

end
